-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v55)) (v2 : (c : Dev Cert.KernelIdeal.nD) → Buf (Elt Ideal) ((c.tc : Thread Cert.KernelIdeal.nD Cert.KernelIdeal.τ).loc Cert.KernelIdeal.main_v54_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_v54_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_v172) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v52_0)) (v1 : (c : Dev Cert.Kernel3Ideal.nD) → Buf (Elt Ideal) ((c.tc : Thread Cert.Kernel3Ideal.nD Cert.Kernel3Ideal.τ).loc Cert.Kernel3Ideal.main_v52_1)) (v2 : (c : Dev Cert.Kernel3Ideal.nD) → Buf (Elt Ideal) ((c.tc : Thread Cert.Kernel3Ideal.nD Cert.Kernel3Ideal.τ).loc Cert.Kernel3Ideal.main_v52_2)) (v3 : (c : Dev Cert.Kernel3Ideal.nD) → Buf (Elt Ideal) ((c.tc : Thread Cert.Kernel3Ideal.nD Cert.Kernel3Ideal.τ).loc Cert.Kernel3Ideal.main_v52_3)) (v4 : (c : Dev Cert.Kernel3Ideal.nD) → Buf (Elt Ideal) ((c.tc : Thread Cert.Kernel3Ideal.nD Cert.Kernel3Ideal.τ).loc Cert.Kernel3Ideal.main_v52_4)) (v5 : (c : Dev Cert.Kernel3Ideal.nD) → Buf (Elt Ideal) ((c.tc : Thread Cert.Kernel3Ideal.nD Cert.Kernel3Ideal.τ).loc Cert.Kernel3Ideal.main_v52_5)) (v6 : (c : Dev Cert.Kernel3Ideal.nD) → Buf (Elt Ideal) ((c.tc : Thread Cert.Kernel3Ideal.nD Cert.Kernel3Ideal.τ).loc Cert.Kernel3Ideal.main_v52_6)) (v7 : (c : Dev Cert.Kernel3Ideal.nD) → Buf (Elt Ideal) ((c.tc : Thread Cert.Kernel3Ideal.nD Cert.Kernel3Ideal.τ).loc Cert.Kernel3Ideal.main_v52_7)) (v8 : (c : Dev Cert.Kernel3Ideal.nD) → Buf (Elt Ideal) ((c.tc : Thread Cert.Kernel3Ideal.nD Cert.Kernel3Ideal.τ).loc Cert.Kernel3Ideal.main_v52_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v52_0) = v0 c
          ∧ r.2.mem ((c.tc : Thread Cert.Kernel3Ideal.nD Cert.Kernel3Ideal.τ).loc Cert.Kernel3Ideal.main_v52_1) = v1 c
          ∧ r.2.mem ((c.tc : Thread Cert.Kernel3Ideal.nD Cert.Kernel3Ideal.τ).loc Cert.Kernel3Ideal.main_v52_2) = v2 c
          ∧ r.2.mem ((c.tc : Thread Cert.Kernel3Ideal.nD Cert.Kernel3Ideal.τ).loc Cert.Kernel3Ideal.main_v52_3) = v3 c
          ∧ r.2.mem ((c.tc : Thread Cert.Kernel3Ideal.nD Cert.Kernel3Ideal.τ).loc Cert.Kernel3Ideal.main_v52_4) = v4 c
          ∧ r.2.mem ((c.tc : Thread Cert.Kernel3Ideal.nD Cert.Kernel3Ideal.τ).loc Cert.Kernel3Ideal.main_v52_5) = v5 c
          ∧ r.2.mem ((c.tc : Thread Cert.Kernel3Ideal.nD Cert.Kernel3Ideal.τ).loc Cert.Kernel3Ideal.main_v52_6) = v6 c
          ∧ r.2.mem ((c.tc : Thread Cert.Kernel3Ideal.nD Cert.Kernel3Ideal.τ).loc Cert.Kernel3Ideal.main_v52_7) = v7 c
          ∧ r.2.mem ((c.tc : Thread Cert.Kernel3Ideal.nD Cert.Kernel3Ideal.τ).loc Cert.Kernel3Ideal.main_v52_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v104) = v0 c
          ∧ r.2.mem ((c.tc : Thread Cert.Reference3Ideal.nD Cert.Reference3Ideal.τ).loc Cert.Reference3Ideal.main_v105) = v1 c
          ∧ r.2.mem ((c.tc : Thread Cert.Reference3Ideal.nD Cert.Reference3Ideal.τ).loc Cert.Reference3Ideal.main_v106) = v2 c
          ∧ r.2.mem ((c.tc : Thread Cert.Reference3Ideal.nD Cert.Reference3Ideal.τ).loc Cert.Reference3Ideal.main_v107) = v3 c
          ∧ r.2.mem ((c.tc : Thread Cert.Reference3Ideal.nD Cert.Reference3Ideal.τ).loc Cert.Reference3Ideal.main_v109) = v4 c
          ∧ r.2.mem ((c.tc : Thread Cert.Reference3Ideal.nD Cert.Reference3Ideal.τ).loc Cert.Reference3Ideal.main_v112) = v5 c
          ∧ r.2.mem ((c.tc : Thread Cert.Reference3Ideal.nD Cert.Reference3Ideal.τ).loc Cert.Reference3Ideal.main_v115) = v6 c
          ∧ r.2.mem ((c.tc : Thread Cert.Reference3Ideal.nD Cert.Reference3Ideal.τ).loc Cert.Reference3Ideal.main_v118) = v7 c
          ∧ r.2.mem ((c.tc : Thread Cert.Reference3Ideal.nD Cert.Reference3Ideal.τ).loc Cert.Reference3Ideal.main_v120) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v55_0)) (v1 : (c : Dev Cert.Kernel4Ideal.nD) → Buf (Elt Ideal) ((c.tc : Thread Cert.Kernel4Ideal.nD Cert.Kernel4Ideal.τ).loc Cert.Kernel4Ideal.main_v55_1)) (v2 : (c : Dev Cert.Kernel4Ideal.nD) → Buf (Elt Ideal) ((c.tc : Thread Cert.Kernel4Ideal.nD Cert.Kernel4Ideal.τ).loc Cert.Kernel4Ideal.main_v55_2)) (v3 : (c : Dev Cert.Kernel4Ideal.nD) → Buf (Elt Ideal) ((c.tc : Thread Cert.Kernel4Ideal.nD Cert.Kernel4Ideal.τ).loc Cert.Kernel4Ideal.main_v55_3)) (v4 : (c : Dev Cert.Kernel4Ideal.nD) → Buf (Elt Ideal) ((c.tc : Thread Cert.Kernel4Ideal.nD Cert.Kernel4Ideal.τ).loc Cert.Kernel4Ideal.main_v55_4)) (v5 : (c : Dev Cert.Kernel4Ideal.nD) → Buf (Elt Ideal) ((c.tc : Thread Cert.Kernel4Ideal.nD Cert.Kernel4Ideal.τ).loc Cert.Kernel4Ideal.main_v55_5)) (v6 : (c : Dev Cert.Kernel4Ideal.nD) → Buf (Elt Ideal) ((c.tc : Thread Cert.Kernel4Ideal.nD Cert.Kernel4Ideal.τ).loc Cert.Kernel4Ideal.main_v55_6)) (v7 : (c : Dev Cert.Kernel4Ideal.nD) → Buf (Elt Ideal) ((c.tc : Thread Cert.Kernel4Ideal.nD Cert.Kernel4Ideal.τ).loc Cert.Kernel4Ideal.main_v55_7)) (v8 : (c : Dev Cert.Kernel4Ideal.nD) → Buf (Elt Ideal) ((c.tc : Thread Cert.Kernel4Ideal.nD Cert.Kernel4Ideal.τ).loc Cert.Kernel4Ideal.main_v55_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v55_0) = v0 c
          ∧ r.2.mem ((c.tc : Thread Cert.Kernel4Ideal.nD Cert.Kernel4Ideal.τ).loc Cert.Kernel4Ideal.main_v55_1) = v1 c
          ∧ r.2.mem ((c.tc : Thread Cert.Kernel4Ideal.nD Cert.Kernel4Ideal.τ).loc Cert.Kernel4Ideal.main_v55_2) = v2 c
          ∧ r.2.mem ((c.tc : Thread Cert.Kernel4Ideal.nD Cert.Kernel4Ideal.τ).loc Cert.Kernel4Ideal.main_v55_3) = v3 c
          ∧ r.2.mem ((c.tc : Thread Cert.Kernel4Ideal.nD Cert.Kernel4Ideal.τ).loc Cert.Kernel4Ideal.main_v55_4) = v4 c
          ∧ r.2.mem ((c.tc : Thread Cert.Kernel4Ideal.nD Cert.Kernel4Ideal.τ).loc Cert.Kernel4Ideal.main_v55_5) = v5 c
          ∧ r.2.mem ((c.tc : Thread Cert.Kernel4Ideal.nD Cert.Kernel4Ideal.τ).loc Cert.Kernel4Ideal.main_v55_6) = v6 c
          ∧ r.2.mem ((c.tc : Thread Cert.Kernel4Ideal.nD Cert.Kernel4Ideal.τ).loc Cert.Kernel4Ideal.main_v55_7) = v7 c
          ∧ r.2.mem ((c.tc : Thread Cert.Kernel4Ideal.nD Cert.Kernel4Ideal.τ).loc Cert.Kernel4Ideal.main_v55_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v104) = v0 c
          ∧ r.2.mem ((c.tc : Thread Cert.Reference4Ideal.nD Cert.Reference4Ideal.τ).loc Cert.Reference4Ideal.main_v105) = v1 c
          ∧ r.2.mem ((c.tc : Thread Cert.Reference4Ideal.nD Cert.Reference4Ideal.τ).loc Cert.Reference4Ideal.main_v106) = v2 c
          ∧ r.2.mem ((c.tc : Thread Cert.Reference4Ideal.nD Cert.Reference4Ideal.τ).loc Cert.Reference4Ideal.main_v107) = v3 c
          ∧ r.2.mem ((c.tc : Thread Cert.Reference4Ideal.nD Cert.Reference4Ideal.τ).loc Cert.Reference4Ideal.main_v109) = v4 c
          ∧ r.2.mem ((c.tc : Thread Cert.Reference4Ideal.nD Cert.Reference4Ideal.τ).loc Cert.Reference4Ideal.main_v112) = v5 c
          ∧ r.2.mem ((c.tc : Thread Cert.Reference4Ideal.nD Cert.Reference4Ideal.τ).loc Cert.Reference4Ideal.main_v115) = v6 c
          ∧ r.2.mem ((c.tc : Thread Cert.Reference4Ideal.nD Cert.Reference4Ideal.τ).loc Cert.Reference4Ideal.main_v117) = v7 c
          ∧ r.2.mem ((c.tc : Thread Cert.Reference4Ideal.nD Cert.Reference4Ideal.τ).loc Cert.Reference4Ideal.main_v118) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4x2048x2048 : Shape := ⟨3, ![4, 2048, 2048]⟩
abbrev S1x2048x10832 : Shape := ⟨3, ![1, 2048, 10832]⟩
abbrev S1x1024 : Shape := ⟨2, ![1, 1024]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x2048x1x128 : Shape := ⟨4, ![1, 2048, 1, 128]⟩
abbrev S32 : Shape := ⟨1, ![32]⟩
abbrev S1x32 : Shape := ⟨2, ![1, 32]⟩
abbrev S2048x32 : Shape := ⟨2, ![2048, 32]⟩
abbrev S1x2048x1x64 : Shape := ⟨4, ![1, 2048, 1, 64]⟩
abbrev S1x2048x2x64 : Shape := ⟨4, ![1, 2048, 2, 64]⟩
abbrev S8192x2048 : Shape := ⟨2, ![8192, 2048]⟩
abbrev S2048x10832 : Shape := ⟨2, ![2048, 10832]⟩
abbrev S10832x2048 : Shape := ⟨2, ![10832, 2048]⟩
abbrev S1024 : Shape := ⟨1, ![1024]⟩
abbrev S8192x10240 : Shape := ⟨2, ![8192, 10240]⟩
abbrev S768x1024 : Shape := ⟨2, ![768, 1024]⟩
abbrev S10240x2048 : Shape := ⟨2, ![10240, 2048]⟩
abbrev S512x2048 : Shape := ⟨2, ![512, 2048]⟩
abbrev S256x2048 : Shape := ⟨2, ![256, 2048]⟩
abbrev S512x128 : Shape := ⟨2, ![512, 128]⟩
abbrev S512x1024 : Shape := ⟨2, ![512, 1024]⟩
abbrev S128x1024 : Shape := ⟨2, ![128, 1024]⟩
abbrev S1024x2048 : Shape := ⟨2, ![1024, 2048]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S128x256 : Shape := ⟨2, ![128, 256]⟩

abbrev nBuf : Space → Nat
  | .hbm => 66
  | .vmem => 27
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x10832, .f32⟩
  | .hbm, ⟨2, _⟩ => ⟨S1x1024, .f32⟩
  | .hbm, ⟨3, _⟩ => ⟨S1x1024, .f32⟩
  | .hbm, ⟨4, _⟩ => ⟨S2048, .i32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S2048, .f32⟩
  | .hbm, ⟨14, _⟩ => ⟨S2048x1, .f32⟩
  | .hbm, ⟨15, _⟩ => ⟨S1x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x128, .f32⟩
  | .hbm, ⟨22, _⟩ => ⟨S1x2048x1x128, .f32⟩
  | .hbm, ⟨23, _⟩ => ⟨S1x2048x1x128, .f32⟩
  | .hbm, ⟨24, _⟩ => ⟨S2048x128, .f32⟩
  | .hbm, ⟨25, _⟩ => ⟨S2048x64, .f32⟩
  | .hbm, ⟨26, _⟩ => ⟨S2048x128, .f32⟩
  | .hbm, ⟨27, _⟩ => ⟨S1x2048x1x128, .f32⟩
  | .hbm, ⟨28, _⟩ => ⟨S1x2048x1x128, .f32⟩
  | .hbm, ⟨29, _⟩ => ⟨S2048x128, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S2048, .f32⟩
  | .hbm, ⟨39, _⟩ => ⟨S2048x1, .f32⟩
  | .hbm, ⟨40, _⟩ => ⟨S1x32, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x32, .f32⟩
  | .hbm, ⟨46, _⟩ => ⟨S2048x64, .f32⟩
  | .hbm, ⟨47, _⟩ => ⟨S1x2048x1x64, .f32⟩
  | .hbm, ⟨48, _⟩ => ⟨S1x2048x2x64, .f32⟩
  | .hbm, ⟨49, _⟩ => ⟨S2048x128, .f32⟩
  | .hbm, ⟨50, _⟩ => ⟨S2048x32, .f32⟩
  | .hbm, ⟨51, _⟩ => ⟨S2048x64, .f32⟩
  | .hbm, ⟨52, _⟩ => ⟨S1x2048x1x64, .f32⟩
  | .hbm, ⟨53, _⟩ => ⟨S1x2048x2x64, .f32⟩
  | .hbm, ⟨54, _⟩ => ⟨S2048x128, .f32⟩
  | .hbm, ⟨55, _⟩ => ⟨S8192x2048, .bf16⟩
  | .hbm, ⟨56, _⟩ => ⟨S2048x10832, .f32⟩
  | .hbm, ⟨57, _⟩ => ⟨S10832x2048, .f32⟩
  | .hbm, ⟨58, _⟩ => ⟨S1024, .f32⟩
  | .hbm, ⟨59, _⟩ => ⟨S1x1024, .f32⟩
  | .hbm, ⟨60, _⟩ => ⟨S1024, .f32⟩
  | .hbm, ⟨61, _⟩ => ⟨S1x1024, .f32⟩
  | .hbm, ⟨62, _⟩ => ⟨S8192x10240, .bf16⟩
  | .hbm, ⟨63, _⟩ => ⟨S768x1024, .f32⟩
  | .hbm, ⟨64, _⟩ => ⟨S10240x2048, .bf16⟩
  | .hbm, ⟨65, _⟩ => ⟨S512x1024, .f32⟩
  | .local _ .vmem, ⟨0, _⟩ => ⟨S512x2048, .bf16⟩
  | .local _ .vmem, ⟨1, _⟩ => ⟨S512x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x1024, .f32⟩
  | .local _ .vmem, ⟨19, _⟩ => ⟨S1x1024, .f32⟩
  | .local _ .vmem, ⟨20, _⟩ => ⟨S512x1024, .bf16⟩
  | .local _ .vmem, ⟨21, _⟩ => ⟨S512x1024, .bf16⟩
  | .local _ .vmem, ⟨22, _⟩ => ⟨S128x1024, .f32⟩
  | .local _ .vmem, ⟨23, _⟩ => ⟨S128x1024, .f32⟩
  | .local _ .vmem, ⟨24, _⟩ => ⟨S1024x2048, .bf16⟩
  | .local _ .vmem, ⟨25, _⟩ => ⟨S1024x2048, .bf16⟩
  | .local _ .vmem, ⟨26, _⟩ => ⟨S512x1024, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54_0 : Ref sig .tc := ⟨.hbm, 62, rfl⟩
abbrev main_v54_1 : Ref sig .tc := ⟨.hbm, 63, rfl⟩
abbrev main_v54_2 : Ref sig .tc := ⟨.hbm, 64, rfl⟩
abbrev main_v55 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![10, 17], ![false, false]⟩

def k0_cond3 (i : grid0.Coords) : BitVec 1 :=
  let arg0 : BitVec 32 := BitVec.ofNat 32 (i 0).val
  let c0_i32_3 : BitVec 32 := 0#32
  let v8 : BitVec 1 := Scalar.cmpi .eq arg0 c0_i32_3
  let arg1 : BitVec 32 := BitVec.ofNat 32 (i 1).val
  let c0_i32_4 : BitVec 32 := 0#32
  let v9 : BitVec 1 := Scalar.cmpi .sgt arg1 c0_i32_4
  let v10 : BitVec 1 := Scalar.andi v8 v9
  let c16_i32 : BitVec 32 := 16#32
  let v11 : BitVec 1 := Scalar.cmpi .slt arg1 c16_i32
  let v12 : BitVec 1 := Scalar.andi v10 v11
  let v13 : BitVec 32 := Scalar.extui v12
  let c0_i32_5 : BitVec 32 := 0#32
  let v14 : BitVec 1 := Scalar.cmpi .ne v13 c0_i32_5
  v14

def k0_cond4 (i : grid0.Coords) : BitVec 1 :=
  let arg0 : BitVec 32 := BitVec.ofNat 32 (i 0).val
  let c0_i32_3 : BitVec 32 := 0#32
  let v8 : BitVec 1 := Scalar.cmpi .eq arg0 c0_i32_3
  let arg1 : BitVec 32 := BitVec.ofNat 32 (i 1).val
  let c16_i32_6 : BitVec 32 := 16#32
  let v15 : BitVec 1 := Scalar.cmpi .eq arg1 c16_i32_6
  let v16 : BitVec 1 := Scalar.andi v8 v15
  let v17 : BitVec 32 := Scalar.extui v16
  let c0_i32_7 : BitVec 32 := 0#32
  let v18 : BitVec 1 := Scalar.cmpi .ne v17 c0_i32_7
  v18

def k0_cond5 (i : grid0.Coords) : BitVec 1 :=
  let arg0 : BitVec 32 := BitVec.ofNat 32 (i 0).val
  let c1_i32_8 : BitVec 32 := 1#32
  let v19 : BitVec 1 := Scalar.cmpi .eq arg0 c1_i32_8
  let arg1 : BitVec 32 := BitVec.ofNat 32 (i 1).val
  let c0_i32_9 : BitVec 32 := 0#32
  let v20 : BitVec 1 := Scalar.cmpi .sgt arg1 c0_i32_9
  let v21 : BitVec 1 := Scalar.andi v19 v20
  let c16_i32_10 : BitVec 32 := 16#32
  let v22 : BitVec 1 := Scalar.cmpi .slt arg1 c16_i32_10
  let v23 : BitVec 1 := Scalar.andi v21 v22
  let v24 : BitVec 32 := Scalar.extui v23
  let c0_i32_11 : BitVec 32 := 0#32
  let v25 : BitVec 1 := Scalar.cmpi .ne v24 c0_i32_11
  v25

def k0_cond6 (i : grid0.Coords) : BitVec 1 :=
  let arg0 : BitVec 32 := BitVec.ofNat 32 (i 0).val
  let c1_i32_8 : BitVec 32 := 1#32
  let v19 : BitVec 1 := Scalar.cmpi .eq arg0 c1_i32_8
  let arg1 : BitVec 32 := BitVec.ofNat 32 (i 1).val
  let c16_i32_12 : BitVec 32 := 16#32
  let v26 : BitVec 1 := Scalar.cmpi .eq arg1 c16_i32_12
  let v27 : BitVec 1 := Scalar.andi v19 v26
  let v28 : BitVec 32 := Scalar.extui v27
  let c0_i32_13 : BitVec 32 := 0#32
  let v29 : BitVec 1 := Scalar.cmpi .ne v28 c0_i32_13
  v29

def k0_cond7 (i : grid0.Coords) : BitVec 1 :=
  let arg0 : BitVec 32 := BitVec.ofNat 32 (i 0).val
  let c3_i32 : BitVec 32 := 3#32
  let v30 : BitVec 1 := Scalar.cmpi .eq arg0 c3_i32
  let arg1 : BitVec 32 := BitVec.ofNat 32 (i 1).val
  let c0_i32_14 : BitVec 32 := 0#32
  let v31 : BitVec 1 := Scalar.cmpi .sgt arg1 c0_i32_14
  let v32 : BitVec 1 := Scalar.andi v30 v31
  let c16_i32_15 : BitVec 32 := 16#32
  let v33 : BitVec 1 := Scalar.cmpi .slt arg1 c16_i32_15
  let v34 : BitVec 1 := Scalar.andi v32 v33
  let v35 : BitVec 32 := Scalar.extui v34
  let c0_i32_16 : BitVec 32 := 0#32
  let v36 : BitVec 1 := Scalar.cmpi .ne v35 c0_i32_16
  v36

def k0_cond8 (i : grid0.Coords) : BitVec 1 :=
  let arg0 : BitVec 32 := BitVec.ofNat 32 (i 0).val
  let c3_i32 : BitVec 32 := 3#32
  let v30 : BitVec 1 := Scalar.cmpi .eq arg0 c3_i32
  let arg1 : BitVec 32 := BitVec.ofNat 32 (i 1).val
  let c16_i32_17 : BitVec 32 := 16#32
  let v37 : BitVec 1 := Scalar.cmpi .eq arg1 c16_i32_17
  let v38 : BitVec 1 := Scalar.andi v30 v37
  let v39 : BitVec 32 := Scalar.extui v38
  let c0_i32_18 : BitVec 32 := 0#32
  let v40 : BitVec 1 := Scalar.cmpi .ne v39 c0_i32_18
  v40

def k0_cond9 (i : grid0.Coords) : BitVec 1 :=
  let arg0 : BitVec 32 := BitVec.ofNat 32 (i 0).val
  let c5_i32 : BitVec 32 := 5#32
  let v41 : BitVec 1 := Scalar.cmpi .eq arg0 c5_i32
  let arg1 : BitVec 32 := BitVec.ofNat 32 (i 1).val
  let c0_i32_19 : BitVec 32 := 0#32
  let v42 : BitVec 1 := Scalar.cmpi .sgt arg1 c0_i32_19
  let v43 : BitVec 1 := Scalar.andi v41 v42
  let c16_i32_20 : BitVec 32 := 16#32
  let v44 : BitVec 1 := Scalar.cmpi .slt arg1 c16_i32_20
  let v45 : BitVec 1 := Scalar.andi v43 v44
  let v46 : BitVec 32 := Scalar.extui v45
  let c0_i32_21 : BitVec 32 := 0#32
  let v47 : BitVec 1 := Scalar.cmpi .ne v46 c0_i32_21
  v47

def k0_cond10 (i : grid0.Coords) : BitVec 1 :=
  let arg0 : BitVec 32 := BitVec.ofNat 32 (i 0).val
  let c5_i32 : BitVec 32 := 5#32
  let v41 : BitVec 1 := Scalar.cmpi .eq arg0 c5_i32
  let arg1 : BitVec 32 := BitVec.ofNat 32 (i 1).val
  let c16_i32_22 : BitVec 32 := 16#32
  let v48 : BitVec 1 := Scalar.cmpi .eq arg1 c16_i32_22
  let v49 : BitVec 1 := Scalar.andi v41 v48
  let v50 : BitVec 32 := Scalar.extui v49
  let c0_i32_23 : BitVec 32 := 0#32
  let v51 : BitVec 1 := Scalar.cmpi .ne v50 c0_i32_23
  v51

def k0_cond11 (i : grid0.Coords) : BitVec 1 :=
  let arg0 : BitVec 32 := BitVec.ofNat 32 (i 0).val
  let c6_i32 : BitVec 32 := 6#32
  let v52 : BitVec 1 := Scalar.cmpi .eq arg0 c6_i32
  let c7_i32 : BitVec 32 := 7#32
  let v53 : BitVec 1 := Scalar.cmpi .eq arg0 c7_i32
  let v56 : BitVec 1 := Scalar.ori v52 v53
  let c8_i32 : BitVec 32 := 8#32
  let v54 : BitVec 1 := Scalar.cmpi .eq arg0 c8_i32
  let v57 : BitVec 1 := Scalar.ori v56 v54
  let c9_i32 : BitVec 32 := 9#32
  let v55 : BitVec 1 := Scalar.cmpi .eq arg0 c9_i32
  let v58 : BitVec 1 := Scalar.ori v57 v55
  let arg1 : BitVec 32 := BitVec.ofNat 32 (i 1).val
  let c0_i32_24 : BitVec 32 := 0#32
  let v59 : BitVec 1 := Scalar.cmpi .sgt arg1 c0_i32_24
  let v60 : BitVec 1 := Scalar.andi v58 v59
  let c16_i32_25 : BitVec 32 := 16#32
  let v61 : BitVec 1 := Scalar.cmpi .slt arg1 c16_i32_25
  let v62 : BitVec 1 := Scalar.andi v60 v61
  let v63 : BitVec 32 := Scalar.extui v62
  let c0_i32_26 : BitVec 32 := 0#32
  let v64 : BitVec 1 := Scalar.cmpi .ne v63 c0_i32_26
  v64

def k0_cond12 (i : grid0.Coords) : BitVec 1 :=
  let arg0 : BitVec 32 := BitVec.ofNat 32 (i 0).val
  let c6_i32 : BitVec 32 := 6#32
  let v52 : BitVec 1 := Scalar.cmpi .eq arg0 c6_i32
  let c7_i32 : BitVec 32 := 7#32
  let v53 : BitVec 1 := Scalar.cmpi .eq arg0 c7_i32
  let v56 : BitVec 1 := Scalar.ori v52 v53
  let c8_i32 : BitVec 32 := 8#32
  let v54 : BitVec 1 := Scalar.cmpi .eq arg0 c8_i32
  let v57 : BitVec 1 := Scalar.ori v56 v54
  let c9_i32 : BitVec 32 := 9#32
  let v55 : BitVec 1 := Scalar.cmpi .eq arg0 c9_i32
  let v58 : BitVec 1 := Scalar.ori v57 v55
  let arg1 : BitVec 32 := BitVec.ofNat 32 (i 1).val
  let c16_i32_27 : BitVec 32 := 16#32
  let v65 : BitVec 1 := Scalar.cmpi .eq arg1 c16_i32_27
  let v66 : BitVec 1 := Scalar.andi v58 v65
  let v67 : BitVec 32 := Scalar.extui v66
  let c0_i32_28 : BitVec 32 := 0#32
  let v68 : BitVec 1 := Scalar.cmpi .ne v67 c0_i32_28
  v68

def k0_cond13 (i : grid0.Coords) : BitVec 1 :=
  let arg0 : BitVec 32 := BitVec.ofNat 32 (i 0).val
  let c2_i32 : BitVec 32 := 2#32
  let v69 : BitVec 1 := Scalar.cmpi .eq arg0 c2_i32
  let c4_i32 : BitVec 32 := 4#32
  let v70 : BitVec 1 := Scalar.cmpi .eq arg0 c4_i32
  let v71 : BitVec 1 := Scalar.ori v69 v70
  let arg1 : BitVec 32 := BitVec.ofNat 32 (i 1).val
  let c0_i32_29 : BitVec 32 := 0#32
  let v72 : BitVec 1 := Scalar.cmpi .sgt arg1 c0_i32_29
  let v73 : BitVec 1 := Scalar.andi v71 v72
  let c16_i32_30 : BitVec 32 := 16#32
  let v74 : BitVec 1 := Scalar.cmpi .slt arg1 c16_i32_30
  let v75 : BitVec 1 := Scalar.andi v73 v74
  let v76 : BitVec 32 := Scalar.extui v75
  let c0_i32_31 : BitVec 32 := 0#32
  let v77 : BitVec 1 := Scalar.cmpi .ne v76 c0_i32_31
  v77

def k0_cond14 (i : grid0.Coords) : BitVec 1 :=
  let arg0 : BitVec 32 := BitVec.ofNat 32 (i 0).val
  let c2_i32 : BitVec 32 := 2#32
  let v69 : BitVec 1 := Scalar.cmpi .eq arg0 c2_i32
  let c4_i32 : BitVec 32 := 4#32
  let v70 : BitVec 1 := Scalar.cmpi .eq arg0 c4_i32
  let v71 : BitVec 1 := Scalar.ori v69 v70
  let arg1 : BitVec 32 := BitVec.ofNat 32 (i 1).val
  let c16_i32_32 : BitVec 32 := 16#32
  let v78 : BitVec 1 := Scalar.cmpi .eq arg1 c16_i32_32
  let v79 : BitVec 1 := Scalar.andi v71 v78
  let v80 : BitVec 32 := Scalar.extui v79
  let c0_i32_33 : BitVec 32 := 0#32
  let v81 : BitVec 1 := Scalar.cmpi .ne v80 c0_i32_33
  v81

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c1_i32 : BitVec 32 := 1#32
  let v4 : BitVec 1 := Scalar.cmpi .ne arg0 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg1 c16_i32
  let c1_i32 : BitVec 32 := 1#32
  let v1 : BitVec 32 := Scalar.addi arg0 c1_i32
  let v2 : BitVec 32 := Scalar.select v0 v1 arg0
  let c9_i32 : BitVec 32 := 9#32
  let v3 : BitVec 32 := Scalar.minsi v2 c9_i32
  let c64_i32 : BitVec 32 := 64#32
  let v4 : BitVec 32 := Scalar.muli v3 c64_i32
  let c0_i32 : BitVec 32 := 0#32
  let v5 : BitVec 32 := Scalar.addi v4 c0_i32
  let c4_i32 : BitVec 32 := 4#32
  let v6 : BitVec 1 := Scalar.cmpi .sge v3 c4_i32
  let c32_i32 : BitVec 32 := 32#32
  let c0_i32_0 : BitVec 32 := 0#32
  let v7 : BitVec 32 := Scalar.select v6 c32_i32 c0_i32_0
  let v8 : BitVec 32 := Scalar.addi v5 v7
  let c6_i32 : BitVec 32 := 6#32
  let v9 : BitVec 1 := Scalar.cmpi .sge v3 c6_i32
  let c5_i32 : BitVec 32 := 5#32
  let c0_i32_1 : BitVec 32 := 0#32
  let v10 : BitVec 32 := Scalar.select v9 c5_i32 c0_i32_1
  let v11 : BitVec 32 := Scalar.addi v8 v10
  let c16_i32_2 : BitVec 32 := 16#32
  let v12 : BitVec 32 := Scalar.muli v11 c16_i32_2
  let c0_i32_3 : BitVec 32 := 0#32
  let c0_i32_4 : BitVec 32 := 0#32
  ![v12.toNat, c0_i32_3.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg1 c16_i32
  let c1_i32 : BitVec 32 := 1#32
  let v1 : BitVec 32 := Scalar.addi arg0 c1_i32
  let v2 : BitVec 32 := Scalar.select v0 v1 arg0
  let c9_i32 : BitVec 32 := 9#32
  let v3 : BitVec 32 := Scalar.minsi v2 c9_i32
  let c64_i32 : BitVec 32 := 64#32
  let v4 : BitVec 32 := Scalar.muli v3 c64_i32
  let c16_i32_0 : BitVec 32 := 16#32
  let v5 : BitVec 32 := Scalar.addi v4 c16_i32_0
  let c4_i32 : BitVec 32 := 4#32
  let v6 : BitVec 1 := Scalar.cmpi .sge v3 c4_i32
  let c32_i32 : BitVec 32 := 32#32
  let c0_i32 : BitVec 32 := 0#32
  let v7 : BitVec 32 := Scalar.select v6 c32_i32 c0_i32
  let v8 : BitVec 32 := Scalar.addi v5 v7
  let c6_i32 : BitVec 32 := 6#32
  let v9 : BitVec 1 := Scalar.cmpi .sge v3 c6_i32
  let c5_i32 : BitVec 32 := 5#32
  let c0_i32_1 : BitVec 32 := 0#32
  let v10 : BitVec 32 := Scalar.select v9 c5_i32 c0_i32_1
  let v11 : BitVec 32 := Scalar.addi v8 v10
  let c16_i32_2 : BitVec 32 := 16#32
  let v12 : BitVec 32 := Scalar.muli v11 c16_i32_2
  let c0_i32_3 : BitVec 32 := 0#32
  let c0_i32_4 : BitVec 32 := 0#32
  ![v12.toNat, c0_i32_3.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg1 c16_i32
  let c1_i32 : BitVec 32 := 1#32
  let v1 : BitVec 32 := Scalar.addi arg0 c1_i32
  let v2 : BitVec 32 := Scalar.select v0 v1 arg0
  let c9_i32 : BitVec 32 := 9#32
  let v3 : BitVec 32 := Scalar.minsi v2 c9_i32
  let c64_i32 : BitVec 32 := 64#32
  let v4 : BitVec 32 := Scalar.muli v3 c64_i32
  let c32_i32 : BitVec 32 := 32#32
  let v5 : BitVec 32 := Scalar.addi v4 c32_i32
  let c4_i32 : BitVec 32 := 4#32
  let v6 : BitVec 1 := Scalar.cmpi .sge v3 c4_i32
  let c32_i32_0 : BitVec 32 := 32#32
  let c0_i32 : BitVec 32 := 0#32
  let v7 : BitVec 32 := Scalar.select v6 c32_i32_0 c0_i32
  let v8 : BitVec 32 := Scalar.addi v5 v7
  let c6_i32 : BitVec 32 := 6#32
  let v9 : BitVec 1 := Scalar.cmpi .sge v3 c6_i32
  let c5_i32 : BitVec 32 := 5#32
  let c0_i32_1 : BitVec 32 := 0#32
  let v10 : BitVec 32 := Scalar.select v9 c5_i32 c0_i32_1
  let v11 : BitVec 32 := Scalar.addi v8 v10
  let c16_i32_2 : BitVec 32 := 16#32
  let v12 : BitVec 32 := Scalar.muli v11 c16_i32_2
  let c0_i32_3 : BitVec 32 := 0#32
  let c0_i32_4 : BitVec 32 := 0#32
  ![v12.toNat, c0_i32_3.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg1 c16_i32
  let c1_i32 : BitVec 32 := 1#32
  let v1 : BitVec 32 := Scalar.addi arg0 c1_i32
  let v2 : BitVec 32 := Scalar.select v0 v1 arg0
  let c9_i32 : BitVec 32 := 9#32
  let v3 : BitVec 32 := Scalar.minsi v2 c9_i32
  let c64_i32 : BitVec 32 := 64#32
  let v4 : BitVec 32 := Scalar.muli v3 c64_i32
  let c48_i32 : BitVec 32 := 48#32
  let v5 : BitVec 32 := Scalar.addi v4 c48_i32
  let c4_i32 : BitVec 32 := 4#32
  let v6 : BitVec 1 := Scalar.cmpi .sge v3 c4_i32
  let c32_i32 : BitVec 32 := 32#32
  let c0_i32 : BitVec 32 := 0#32
  let v7 : BitVec 32 := Scalar.select v6 c32_i32 c0_i32
  let v8 : BitVec 32 := Scalar.addi v5 v7
  let c6_i32 : BitVec 32 := 6#32
  let v9 : BitVec 1 := Scalar.cmpi .sge v3 c6_i32
  let c5_i32 : BitVec 32 := 5#32
  let c0_i32_0 : BitVec 32 := 0#32
  let v10 : BitVec 32 := Scalar.select v9 c5_i32 c0_i32_0
  let v11 : BitVec 32 := Scalar.addi v8 v10
  let c16_i32_1 : BitVec 32 := 16#32
  let v12 : BitVec 32 := Scalar.muli v11 c16_i32_1
  let c0_i32_2 : BitVec 32 := 0#32
  let c0_i32_3 : BitVec 32 := 0#32
  ![v12.toNat, c0_i32_2.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 32 := Scalar.subi arg1 c1_i32_0
  let c0_i32 : BitVec 32 := 0#32
  let v2 : BitVec 32 := Scalar.maxsi v1 c0_i32
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c1_i32_7 : BitVec 32 := 1#32
  let v20 : BitVec 1 := Scalar.cmpi .sgt arg0 c1_i32_7
  let v21 : BitVec 32 := Scalar.extui v20
  let c4_i32_8 : BitVec 32 := 4#32
  let v22 : BitVec 32 := Scalar.addi c4_i32_8 v21
  let v23 : BitVec 32 := Scalar.select v0 v19 v22
  let c0_i32_9 : BitVec 32 := 0#32
  let c0_i32_10 : BitVec 32 := 0#32
  ![v23.toNat, c0_i32_9.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S4x2048x2048 : Shape := ⟨3, ![4, 2048, 2048]⟩
abbrev S1x2048x10832 : Shape := ⟨3, ![1, 2048, 10832]⟩
abbrev S1x1024 : Shape := ⟨2, ![1, 1024]⟩
abbrev S2048 : Shape := ⟨1, ![2048]⟩
abbrev S2048x10832 : Shape := ⟨2, ![2048, 10832]⟩
abbrev S4x2048x10832 : Shape := ⟨3, ![4, 2048, 10832]⟩
abbrev S4x2048x1024 : Shape := ⟨3, ![4, 2048, 1024]⟩
abbrev S4x2048x256 : Shape := ⟨3, ![4, 2048, 256]⟩
abbrev S4x2048x64 : Shape := ⟨3, ![4, 2048, 64]⟩
abbrev S4x2048x16 : Shape := ⟨3, ![4, 2048, 16]⟩
abbrev S4x2048x8x128 : Shape := ⟨4, ![4, 2048, 8, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S4x2048x8x64 : Shape := ⟨4, ![4, 2048, 8, 64]⟩
abbrev S1x2048x1x64 : Shape := ⟨4, ![1, 2048, 1, 64]⟩
abbrev S4x2048x16x64 : Shape := ⟨4, ![4, 2048, 16, 64]⟩
abbrev S32 : Shape := ⟨1, ![32]⟩
abbrev S1x32 : Shape := ⟨2, ![1, 32]⟩
abbrev S2048x32 : Shape := ⟨2, ![2048, 32]⟩
abbrev S2048x1x32 : Shape := ⟨3, ![2048, 1, 32]⟩
abbrev S4x2048x16x32 : Shape := ⟨4, ![4, 2048, 16, 32]⟩
abbrev S1x2048x1x32 : Shape := ⟨4, ![1, 2048, 1, 32]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S4x2048x10240 : Shape := ⟨3, ![4, 2048, 10240]⟩
abbrev S4x128x1024 : Shape := ⟨3, ![4, 128, 1024]⟩
abbrev S2048x1024 : Shape := ⟨2, ![2048, 1024]⟩
abbrev S2048x256 : Shape := ⟨2, ![2048, 256]⟩
abbrev S2048x16 : Shape := ⟨2, ![2048, 16]⟩
abbrev S2048x2048 : Shape := ⟨2, ![2048, 2048]⟩
abbrev S2048x10240 : Shape := ⟨2, ![2048, 10240]⟩
abbrev S10240x2048 : Shape := ⟨2, ![10240, 2048]⟩
abbrev S8192x10240 : Shape := ⟨2, ![8192, 10240]⟩
abbrev S512x1024 : Shape := ⟨2, ![512, 1024]⟩

abbrev nBuf : Space → Nat
  | .hbm => 206
  | .vmem => 0
  | .smem => 0
  | _ => 0

abbrev hbmTy0_0 (i : Nat) : BufTy := match i % 128 with
  | 0 => ⟨S4x2048x2048, .bf16⟩
  | 1 => ⟨S1x2048x10832, .f32⟩
  | 2 => ⟨S1x1024, .f32⟩
  | 3 => ⟨S1x1024, .f32⟩
  | 4 => ⟨S2048, .i32⟩
  | 5 => ⟨S4x2048x2048, .f32⟩
  | 6 => ⟨S2048x10832, .f32⟩
  | 7 => ⟨S4x2048x10832, .f32⟩
  | 8 => ⟨S4x2048x1024, .f32⟩
  | 9 => ⟨S4x2048x1024, .f32⟩
  | 10 => ⟨S4x2048x1024, .f32⟩
  | 11 => ⟨S4x2048x1024, .f32⟩
  | 12 => ⟨S4x2048x256, .f32⟩
  | 13 => ⟨S4x2048x256, .f32⟩
  | 14 => ⟨S4x2048x1024, .f32⟩
  | 15 => ⟨S4x2048x1024, .f32⟩
  | 16 => ⟨S4x2048x64, .f32⟩
  | 17 => ⟨S4x2048x16, .f32⟩
  | 18 => ⟨S4x2048x2048, .f32⟩
  | 19 => ⟨S4x2048x2048, .f32⟩
  | 20 => ⟨S4x2048x8x128, .f32⟩
  | 21 => ⟨S64, .f32⟩
  | 22 => ⟨S64, .f32⟩
  | 23 => ⟨S_, .f32⟩
  | 24 => ⟨S64, .f32⟩
  | 25 => ⟨S64, .f32⟩
  | 26 => ⟨S_, .f32⟩
  | 27 => ⟨S64, .f32⟩
  | 28 => ⟨S64, .f32⟩
  | 29 => ⟨S2048, .f32⟩
  | 30 => ⟨S2048x1, .f32⟩
  | 31 => ⟨S1x64, .f32⟩
  | 32 => ⟨S2048x64, .f32⟩
  | 33 => ⟨S2048x64, .f32⟩
  | 34 => ⟨S2048x64, .f32⟩
  | 35 => ⟨S2048x64, .f32⟩
  | 36 => ⟨S2048x1x64, .f32⟩
  | 37 => ⟨S2048x64, .f32⟩
  | 38 => ⟨S2048x1x64, .f32⟩
  | 39 => ⟨S4x2048x8x64, .f32⟩
  | 40 => ⟨S4x2048x8x64, .f32⟩
  | 41 => ⟨S1x2048x1x64, .f32⟩
  | 42 => ⟨S4x2048x8x64, .f32⟩
  | 43 => ⟨S4x2048x8x64, .f32⟩
  | 44 => ⟨S1x2048x1x64, .f32⟩
  | 45 => ⟨S4x2048x8x64, .f32⟩
  | 46 => ⟨S4x2048x8x64, .f32⟩
  | 47 => ⟨S4x2048x8x64, .f32⟩
  | 48 => ⟨S1x2048x1x64, .f32⟩
  | 49 => ⟨S4x2048x8x64, .f32⟩
  | 50 => ⟨S4x2048x8x64, .f32⟩
  | 51 => ⟨S1x2048x1x64, .f32⟩
  | 52 => ⟨S4x2048x8x64, .f32⟩
  | 53 => ⟨S4x2048x8x64, .f32⟩
  | 54 => ⟨S4x2048x8x64, .f32⟩
  | 55 => ⟨S4x2048x8x128, .f32⟩
  | 56 => ⟨S4x2048x1024, .f32⟩
  | 57 => ⟨S4x2048x16x64, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S2048, .f32⟩
  | 67 => ⟨S2048x1, .f32⟩
  | 68 => ⟨S1x32, .f32⟩
  | 69 => ⟨S2048x32, .f32⟩
  | 70 => ⟨S2048x32, .f32⟩
  | 71 => ⟨S2048x32, .f32⟩
  | 72 => ⟨S2048x32, .f32⟩
  | 73 => ⟨S2048x1x32, .f32⟩
  | 74 => ⟨S2048x32, .f32⟩
  | 75 => ⟨S2048x1x32, .f32⟩
  | 76 => ⟨S4x2048x16x32, .f32⟩
  | 77 => ⟨S4x2048x16x32, .f32⟩
  | 78 => ⟨S1x2048x1x32, .f32⟩
  | 79 => ⟨S4x2048x16x32, .f32⟩
  | 80 => ⟨S4x2048x16x32, .f32⟩
  | 81 => ⟨S1x2048x1x32, .f32⟩
  | 82 => ⟨S4x2048x16x32, .f32⟩
  | 83 => ⟨S4x2048x16x32, .f32⟩
  | 84 => ⟨S4x2048x16x32, .f32⟩
  | 85 => ⟨S1x2048x1x32, .f32⟩
  | 86 => ⟨S4x2048x16x32, .f32⟩
  | 87 => ⟨S4x2048x16x32, .f32⟩
  | 88 => ⟨S1x2048x1x32, .f32⟩
  | 89 => ⟨S4x2048x16x32, .f32⟩
  | 90 => ⟨S4x2048x16x32, .f32⟩
  | 91 => ⟨S4x2048x16x32, .f32⟩
  | 92 => ⟨S4x2048x16x64, .f32⟩
  | 93 => ⟨S4x2048x1024, .f32⟩
  | 94 => ⟨S1024, .f32⟩
  | 95 => ⟨S1024, .f32⟩
  | 96 => ⟨S_, .f32⟩
  | 97 => ⟨S4x2048, .f32⟩
  | 98 => ⟨S4x2048x1, .f32⟩
  | 99 => ⟨S_, .f32⟩
  | 100 => ⟨S4x2048x1, .f32⟩
  | 101 => ⟨S4x2048x1, .f32⟩
  | 102 => ⟨S4x2048x1024, .f32⟩
  | 103 => ⟨S4x2048x1024, .f32⟩
  | 104 => ⟨S4x2048x1024, .f32⟩
  | 105 => ⟨S_, .f32⟩
  | 106 => ⟨S4x2048, .f32⟩
  | 107 => ⟨S4x2048x1, .f32⟩
  | 108 => ⟨S_, .f32⟩
  | 109 => ⟨S4x2048x1, .f32⟩
  | 110 => ⟨S4x2048x1, .f32⟩
  | 111 => ⟨S4x2048x1024, .f32⟩
  | 112 => ⟨S4x2048x1024, .f32⟩
  | 113 => ⟨S_, .f32⟩
  | 114 => ⟨S4x2048x1, .f32⟩
  | 115 => ⟨S4x2048x1, .f32⟩
  | 116 => ⟨S4x2048x1, .f32⟩
  | 117 => ⟨S4x2048x1024, .f32⟩
  | 118 => ⟨S4x2048x1024, .f32⟩
  | 119 => ⟨S1x1x1024, .f32⟩
  | 120 => ⟨S4x2048x1024, .f32⟩
  | 121 => ⟨S4x2048x1024, .f32⟩
  | 122 => ⟨S1x1x1024, .f32⟩
  | 123 => ⟨S4x2048x1024, .f32⟩
  | 124 => ⟨S4x2048x1024, .f32⟩
  | 125 => ⟨S4x2048x1024, .f32⟩
  | 126 => ⟨S4x2048x1024, .f32⟩
  | 127 => ⟨S_, .f32⟩
  | _ => ⟨S4x2048x2048, .bf16⟩

abbrev hbmTy0_1 (i : Nat) : BufTy := match i % 128 with
  | 0 => ⟨S4x2048x1024, .f32⟩
  | 1 => ⟨S4x2048x1024, .f32⟩
  | 2 => ⟨S_, .f32⟩
  | 3 => ⟨S4x2048x1024, .f32⟩
  | 4 => ⟨S4x2048x1024, .f32⟩
  | 5 => ⟨S4x2048x1024, .f32⟩
  | 6 => ⟨S4x2048x1024, .f32⟩
  | 7 => ⟨S4x2048x1024, .f32⟩
  | 8 => ⟨S_, .f32⟩
  | 9 => ⟨S4x2048x1024, .f32⟩
  | 10 => ⟨S4x2048x1024, .f32⟩
  | 11 => ⟨S_, .f32⟩
  | 12 => ⟨S4x2048x1024, .f32⟩
  | 13 => ⟨S4x2048x1024, .f32⟩
  | 14 => ⟨S4x2048x1024, .f32⟩
  | 15 => ⟨S4x2048x2048, .f32⟩
  | 16 => ⟨S4x2048x2048, .f32⟩
  | 17 => ⟨S_, .f32⟩
  | 18 => ⟨S4x2048x2048, .f32⟩
  | 19 => ⟨S4x2048x2048, .f32⟩
  | 20 => ⟨S_, .f32⟩
  | 21 => ⟨S4x2048x2048, .f32⟩
  | 22 => ⟨S4x2048x2048, .f32⟩
  | 23 => ⟨S4x2048x2048, .f32⟩
  | 24 => ⟨S4x2048x2048, .f32⟩
  | 25 => ⟨S_, .f32⟩
  | 26 => ⟨S4x2048x2048, .f32⟩
  | 27 => ⟨S4x2048x2048, .f32⟩
  | 28 => ⟨S_, .f32⟩
  | 29 => ⟨S4x2048x2048, .f32⟩
  | 30 => ⟨S4x2048x2048, .f32⟩
  | 31 => ⟨S4x2048x10240, .f32⟩
  | 32 => ⟨S4x128x1024, .f32⟩
  | 33 => ⟨S2048x10832, .f32⟩
  | 34 => ⟨S2048x1024, .f32⟩
  | 35 => ⟨S2048x1024, .f32⟩
  | 36 => ⟨S2048x1024, .f32⟩
  | 37 => ⟨S2048x1024, .f32⟩
  | 38 => ⟨S2048x256, .f32⟩
  | 39 => ⟨S2048x256, .f32⟩
  | 40 => ⟨S2048x1024, .f32⟩
  | 41 => ⟨S2048x1024, .f32⟩
  | 42 => ⟨S2048x64, .f32⟩
  | 43 => ⟨S2048x16, .f32⟩
  | 44 => ⟨S2048x2048, .f32⟩
  | 45 => ⟨S2048x2048, .f32⟩
  | 46 => ⟨S2048x10832, .f32⟩
  | 47 => ⟨S2048x1024, .f32⟩
  | 48 => ⟨S2048x1024, .f32⟩
  | 49 => ⟨S2048x1024, .f32⟩
  | 50 => ⟨S2048x1024, .f32⟩
  | 51 => ⟨S2048x256, .f32⟩
  | 52 => ⟨S2048x256, .f32⟩
  | 53 => ⟨S2048x1024, .f32⟩
  | 54 => ⟨S2048x1024, .f32⟩
  | 55 => ⟨S2048x64, .f32⟩
  | 56 => ⟨S2048x16, .f32⟩
  | 57 => ⟨S2048x2048, .f32⟩
  | 58 => ⟨S2048x2048, .f32⟩
  | 59 => ⟨S2048x10832, .f32⟩
  | 60 => ⟨S2048x1024, .f32⟩
  | 61 => ⟨S2048x1024, .f32⟩
  | 62 => ⟨S2048x1024, .f32⟩
  | 63 => ⟨S2048x1024, .f32⟩
  | 64 => ⟨S2048x256, .f32⟩
  | 65 => ⟨S2048x256, .f32⟩
  | 66 => ⟨S2048x1024, .f32⟩
  | 67 => ⟨S2048x1024, .f32⟩
  | 68 => ⟨S2048x64, .f32⟩
  | 69 => ⟨S2048x16, .f32⟩
  | 70 => ⟨S2048x2048, .f32⟩
  | 71 => ⟨S2048x2048, .f32⟩
  | 72 => ⟨S2048x10240, .f32⟩
  | 73 => ⟨S10240x2048, .f32⟩
  | 74 => ⟨S8192x10240, .f32⟩
  | 75 => ⟨S8192x10240, .bf16⟩
  | 76 => ⟨S512x1024, .f32⟩
  | 77 => ⟨S10240x2048, .bf16⟩
  | _ => ⟨S4x2048x2048, .bf16⟩

abbrev hbmTy (i : Nat) : BufTy := match i / 128 with
  | 0 => hbmTy0_0 i
  | 1 => hbmTy0_1 i
  | _ => ⟨S4x2048x2048, .bf16⟩

abbrev bufTy : (tb : Table) → Fin (tcTables nBuf tb) → BufTy
  | .hbm, ⟨i, _⟩ => hbmTy i
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_cst_1 : Ref sig .tc := ⟨.hbm, 60, rfl⟩
abbrev main_v54 : Ref sig .tc := ⟨.hbm, 61, rfl⟩
abbrev main_v55 : Ref sig .tc := ⟨.hbm, 62, rfl⟩
abbrev main_cst_2 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_cst_3 : Ref sig .tc := ⟨.hbm, 96, rfl⟩
abbrev main_v88 : Ref sig .tc := ⟨.hbm, 97, rfl⟩
abbrev main_v89 : Ref sig .tc := ⟨.hbm, 98, rfl⟩
abbrev main_cst_4 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_cst_5 : Ref sig .tc := ⟨.hbm, 105, rfl⟩
abbrev main_v95 : Ref sig .tc := ⟨.hbm, 106, rfl⟩
abbrev main_v96 : Ref sig .tc := ⟨.hbm, 107, rfl⟩
abbrev main_cst_6 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_cst_7 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_call0_v0 : Ref sig .tc := ⟨.hbm, 125, rfl⟩
abbrev main_call0_v1 : Ref sig .tc := ⟨.hbm, 126, rfl⟩
abbrev main_call0_cst : Ref sig .tc := ⟨.hbm, 127, rfl⟩
abbrev main_call0_v2 : Ref sig .tc := ⟨.hbm, 128, rfl⟩
abbrev main_call0_v3 : Ref sig .tc := ⟨.hbm, 129, rfl⟩
abbrev main_call0_cst_0 : Ref sig .tc := ⟨.hbm, 130, rfl⟩
abbrev main_call0_v4 : Ref sig .tc := ⟨.hbm, 131, rfl⟩
abbrev main_call0_v5 : Ref sig .tc := ⟨.hbm, 132, rfl⟩
abbrev main_v112 : Ref sig .tc := ⟨.hbm, 133, rfl⟩
abbrev main_call1_v0 : Ref sig .tc := ⟨.hbm, 134, rfl⟩
abbrev main_call1_v1 : Ref sig .tc := ⟨.hbm, 135, rfl⟩
abbrev main_call1_cst : Ref sig .tc := ⟨.hbm, 136, rfl⟩
abbrev main_call1_v2 : Ref sig .tc := ⟨.hbm, 137, rfl⟩
abbrev main_call1_v3 : Ref sig .tc := ⟨.hbm, 138, rfl⟩
abbrev main_call1_cst_0 : Ref sig .tc := ⟨.hbm, 139, rfl⟩
abbrev main_call1_v4 : Ref sig .tc := ⟨.hbm, 140, rfl⟩
abbrev main_call1_v5 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_8 : Ref sig .tc := ⟨.hbm, 145, rfl⟩
abbrev main_v116 : Ref sig .tc := ⟨.hbm, 146, rfl⟩
abbrev main_v117 : Ref sig .tc := ⟨.hbm, 147, rfl⟩
abbrev main_cst_9 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_10 : Ref sig .tc := ⟨.hbm, 153, rfl⟩
abbrev main_v122 : Ref sig .tc := ⟨.hbm, 154, rfl⟩
abbrev main_v123 : Ref sig .tc := ⟨.hbm, 155, rfl⟩
abbrev main_cst_11 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩

abbrev nD : Nat := 1
abbrev τ : Topo := Topo.v7x

variable {F : FTy → Type} [FloatOps F]
-- ==== Kernel2.lean ====
abbrev S4x2048x2048 : Shape := ⟨3, ![4, 2048, 2048]⟩
abbrev S8192x10240 : Shape := ⟨2, ![8192, 10240]⟩
abbrev S8192x1024 : Shape := ⟨2, ![8192, 1024]⟩
abbrev S1x8x128x128 : Shape := ⟨4, ![1, 8, 128, 128]⟩
abbrev S1x8x128 : Shape := ⟨3, ![1, 8, 128]⟩
abbrev S1x1024x2048 : Shape := ⟨3, ![1, 1024, 2048]⟩
abbrev S1x2048x2048 : Shape := ⟨3, ![1, 2048, 2048]⟩
abbrev S1x2048 : Shape := ⟨2, ![1, 2048]⟩
abbrev S1024x2048 : Shape := ⟨2, ![1024, 2048]⟩
abbrev S2048x2048 : Shape := ⟨2, ![2048, 2048]⟩
abbrev S2048 : Shape := ⟨1, ![2048]⟩
abbrev S8192x2048 : Shape := ⟨2, ![8192, 2048]⟩
abbrev S8x128x128 : Shape := ⟨3, ![8, 128, 128]⟩
abbrev S8x128 : Shape := ⟨2, ![8, 128]⟩
abbrev S128x8 : Shape := ⟨2, ![128, 8]⟩
abbrev S256x2048 : Shape := ⟨2, ![256, 2048]⟩
abbrev S256x1024 : Shape := ⟨2, ![256, 1024]⟩
abbrev S128x128 : Shape := ⟨2, ![128, 128]⟩
abbrev S1x128x128 : Shape := ⟨3, ![1, 128, 128]⟩
abbrev S128x1 : Shape := ⟨2, ![128, 1]⟩
abbrev S256 : Shape := ⟨1, ![256]⟩
abbrev S256x1 : Shape := ⟨2, ![256, 1]⟩

abbrev nBuf : Space → Nat
  | .hbm => 22
  | .vmem => 23
  | .smem => 0
  | _ => 0

abbrev bufTy : (tb : Table) → Fin (tcTables nBuf tb) → BufTy
  | .hbm, ⟨0, _⟩ => ⟨S4x2048x2048, .f32⟩
  | .hbm, ⟨1, _⟩ => ⟨S8192x10240, .bf16⟩
  | .hbm, ⟨2, _⟩ => ⟨S8192x1024, .bf16⟩
  | .hbm, ⟨3, _⟩ => ⟨S1x8x128x128, .f32⟩
  | .hbm, ⟨4, _⟩ => ⟨S1x8x128, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048, .f32⟩
  | .hbm, ⟨9, _⟩ => ⟨S1024x2048, .f32⟩
  | .hbm, ⟨10, _⟩ => ⟨S1024x2048, .bf16⟩
  | .hbm, ⟨11, _⟩ => ⟨S1024x2048, .f32⟩
  | .hbm, ⟨12, _⟩ => ⟨S1024x2048, .bf16⟩
  | .hbm, ⟨13, _⟩ => ⟨S2048x2048, .f32⟩
  | .hbm, ⟨14, _⟩ => ⟨S2048x2048, .bf16⟩
  | .hbm, ⟨15, _⟩ => ⟨S2048, .f32⟩
  | .hbm, ⟨16, _⟩ => ⟨S1x2048, .f32⟩
  | .hbm, ⟨17, _⟩ => ⟨S8192x2048, .f32⟩
  | .hbm, ⟨18, _⟩ => ⟨S8x128x128, .f32⟩
  | .hbm, ⟨19, _⟩ => ⟨S8x128, .f32⟩
  | .hbm, ⟨20, _⟩ => ⟨S128x8, .f32⟩
  | .hbm, ⟨21, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S8x128x128, .f32⟩
  | .local _ .vmem, ⟨9, _⟩ => ⟨S128x8, .f32⟩
  | .local _ .vmem, ⟨10, _⟩ => ⟨S256x1024, .bf16⟩
  | .local _ .vmem, ⟨11, _⟩ => ⟨S256x1024, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S1024x2048, .bf16⟩
  | .local _ .vmem, ⟨17, _⟩ => ⟨S1024x2048, .bf16⟩
  | .local _ .vmem, ⟨18, _⟩ => ⟨S2048x2048, .bf16⟩
  | .local _ .vmem, ⟨19, _⟩ => ⟨S1x2048, .f32⟩
  | .local _ .vmem, ⟨20, _⟩ => ⟨S256x2048, .f32⟩
  | .local _ .vmem, ⟨21, _⟩ => ⟨S256x2048, .f32⟩
  | .local _ .vmem, ⟨22, _⟩ => ⟨S256x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S4x2048x2048 : Shape := ⟨3, ![4, 2048, 2048]⟩
abbrev S8192x10240 : Shape := ⟨2, ![8192, 10240]⟩
abbrev S8192x1024 : Shape := ⟨2, ![8192, 1024]⟩
abbrev S1x8x128x128 : Shape := ⟨4, ![1, 8, 128, 128]⟩
abbrev S1x8x128 : Shape := ⟨3, ![1, 8, 128]⟩
abbrev S1x1024x2048 : Shape := ⟨3, ![1, 1024, 2048]⟩
abbrev S1x2048x2048 : Shape := ⟨3, ![1, 2048, 2048]⟩
abbrev S1x2048 : Shape := ⟨2, ![1, 2048]⟩
abbrev S4x2048x10240 : Shape := ⟨3, ![4, 2048, 10240]⟩
abbrev S4x2048x1024 : Shape := ⟨3, ![4, 2048, 1024]⟩
abbrev S4x16x128x8x128 : Shape := ⟨5, ![4, 16, 128, 8, 128]⟩
abbrev S_ : Shape := ⟨0, ![]⟩
abbrev S128x128 : Shape := ⟨2, ![128, 128]⟩
abbrev S1x128x128 : Shape := ⟨3, ![1, 128, 128]⟩
abbrev S8x128x128 : Shape := ⟨3, ![8, 128, 128]⟩
abbrev S8x4x16x128x128 : Shape := ⟨5, ![8, 4, 16, 128, 128]⟩
abbrev S8x128 : Shape := ⟨2, ![8, 128]⟩
abbrev S128x8 : Shape := ⟨2, ![128, 8]⟩
abbrev S1x1x128x8x1 : Shape := ⟨5, ![1, 1, 128, 8, 1]⟩
abbrev S1024x2048 : Shape := ⟨2, ![1024, 2048]⟩
abbrev S2048x2048 : Shape := ⟨2, ![2048, 2048]⟩
abbrev S2048 : Shape := ⟨1, ![2048]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 75
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x10240, .bf16⟩
  | .hbm, ⟨2, _⟩ => ⟨S8192x1024, .bf16⟩
  | .hbm, ⟨3, _⟩ => ⟨S1x8x128x128, .f32⟩
  | .hbm, ⟨4, _⟩ => ⟨S1x8x128, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048, .f32⟩
  | .hbm, ⟨9, _⟩ => ⟨S8192x10240, .f32⟩
  | .hbm, ⟨10, _⟩ => ⟨S4x2048x10240, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2048x2048, .f32⟩
  | .hbm, ⟨15, _⟩ => ⟨S4x2048x2048, .f32⟩
  | .hbm, ⟨16, _⟩ => ⟨S4x16x128x8x128, .f32⟩
  | .hbm, ⟨17, _⟩ => ⟨S_, .i1⟩
  | .hbm, ⟨18, _⟩ => ⟨S128x128, .i1⟩
  | .hbm, ⟨19, _⟩ => ⟨S128x128, .i32⟩
  | .hbm, ⟨20, _⟩ => ⟨S_, .i32⟩
  | .hbm, ⟨21, _⟩ => ⟨S128x128, .i32⟩
  | .hbm, ⟨22, _⟩ => ⟨S128x128, .i32⟩
  | .hbm, ⟨23, _⟩ => ⟨S128x128, .i32⟩
  | .hbm, ⟨24, _⟩ => ⟨S128x128, .i1⟩
  | .hbm, ⟨25, _⟩ => ⟨S_, .i1⟩
  | .hbm, ⟨26, _⟩ => ⟨S128x128, .i1⟩
  | .hbm, ⟨27, _⟩ => ⟨S128x128, .i1⟩
  | .hbm, ⟨28, _⟩ => ⟨S1x128x128, .i1⟩
  | .hbm, ⟨29, _⟩ => ⟨S8x128x128, .f32⟩
  | .hbm, ⟨30, _⟩ => ⟨S_, .f32⟩
  | .hbm, ⟨31, _⟩ => ⟨S_, .f32⟩
  | .hbm, ⟨32, _⟩ => ⟨S8x128x128, .i1⟩
  | .hbm, ⟨33, _⟩ => ⟨S8x128x128, .f32⟩
  | .hbm, ⟨34, _⟩ => ⟨S8x128x128, .f32⟩
  | .hbm, ⟨35, _⟩ => ⟨S8x4x16x128x128, .f32⟩
  | .hbm, ⟨36, _⟩ => ⟨S4x16x128x8x128, .f32⟩
  | .hbm, ⟨37, _⟩ => ⟨S8x128, .f32⟩
  | .hbm, ⟨38, _⟩ => ⟨S128x8, .f32⟩
  | .hbm, ⟨39, _⟩ => ⟨S1x1x128x8x1, .f32⟩
  | .hbm, ⟨40, _⟩ => ⟨S4x16x128x8x128, .f32⟩
  | .hbm, ⟨41, _⟩ => ⟨S4x16x128x8x128, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S1024x2048, .f32⟩
  | .hbm, ⟨46, _⟩ => ⟨S4x2048x2048, .f32⟩
  | .hbm, ⟨47, _⟩ => ⟨S8192x1024, .f32⟩
  | .hbm, ⟨48, _⟩ => ⟨S4x2048x1024, .f32⟩
  | .hbm, ⟨49, _⟩ => ⟨S1024x2048, .f32⟩
  | .hbm, ⟨50, _⟩ => ⟨S4x2048x2048, .f32⟩
  | .hbm, ⟨51, _⟩ => ⟨S4x2048x2048, .f32⟩
  | .hbm, ⟨52, _⟩ => ⟨S4x2048x2048, .f32⟩
  | .hbm, ⟨53, _⟩ => ⟨S4x2048x2048, .f32⟩
  | .hbm, ⟨54, _⟩ => ⟨S2048x2048, .f32⟩
  | .hbm, ⟨55, _⟩ => ⟨S4x2048x2048, .f32⟩
  | .hbm, ⟨56, _⟩ => ⟨S2048, .f32⟩
  | .hbm, ⟨57, _⟩ => ⟨S4x2048x2048, .f32⟩
  | .hbm, ⟨58, _⟩ => ⟨S_, .f32⟩
  | .hbm, ⟨59, _⟩ => ⟨S4x2048, .f32⟩
  | .hbm, ⟨60, _⟩ => ⟨S4x2048x1, .f32⟩
  | .hbm, ⟨61, _⟩ => ⟨S_, .f32⟩
  | .hbm, ⟨62, _⟩ => ⟨S4x2048x1, .f32⟩
  | .hbm, ⟨63, _⟩ => ⟨S4x2048x1, .f32⟩
  | .hbm, ⟨64, _⟩ => ⟨S_, .f32⟩
  | .hbm, ⟨65, _⟩ => ⟨S4x2048x1, .f32⟩
  | .hbm, ⟨66, _⟩ => ⟨S4x2048x1, .f32⟩
  | .hbm, ⟨67, _⟩ => ⟨S4x2048x1, .f32⟩
  | .hbm, ⟨68, _⟩ => ⟨S4x2048x2048, .f32⟩
  | .hbm, ⟨69, _⟩ => ⟨S4x2048x2048, .f32⟩
  | .hbm, ⟨70, _⟩ => ⟨S1x1x2048, .f32⟩
  | .hbm, ⟨71, _⟩ => ⟨S4x2048x2048, .f32⟩
  | .hbm, ⟨72, _⟩ => ⟨S4x2048x2048, .f32⟩
  | .hbm, ⟨73, _⟩ => ⟨S4x2048x2048, .f32⟩
  | .hbm, ⟨74, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_0 : Ref sig .tc := ⟨.hbm, 58, rfl⟩
abbrev main_v36 : Ref sig .tc := ⟨.hbm, 59, rfl⟩
abbrev main_v37 : Ref sig .tc := ⟨.hbm, 60, rfl⟩
abbrev main_cst_1 : Ref sig .tc := ⟨.hbm, 61, rfl⟩
abbrev main_v38 : Ref sig .tc := ⟨.hbm, 62, rfl⟩
abbrev main_v39 : Ref sig .tc := ⟨.hbm, 63, rfl⟩
abbrev main_cst_2 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]
-- ==== Kernel3.lean ====
abbrev S4x2048x2048 : Shape := ⟨3, ![4, 2048, 2048]⟩
abbrev S1x2048 : Shape := ⟨2, ![1, 2048]⟩
abbrev S1x2048x10832 : Shape := ⟨3, ![1, 2048, 10832]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x2048x1x128 : Shape := ⟨4, ![1, 2048, 1, 128]⟩
abbrev S32 : Shape := ⟨1, ![32]⟩
abbrev S1x32 : Shape := ⟨2, ![1, 32]⟩
abbrev S2048x32 : Shape := ⟨2, ![2048, 32]⟩
abbrev S1x2048x1x64 : Shape := ⟨4, ![1, 2048, 1, 64]⟩
abbrev S1x2048x2x64 : Shape := ⟨4, ![1, 2048, 2, 64]⟩
abbrev S8192x2048 : Shape := ⟨2, ![8192, 2048]⟩
abbrev S2048x10832 : Shape := ⟨2, ![2048, 10832]⟩
abbrev S10832x2048 : Shape := ⟨2, ![10832, 2048]⟩
abbrev S8192x2x128 : Shape := ⟨3, ![8192, 2, 128]⟩
abbrev S8192x64 : Shape := ⟨2, ![8192, 64]⟩
abbrev S8192x256 : Shape := ⟨2, ![8192, 256]⟩
abbrev S8192x128 : Shape := ⟨2, ![8192, 128]⟩
abbrev S256x8192 : Shape := ⟨2, ![256, 8192]⟩
abbrev S16x8192 : Shape := ⟨2, ![16, 8192]⟩
abbrev S512x512 : Shape := ⟨2, ![512, 512]⟩
abbrev S512x2048 : Shape := ⟨2, ![512, 2048]⟩
abbrev S128x2048 : Shape := ⟨2, ![128, 2048]⟩
abbrev S512x128 : Shape := ⟨2, ![512, 128]⟩
abbrev S512x2x128 : Shape := ⟨3, ![512, 2, 128]⟩
abbrev S512x64 : Shape := ⟨2, ![512, 64]⟩
abbrev S512x256 : Shape := ⟨2, ![512, 256]⟩
abbrev S256x512 : Shape := ⟨2, ![256, 512]⟩
abbrev S16x512 : Shape := ⟨2, ![16, 512]⟩
abbrev S512 : Shape := ⟨1, ![512]⟩
abbrev S512x1 : Shape := ⟨2, ![512, 1]⟩
abbrev S1x512 : Shape := ⟨2, ![1, 512]⟩
abbrev S512x1x128 : Shape := ⟨3, ![512, 1, 128]⟩
abbrev S128x512 : Shape := ⟨2, ![128, 512]⟩

abbrev nBuf : Space → Nat
  | .hbm => 68
  | .vmem => 37
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x10832, .f32⟩
  | .hbm, ⟨3, _⟩ => ⟨S2048, .i32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S2048, .f32⟩
  | .hbm, ⟨13, _⟩ => ⟨S2048x1, .f32⟩
  | .hbm, ⟨14, _⟩ => ⟨S1x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x128, .f32⟩
  | .hbm, ⟨21, _⟩ => ⟨S1x2048x1x128, .f32⟩
  | .hbm, ⟨22, _⟩ => ⟨S1x2048x1x128, .f32⟩
  | .hbm, ⟨23, _⟩ => ⟨S2048x128, .f32⟩
  | .hbm, ⟨24, _⟩ => ⟨S2048x64, .f32⟩
  | .hbm, ⟨25, _⟩ => ⟨S2048x128, .f32⟩
  | .hbm, ⟨26, _⟩ => ⟨S1x2048x1x128, .f32⟩
  | .hbm, ⟨27, _⟩ => ⟨S1x2048x1x128, .f32⟩
  | .hbm, ⟨28, _⟩ => ⟨S2048x128, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S2048, .f32⟩
  | .hbm, ⟨38, _⟩ => ⟨S2048x1, .f32⟩
  | .hbm, ⟨39, _⟩ => ⟨S1x32, .f32⟩
  | .hbm, ⟨40, _⟩ => ⟨S2048x32, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x64, .f32⟩
  | .hbm, ⟨46, _⟩ => ⟨S1x2048x1x64, .f32⟩
  | .hbm, ⟨47, _⟩ => ⟨S1x2048x2x64, .f32⟩
  | .hbm, ⟨48, _⟩ => ⟨S2048x128, .f32⟩
  | .hbm, ⟨49, _⟩ => ⟨S2048x32, .f32⟩
  | .hbm, ⟨50, _⟩ => ⟨S2048x64, .f32⟩
  | .hbm, ⟨51, _⟩ => ⟨S1x2048x1x64, .f32⟩
  | .hbm, ⟨52, _⟩ => ⟨S1x2048x2x64, .f32⟩
  | .hbm, ⟨53, _⟩ => ⟨S2048x128, .f32⟩
  | .hbm, ⟨54, _⟩ => ⟨S8192x2048, .f32⟩
  | .hbm, ⟨55, _⟩ => ⟨S2048x10832, .f32⟩
  | .hbm, ⟨56, _⟩ => ⟨S10832x2048, .f32⟩
  | .hbm, ⟨57, _⟩ => ⟨S2048, .f32⟩
  | .hbm, ⟨58, _⟩ => ⟨S1x2048, .f32⟩
  | .hbm, ⟨59, _⟩ => ⟨S8192x2048, .bf16⟩
  | .hbm, ⟨60, _⟩ => ⟨S8192x2x128, .f32⟩
  | .hbm, ⟨61, _⟩ => ⟨S8192x2x128, .f32⟩
  | .hbm, ⟨62, _⟩ => ⟨S8192x64, .f32⟩
  | .hbm, ⟨63, _⟩ => ⟨S8192x256, .bf16⟩
  | .hbm, ⟨64, _⟩ => ⟨S8192x128, .bf16⟩
  | .hbm, ⟨65, _⟩ => ⟨S8192x128, .bf16⟩
  | .hbm, ⟨66, _⟩ => ⟨S256x8192, .bf16⟩
  | .hbm, ⟨67, _⟩ => ⟨S16x8192, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x2048, .f32⟩
  | .local _ .vmem, ⟨9, _⟩ => ⟨S512x2048, .f32⟩
  | .local _ .vmem, ⟨10, _⟩ => ⟨S128x2048, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x2048, .bf16⟩
  | .local _ .vmem, ⟨20, _⟩ => ⟨S512x2048, .bf16⟩
  | .local _ .vmem, ⟨21, _⟩ => ⟨S512x2x128, .f32⟩
  | .local _ .vmem, ⟨22, _⟩ => ⟨S512x2x128, .f32⟩
  | .local _ .vmem, ⟨23, _⟩ => ⟨S512x2x128, .f32⟩
  | .local _ .vmem, ⟨24, _⟩ => ⟨S512x2x128, .f32⟩
  | .local _ .vmem, ⟨25, _⟩ => ⟨S512x64, .f32⟩
  | .local _ .vmem, ⟨26, _⟩ => ⟨S512x64, .f32⟩
  | .local _ .vmem, ⟨27, _⟩ => ⟨S512x256, .bf16⟩
  | .local _ .vmem, ⟨28, _⟩ => ⟨S512x256, .bf16⟩
  | .local _ .vmem, ⟨29, _⟩ => ⟨S512x128, .bf16⟩
  | .local _ .vmem, ⟨30, _⟩ => ⟨S512x128, .bf16⟩
  | .local _ .vmem, ⟨31, _⟩ => ⟨S512x128, .bf16⟩
  | .local _ .vmem, ⟨32, _⟩ => ⟨S512x128, .bf16⟩
  | .local _ .vmem, ⟨33, _⟩ => ⟨S256x512, .bf16⟩
  | .local _ .vmem, ⟨34, _⟩ => ⟨S256x512, .bf16⟩
  | .local _ .vmem, ⟨35, _⟩ => ⟨S16x512, .f32⟩
  | .local _ .vmem, ⟨36, _⟩ => ⟨S16x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52_0 : Ref sig .tc := ⟨.hbm, 59, rfl⟩
abbrev main_v52_1 : Ref sig .tc := ⟨.hbm, 60, rfl⟩
abbrev main_v52_2 : Ref sig .tc := ⟨.hbm, 61, rfl⟩
abbrev main_v52_3 : Ref sig .tc := ⟨.hbm, 62, rfl⟩
abbrev main_v52_4 : Ref sig .tc := ⟨.hbm, 63, rfl⟩
abbrev main_v52_5 : Ref sig .tc := ⟨.hbm, 64, rfl⟩
abbrev main_v52_6 : Ref sig .tc := ⟨.hbm, 65, rfl⟩
abbrev main_v52_7 : Ref sig .tc := ⟨.hbm, 66, rfl⟩
abbrev main_v52_8 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let c0_i32_0 : BitVec 32 := 0#32
  ![c8_i32.toNat, c0_i32.toNat]

def cc0_transform_6 (i : grid0.Coords) : Fin 2 → Nat :=
  let arg0 : BitVec 32 := BitVec.ofNat 32 (i 0).val
  let c52_i32 : BitVec 32 := 52#32
  let c0_i32 : BitVec 32 := 0#32
  let c0_i32_0 : BitVec 32 := 0#32
  ![c52_i32.toNat, c0_i32.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference3Ideal.lean ====
abbrev S4x2048x2048 : Shape := ⟨3, ![4, 2048, 2048]⟩
abbrev S1x2048 : Shape := ⟨2, ![1, 2048]⟩
abbrev S1x2048x10832 : Shape := ⟨3, ![1, 2048, 10832]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x10832 : Shape := ⟨2, ![2048, 10832]⟩
abbrev S4x2048x10832 : Shape := ⟨3, ![4, 2048, 10832]⟩
abbrev S4x2048x1024 : Shape := ⟨3, ![4, 2048, 1024]⟩
abbrev S4x2048x256 : Shape := ⟨3, ![4, 2048, 256]⟩
abbrev S4x2048x64 : Shape := ⟨3, ![4, 2048, 64]⟩
abbrev S4x2048x16 : Shape := ⟨3, ![4, 2048, 16]⟩
abbrev S4x2048x2x128 : Shape := ⟨4, ![4, 2048, 2, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S4x2048x2x64 : Shape := ⟨4, ![4, 2048, 2, 64]⟩
abbrev S1x2048x1x64 : Shape := ⟨4, ![1, 2048, 1, 64]⟩
abbrev S4x2048x1x64 : Shape := ⟨4, ![4, 2048, 1, 64]⟩
abbrev S32 : Shape := ⟨1, ![32]⟩
abbrev S1x32 : Shape := ⟨2, ![1, 32]⟩
abbrev S2048x32 : Shape := ⟨2, ![2048, 32]⟩
abbrev S2048x1x32 : Shape := ⟨3, ![2048, 1, 32]⟩
abbrev S4x2048x1x32 : Shape := ⟨4, ![4, 2048, 1, 32]⟩
abbrev S1x2048x1x32 : Shape := ⟨4, ![1, 2048, 1, 32]⟩
abbrev S8192x64 : Shape := ⟨2, ![8192, 64]⟩
abbrev S8192x2048 : Shape := ⟨2, ![8192, 2048]⟩
abbrev S8192x2x128 : Shape := ⟨3, ![8192, 2, 128]⟩
abbrev S8192x256 : Shape := ⟨2, ![8192, 256]⟩
abbrev S8192x128 : Shape := ⟨2, ![8192, 128]⟩
abbrev S256x8192 : Shape := ⟨2, ![256, 8192]⟩
abbrev S8192x16 : Shape := ⟨2, ![8192, 16]⟩
abbrev S16x8192 : Shape := ⟨2, ![16, 8192]⟩

abbrev nBuf : Space → Nat
  | .hbm => 134
  | .vmem => 0
  | .smem => 0
  | _ => 0

abbrev hbmTy0_0 (i : Nat) : BufTy := match i % 128 with
  | 0 => ⟨S4x2048x2048, .f32⟩
  | 1 => ⟨S1x2048, .f32⟩
  | 2 => ⟨S1x2048x10832, .f32⟩
  | 3 => ⟨S2048, .i32⟩
  | 4 => ⟨S2048, .f32⟩
  | 5 => ⟨S4x2048x2048, .f32⟩
  | 6 => ⟨S_, .f32⟩
  | 7 => ⟨S4x2048, .f32⟩
  | 8 => ⟨S4x2048x1, .f32⟩
  | 9 => ⟨S_, .f32⟩
  | 10 => ⟨S4x2048x1, .f32⟩
  | 11 => ⟨S4x2048x1, .f32⟩
  | 12 => ⟨S_, .f32⟩
  | 13 => ⟨S4x2048x1, .f32⟩
  | 14 => ⟨S4x2048x1, .f32⟩
  | 15 => ⟨S4x2048x1, .f32⟩
  | 16 => ⟨S4x2048x2048, .f32⟩
  | 17 => ⟨S4x2048x2048, .f32⟩
  | 18 => ⟨S1x1x2048, .f32⟩
  | 19 => ⟨S4x2048x2048, .f32⟩
  | 20 => ⟨S4x2048x2048, .f32⟩
  | 21 => ⟨S2048x10832, .f32⟩
  | 22 => ⟨S4x2048x10832, .f32⟩
  | 23 => ⟨S4x2048x1024, .f32⟩
  | 24 => ⟨S4x2048x1024, .f32⟩
  | 25 => ⟨S4x2048x1024, .f32⟩
  | 26 => ⟨S4x2048x1024, .f32⟩
  | 27 => ⟨S4x2048x256, .f32⟩
  | 28 => ⟨S4x2048x256, .f32⟩
  | 29 => ⟨S4x2048x1024, .f32⟩
  | 30 => ⟨S4x2048x1024, .f32⟩
  | 31 => ⟨S4x2048x64, .f32⟩
  | 32 => ⟨S4x2048x16, .f32⟩
  | 33 => ⟨S4x2048x2048, .f32⟩
  | 34 => ⟨S4x2048x2048, .f32⟩
  | 35 => ⟨S4x2048x2x128, .f32⟩
  | 36 => ⟨S64, .f32⟩
  | 37 => ⟨S64, .f32⟩
  | 38 => ⟨S_, .f32⟩
  | 39 => ⟨S64, .f32⟩
  | 40 => ⟨S64, .f32⟩
  | 41 => ⟨S_, .f32⟩
  | 42 => ⟨S64, .f32⟩
  | 43 => ⟨S64, .f32⟩
  | 44 => ⟨S2048, .f32⟩
  | 45 => ⟨S2048x1, .f32⟩
  | 46 => ⟨S1x64, .f32⟩
  | 47 => ⟨S2048x64, .f32⟩
  | 48 => ⟨S2048x64, .f32⟩
  | 49 => ⟨S2048x64, .f32⟩
  | 50 => ⟨S2048x64, .f32⟩
  | 51 => ⟨S2048x1x64, .f32⟩
  | 52 => ⟨S2048x64, .f32⟩
  | 53 => ⟨S2048x1x64, .f32⟩
  | 54 => ⟨S4x2048x2x64, .f32⟩
  | 55 => ⟨S4x2048x2x64, .f32⟩
  | 56 => ⟨S1x2048x1x64, .f32⟩
  | 57 => ⟨S4x2048x2x64, .f32⟩
  | 58 => ⟨S4x2048x2x64, .f32⟩
  | 59 => ⟨S1x2048x1x64, .f32⟩
  | 60 => ⟨S4x2048x2x64, .f32⟩
  | 61 => ⟨S4x2048x2x64, .f32⟩
  | 62 => ⟨S4x2048x2x64, .f32⟩
  | 63 => ⟨S1x2048x1x64, .f32⟩
  | 64 => ⟨S4x2048x2x64, .f32⟩
  | 65 => ⟨S4x2048x2x64, .f32⟩
  | 66 => ⟨S1x2048x1x64, .f32⟩
  | 67 => ⟨S4x2048x2x64, .f32⟩
  | 68 => ⟨S4x2048x2x64, .f32⟩
  | 69 => ⟨S4x2048x2x64, .f32⟩
  | 70 => ⟨S4x2048x2x128, .f32⟩
  | 71 => ⟨S4x2048x1x64, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S2048, .f32⟩
  | 81 => ⟨S2048x1, .f32⟩
  | 82 => ⟨S1x32, .f32⟩
  | 83 => ⟨S2048x32, .f32⟩
  | 84 => ⟨S2048x32, .f32⟩
  | 85 => ⟨S2048x32, .f32⟩
  | 86 => ⟨S2048x32, .f32⟩
  | 87 => ⟨S2048x1x32, .f32⟩
  | 88 => ⟨S2048x32, .f32⟩
  | 89 => ⟨S2048x1x32, .f32⟩
  | 90 => ⟨S4x2048x1x32, .f32⟩
  | 91 => ⟨S4x2048x1x32, .f32⟩
  | 92 => ⟨S1x2048x1x32, .f32⟩
  | 93 => ⟨S4x2048x1x32, .f32⟩
  | 94 => ⟨S4x2048x1x32, .f32⟩
  | 95 => ⟨S1x2048x1x32, .f32⟩
  | 96 => ⟨S4x2048x1x32, .f32⟩
  | 97 => ⟨S4x2048x1x32, .f32⟩
  | 98 => ⟨S4x2048x1x32, .f32⟩
  | 99 => ⟨S1x2048x1x32, .f32⟩
  | 100 => ⟨S4x2048x1x32, .f32⟩
  | 101 => ⟨S4x2048x1x32, .f32⟩
  | 102 => ⟨S1x2048x1x32, .f32⟩
  | 103 => ⟨S4x2048x1x32, .f32⟩
  | 104 => ⟨S4x2048x1x32, .f32⟩
  | 105 => ⟨S4x2048x1x32, .f32⟩
  | 106 => ⟨S4x2048x1x64, .f32⟩
  | 107 => ⟨S4x2048x64, .f32⟩
  | 108 => ⟨S_, .f32⟩
  | 109 => ⟨S4x2048x16, .f32⟩
  | 110 => ⟨S4x2048x16, .f32⟩
  | 111 => ⟨S_, .f32⟩
  | 112 => ⟨S4x2048x16, .f32⟩
  | 113 => ⟨S4x2048x16, .f32⟩
  | 114 => ⟨S_, .f32⟩
  | 115 => ⟨S8192x64, .f32⟩
  | 116 => ⟨S8192x2048, .f32⟩
  | 117 => ⟨S8192x2048, .bf16⟩
  | 118 => ⟨S8192x2x128, .f32⟩
  | 119 => ⟨S8192x2x128, .f32⟩
  | 120 => ⟨S8192x64, .f32⟩
  | 121 => ⟨S8192x256, .f32⟩
  | 122 => ⟨S8192x256, .bf16⟩
  | 123 => ⟨S8192x64, .f32⟩
  | 124 => ⟨S8192x128, .f32⟩
  | 125 => ⟨S8192x128, .bf16⟩
  | 126 => ⟨S8192x64, .f32⟩
  | 127 => ⟨S8192x128, .f32⟩
  | _ => ⟨S4x2048x2048, .f32⟩

abbrev hbmTy0_1 (i : Nat) : BufTy := match i % 128 with
  | 0 => ⟨S8192x128, .bf16⟩
  | 1 => ⟨S8192x256, .f32⟩
  | 2 => ⟨S256x8192, .f32⟩
  | 3 => ⟨S256x8192, .bf16⟩
  | 4 => ⟨S8192x16, .f32⟩
  | 5 => ⟨S16x8192, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_cst_4 : Ref sig .tc := ⟨.hbm, 74, rfl⟩
abbrev main_v66 : Ref sig .tc := ⟨.hbm, 75, rfl⟩
abbrev main_v67 : Ref sig .tc := ⟨.hbm, 76, rfl⟩
abbrev main_cst_5 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_cst_6 : Ref sig .tc := ⟨.hbm, 108, rfl⟩
abbrev main_v98 : Ref sig .tc := ⟨.hbm, 109, rfl⟩
abbrev main_v99 : Ref sig .tc := ⟨.hbm, 110, rfl⟩
abbrev main_cst_7 : Ref sig .tc := ⟨.hbm, 111, rfl⟩
abbrev main_v100 : Ref sig .tc := ⟨.hbm, 112, rfl⟩
abbrev main_v101 : Ref sig .tc := ⟨.hbm, 113, rfl⟩
abbrev main_cst_8 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩

abbrev nD : Nat := 1
abbrev τ : Topo := Topo.v7x

variable {F : FTy → Type} [FloatOps F]
-- ==== Kernel4.lean ====
abbrev S32x1x2048 : Shape := ⟨3, ![32, 1, 2048]⟩
abbrev S1x2048 : Shape := ⟨2, ![1, 2048]⟩
abbrev S1x2048x10832 : Shape := ⟨3, ![1, 2048, 10832]⟩
abbrev S32 : Shape := ⟨1, ![32]⟩
abbrev S_ : Shape := ⟨0, ![]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S32x128 : Shape := ⟨2, ![32, 128]⟩
abbrev S1x32x1x128 : Shape := ⟨4, ![1, 32, 1, 128]⟩
abbrev S1x32 : Shape := ⟨2, ![1, 32]⟩
abbrev S32x32 : Shape := ⟨2, ![32, 32]⟩
abbrev S1x32x1x64 : Shape := ⟨4, ![1, 32, 1, 64]⟩
abbrev S1x32x2x64 : Shape := ⟨4, ![1, 32, 2, 64]⟩
abbrev S32x2048 : Shape := ⟨2, ![32, 2048]⟩
abbrev S2048x10832 : Shape := ⟨2, ![2048, 10832]⟩
abbrev S10832x2048 : Shape := ⟨2, ![10832, 2048]⟩
abbrev S2048 : Shape := ⟨1, ![2048]⟩
abbrev S32x2x128 : Shape := ⟨3, ![32, 2, 128]⟩
abbrev S32x256 : Shape := ⟨2, ![32, 256]⟩
abbrev S32x16 : Shape := ⟨2, ![32, 16]⟩
abbrev S32x512 : Shape := ⟨2, ![32, 512]⟩
abbrev S512x2048 : Shape := ⟨2, ![512, 2048]⟩
abbrev S128x2048 : Shape := ⟨2, ![128, 2048]⟩
abbrev S1x512 : Shape := ⟨2, ![1, 512]⟩
abbrev S32x1x128 : Shape := ⟨3, ![32, 1, 128]⟩

abbrev nBuf : Space → Nat
  | .hbm => 93
  | .vmem => 20
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x10832, .f32⟩
  | .hbm, ⟨3, _⟩ => ⟨S32, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i1⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S_, .i32⟩
  | .hbm, ⟨19, _⟩ => ⟨S_, .i1⟩
  | .hbm, ⟨20, _⟩ => ⟨S32, .i1⟩
  | .hbm, ⟨21, _⟩ => ⟨S32, .i1⟩
  | .hbm, ⟨22, _⟩ => ⟨S32, .i1⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S32, .f32⟩
  | .hbm, ⟨38, _⟩ => ⟨S32x1, .f32⟩
  | .hbm, ⟨39, _⟩ => ⟨S1x64, .f32⟩
  | .hbm, ⟨40, _⟩ => ⟨S32x64, .f32⟩
  | .hbm, ⟨41, _⟩ => ⟨S32x64, .f32⟩
  | .hbm, ⟨42, _⟩ => ⟨S32x64, .f32⟩
  | .hbm, ⟨43, _⟩ => ⟨S32x64, .f32⟩
  | .hbm, ⟨44, _⟩ => ⟨S32x64, .f32⟩
  | .hbm, ⟨45, _⟩ => ⟨S32x128, .f32⟩
  | .hbm, ⟨46, _⟩ => ⟨S1x32x1x128, .f32⟩
  | .hbm, ⟨47, _⟩ => ⟨S1x32x1x128, .f32⟩
  | .hbm, ⟨48, _⟩ => ⟨S32x128, .f32⟩
  | .hbm, ⟨49, _⟩ => ⟨S32x64, .f32⟩
  | .hbm, ⟨50, _⟩ => ⟨S32x128, .f32⟩
  | .hbm, ⟨51, _⟩ => ⟨S1x32x1x128, .f32⟩
  | .hbm, ⟨52, _⟩ => ⟨S1x32x1x128, .f32⟩
  | .hbm, ⟨53, _⟩ => ⟨S32x128, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S32, .f32⟩
  | .hbm, ⟨63, _⟩ => ⟨S32x1, .f32⟩
  | .hbm, ⟨64, _⟩ => ⟨S1x32, .f32⟩
  | .hbm, ⟨65, _⟩ => ⟨S32x32, .f32⟩
  | .hbm, ⟨66, _⟩ => ⟨S32x32, .f32⟩
  | .hbm, ⟨67, _⟩ => ⟨S32x32, .f32⟩
  | .hbm, ⟨68, _⟩ => ⟨S32x32, .f32⟩
  | .hbm, ⟨69, _⟩ => ⟨S32x32, .f32⟩
  | .hbm, ⟨70, _⟩ => ⟨S32x64, .f32⟩
  | .hbm, ⟨71, _⟩ => ⟨S1x32x1x64, .f32⟩
  | .hbm, ⟨72, _⟩ => ⟨S1x32x2x64, .f32⟩
  | .hbm, ⟨73, _⟩ => ⟨S32x128, .f32⟩
  | .hbm, ⟨74, _⟩ => ⟨S32x32, .f32⟩
  | .hbm, ⟨75, _⟩ => ⟨S32x64, .f32⟩
  | .hbm, ⟨76, _⟩ => ⟨S1x32x1x64, .f32⟩
  | .hbm, ⟨77, _⟩ => ⟨S1x32x2x64, .f32⟩
  | .hbm, ⟨78, _⟩ => ⟨S32x128, .f32⟩
  | .hbm, ⟨79, _⟩ => ⟨S32x2048, .f32⟩
  | .hbm, ⟨80, _⟩ => ⟨S2048x10832, .f32⟩
  | .hbm, ⟨81, _⟩ => ⟨S10832x2048, .f32⟩
  | .hbm, ⟨82, _⟩ => ⟨S2048, .f32⟩
  | .hbm, ⟨83, _⟩ => ⟨S1x2048, .f32⟩
  | .hbm, ⟨84, _⟩ => ⟨S32x2048, .bf16⟩
  | .hbm, ⟨85, _⟩ => ⟨S32x2x128, .f32⟩
  | .hbm, ⟨86, _⟩ => ⟨S32x2x128, .f32⟩
  | .hbm, ⟨87, _⟩ => ⟨S32x64, .f32⟩
  | .hbm, ⟨88, _⟩ => ⟨S32x256, .bf16⟩
  | .hbm, ⟨89, _⟩ => ⟨S32x128, .bf16⟩
  | .hbm, ⟨90, _⟩ => ⟨S32x128, .bf16⟩
  | .hbm, ⟨91, _⟩ => ⟨S32x256, .bf16⟩
  | .hbm, ⟨92, _⟩ => ⟨S32x16, .f32⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S1x2048, .f32⟩
  | .local _ .vmem, ⟨5, _⟩ => ⟨S512x2048, .f32⟩
  | .local _ .vmem, ⟨6, _⟩ => ⟨S128x2048, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x2048, .bf16⟩
  | .local _ .vmem, ⟨12, _⟩ => ⟨S32x2x128, .f32⟩
  | .local _ .vmem, ⟨13, _⟩ => ⟨S32x2x128, .f32⟩
  | .local _ .vmem, ⟨14, _⟩ => ⟨S32x64, .f32⟩
  | .local _ .vmem, ⟨15, _⟩ => ⟨S32x256, .bf16⟩
  | .local _ .vmem, ⟨16, _⟩ => ⟨S32x128, .bf16⟩
  | .local _ .vmem, ⟨17, _⟩ => ⟨S32x128, .bf16⟩
  | .local _ .vmem, ⟨18, _⟩ => ⟨S32x256, .bf16⟩
  | .local _ .vmem, ⟨19, _⟩ => ⟨S32x16, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_v7 : Ref sig .tc := ⟨.hbm, 33, rfl⟩
abbrev main_cst_1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_2 : Ref sig .tc := ⟨.hbm, 56, rfl⟩
abbrev main_v29 : Ref sig .tc := ⟨.hbm, 57, rfl⟩
abbrev main_v30 : Ref sig .tc := ⟨.hbm, 58, rfl⟩
abbrev main_cst_3 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55_0 : Ref sig .tc := ⟨.hbm, 84, rfl⟩
abbrev main_v55_1 : Ref sig .tc := ⟨.hbm, 85, rfl⟩
abbrev main_v55_2 : Ref sig .tc := ⟨.hbm, 86, rfl⟩
abbrev main_v55_3 : Ref sig .tc := ⟨.hbm, 87, rfl⟩
abbrev main_v55_4 : Ref sig .tc := ⟨.hbm, 88, rfl⟩
abbrev main_v55_5 : Ref sig .tc := ⟨.hbm, 89, rfl⟩
abbrev main_v55_6 : Ref sig .tc := ⟨.hbm, 90, rfl⟩
abbrev main_v55_7 : Ref sig .tc := ⟨.hbm, 91, rfl⟩
abbrev main_v55_8 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let c0_i32_0 : BitVec 32 := 0#32
  ![c8_i32.toNat, c0_i32.toNat]

def cc0_transform_6 (i : grid0.Coords) : Fin 2 → Nat :=
  let arg0 : BitVec 32 := BitVec.ofNat 32 (i 0).val
  let c52_i32 : BitVec 32 := 52#32
  let c0_i32 : BitVec 32 := 0#32
  let c0_i32_0 : BitVec 32 := 0#32
  ![c52_i32.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x2x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x2x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S32x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S32x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S32x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S32x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S32x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S32x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]
-- ==== Reference4Ideal.lean ====
abbrev S32x1x2048 : Shape := ⟨3, ![32, 1, 2048]⟩
abbrev S1x2048 : Shape := ⟨2, ![1, 2048]⟩
abbrev S1x2048x10832 : Shape := ⟨3, ![1, 2048, 10832]⟩
abbrev S1 : Shape := ⟨1, ![1]⟩
abbrev S_ : Shape := ⟨0, ![]⟩
abbrev S2048 : Shape := ⟨1, ![2048]⟩
abbrev S32x1 : Shape := ⟨2, ![32, 1]⟩
abbrev S32x1x1 : Shape := ⟨3, ![32, 1, 1]⟩
abbrev S1x1x2048 : Shape := ⟨3, ![1, 1, 2048]⟩
abbrev S2048x10832 : Shape := ⟨2, ![2048, 10832]⟩
abbrev S32x1x10832 : Shape := ⟨3, ![32, 1, 10832]⟩
abbrev S32x1x1024 : Shape := ⟨3, ![32, 1, 1024]⟩
abbrev S32x1x256 : Shape := ⟨3, ![32, 1, 256]⟩
abbrev S32x1x64 : Shape := ⟨3, ![32, 1, 64]⟩
abbrev S32x1x16 : Shape := ⟨3, ![32, 1, 16]⟩
abbrev S32x1x2x128 : Shape := ⟨4, ![32, 1, 2, 128]⟩
abbrev S64 : Shape := ⟨1, ![64]⟩
abbrev S1x1 : Shape := ⟨2, ![1, 1]⟩
abbrev S1x64 : Shape := ⟨2, ![1, 64]⟩
abbrev S1x1x64 : Shape := ⟨3, ![1, 1, 64]⟩
abbrev S32x1x2x64 : Shape := ⟨4, ![32, 1, 2, 64]⟩
abbrev S1x1x1x64 : Shape := ⟨4, ![1, 1, 1, 64]⟩
abbrev S32x1x1x64 : Shape := ⟨4, ![32, 1, 1, 64]⟩
abbrev S32 : Shape := ⟨1, ![32]⟩
abbrev S1x32 : Shape := ⟨2, ![1, 32]⟩
abbrev S1x1x32 : Shape := ⟨3, ![1, 1, 32]⟩
abbrev S32x1x1x32 : Shape := ⟨4, ![32, 1, 1, 32]⟩
abbrev S1x1x1x32 : Shape := ⟨4, ![1, 1, 1, 32]⟩
abbrev S32x64 : Shape := ⟨2, ![32, 64]⟩
abbrev S32x2048 : Shape := ⟨2, ![32, 2048]⟩
abbrev S32x2x128 : Shape := ⟨3, ![32, 2, 128]⟩
abbrev S32x256 : Shape := ⟨2, ![32, 256]⟩
abbrev S32x128 : Shape := ⟨2, ![32, 128]⟩
abbrev S32x16 : Shape := ⟨2, ![32, 16]⟩

abbrev nBuf : Space → Nat
  | .hbm => 133
  | .vmem => 0
  | .smem => 0
  | _ => 0

abbrev hbmTy0_0 (i : Nat) : BufTy := match i % 128 with
  | 0 => ⟨S32x1x2048, .f32⟩
  | 1 => ⟨S1x2048, .f32⟩
  | 2 => ⟨S1x2048x10832, .f32⟩
  | 3 => ⟨S1, .i32⟩
  | 4 => ⟨S_, .i32⟩
  | 5 => ⟨S1, .i32⟩
  | 6 => ⟨S1, .i32⟩
  | 7 => ⟨S2048, .f32⟩
  | 8 => ⟨S32x1x2048, .f32⟩
  | 9 => ⟨S_, .f32⟩
  | 10 => ⟨S32x1, .f32⟩
  | 11 => ⟨S32x1x1, .f32⟩
  | 12 => ⟨S_, .f32⟩
  | 13 => ⟨S32x1x1, .f32⟩
  | 14 => ⟨S32x1x1, .f32⟩
  | 15 => ⟨S_, .f32⟩
  | 16 => ⟨S32x1x1, .f32⟩
  | 17 => ⟨S32x1x1, .f32⟩
  | 18 => ⟨S32x1x1, .f32⟩
  | 19 => ⟨S32x1x2048, .f32⟩
  | 20 => ⟨S32x1x2048, .f32⟩
  | 21 => ⟨S1x1x2048, .f32⟩
  | 22 => ⟨S32x1x2048, .f32⟩
  | 23 => ⟨S32x1x2048, .f32⟩
  | 24 => ⟨S2048x10832, .f32⟩
  | 25 => ⟨S32x1x10832, .f32⟩
  | 26 => ⟨S32x1x1024, .f32⟩
  | 27 => ⟨S32x1x1024, .f32⟩
  | 28 => ⟨S32x1x1024, .f32⟩
  | 29 => ⟨S32x1x1024, .f32⟩
  | 30 => ⟨S32x1x256, .f32⟩
  | 31 => ⟨S32x1x256, .f32⟩
  | 32 => ⟨S32x1x1024, .f32⟩
  | 33 => ⟨S32x1x1024, .f32⟩
  | 34 => ⟨S32x1x64, .f32⟩
  | 35 => ⟨S32x1x16, .f32⟩
  | 36 => ⟨S32x1x2048, .f32⟩
  | 37 => ⟨S32x1x2048, .f32⟩
  | 38 => ⟨S32x1x2x128, .f32⟩
  | 39 => ⟨S64, .f32⟩
  | 40 => ⟨S64, .f32⟩
  | 41 => ⟨S_, .f32⟩
  | 42 => ⟨S64, .f32⟩
  | 43 => ⟨S64, .f32⟩
  | 44 => ⟨S_, .f32⟩
  | 45 => ⟨S64, .f32⟩
  | 46 => ⟨S64, .f32⟩
  | 47 => ⟨S1, .f32⟩
  | 48 => ⟨S1x1, .f32⟩
  | 49 => ⟨S1x64, .f32⟩
  | 50 => ⟨S1x64, .f32⟩
  | 51 => ⟨S1x64, .f32⟩
  | 52 => ⟨S1x64, .f32⟩
  | 53 => ⟨S1x1x64, .f32⟩
  | 54 => ⟨S1x64, .f32⟩
  | 55 => ⟨S1x1x64, .f32⟩
  | 56 => ⟨S32x1x2x64, .f32⟩
  | 57 => ⟨S32x1x2x64, .f32⟩
  | 58 => ⟨S1x1x1x64, .f32⟩
  | 59 => ⟨S32x1x2x64, .f32⟩
  | 60 => ⟨S32x1x2x64, .f32⟩
  | 61 => ⟨S1x1x1x64, .f32⟩
  | 62 => ⟨S32x1x2x64, .f32⟩
  | 63 => ⟨S32x1x2x64, .f32⟩
  | 64 => ⟨S32x1x2x64, .f32⟩
  | 65 => ⟨S1x1x1x64, .f32⟩
  | 66 => ⟨S32x1x2x64, .f32⟩
  | 67 => ⟨S32x1x2x64, .f32⟩
  | 68 => ⟨S1x1x1x64, .f32⟩
  | 69 => ⟨S32x1x2x64, .f32⟩
  | 70 => ⟨S32x1x2x64, .f32⟩
  | 71 => ⟨S32x1x2x64, .f32⟩
  | 72 => ⟨S32x1x2x128, .f32⟩
  | 73 => ⟨S32x1x1x64, .f32⟩
  | 74 => ⟨S32, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S1, .f32⟩
  | 83 => ⟨S1x1, .f32⟩
  | 84 => ⟨S1x32, .f32⟩
  | 85 => ⟨S1x32, .f32⟩
  | 86 => ⟨S1x32, .f32⟩
  | 87 => ⟨S1x32, .f32⟩
  | 88 => ⟨S1x1x32, .f32⟩
  | 89 => ⟨S1x32, .f32⟩
  | 90 => ⟨S1x1x32, .f32⟩
  | 91 => ⟨S32x1x1x32, .f32⟩
  | 92 => ⟨S32x1x1x32, .f32⟩
  | 93 => ⟨S1x1x1x32, .f32⟩
  | 94 => ⟨S32x1x1x32, .f32⟩
  | 95 => ⟨S32x1x1x32, .f32⟩
  | 96 => ⟨S1x1x1x32, .f32⟩
  | 97 => ⟨S32x1x1x32, .f32⟩
  | 98 => ⟨S32x1x1x32, .f32⟩
  | 99 => ⟨S32x1x1x32, .f32⟩
  | 100 => ⟨S1x1x1x32, .f32⟩
  | 101 => ⟨S32x1x1x32, .f32⟩
  | 102 => ⟨S32x1x1x32, .f32⟩
  | 103 => ⟨S1x1x1x32, .f32⟩
  | 104 => ⟨S32x1x1x32, .f32⟩
  | 105 => ⟨S32x1x1x32, .f32⟩
  | 106 => ⟨S32x1x1x32, .f32⟩
  | 107 => ⟨S32x1x1x64, .f32⟩
  | 108 => ⟨S32x1x64, .f32⟩
  | 109 => ⟨S_, .f32⟩
  | 110 => ⟨S32x1x16, .f32⟩
  | 111 => ⟨S32x1x16, .f32⟩
  | 112 => ⟨S_, .f32⟩
  | 113 => ⟨S32x1x16, .f32⟩
  | 114 => ⟨S32x1x16, .f32⟩
  | 115 => ⟨S_, .f32⟩
  | 116 => ⟨S32x64, .f32⟩
  | 117 => ⟨S32x2048, .f32⟩
  | 118 => ⟨S32x2048, .bf16⟩
  | 119 => ⟨S32x2x128, .f32⟩
  | 120 => ⟨S32x2x128, .f32⟩
  | 121 => ⟨S32x64, .f32⟩
  | 122 => ⟨S32x256, .f32⟩
  | 123 => ⟨S32x256, .bf16⟩
  | 124 => ⟨S32x64, .f32⟩
  | 125 => ⟨S32x128, .f32⟩
  | 126 => ⟨S32x128, .bf16⟩
  | 127 => ⟨S32x64, .f32⟩
  | _ => ⟨S32x1x2048, .f32⟩

abbrev hbmTy0_1 (i : Nat) : BufTy := match i % 128 with
  | 0 => ⟨S32x128, .f32⟩
  | 1 => ⟨S32x128, .bf16⟩
  | 2 => ⟨S32x256, .f32⟩
  | 3 => ⟨S32x256, .bf16⟩
  | 4 => ⟨S32x16, .f32⟩
  | _ => ⟨S32x1x2048, .f32⟩

abbrev hbmTy (i : Nat) : BufTy := match i / 128 with
  | 0 => hbmTy0_0 i
  | 1 => hbmTy0_1 i
  | _ => ⟨S32x1x2048, .f32⟩

abbrev bufTy : (tb : Table) → Fin (tcTables nBuf tb) → BufTy
  | .hbm, ⟨i, _⟩ => hbmTy i
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_4 : Ref sig .tc := ⟨.hbm, 76, rfl⟩
abbrev main_v67 : Ref sig .tc := ⟨.hbm, 77, rfl⟩
abbrev main_v68 : Ref sig .tc := ⟨.hbm, 78, rfl⟩
abbrev main_cst_5 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_cst_6 : Ref sig .tc := ⟨.hbm, 109, rfl⟩
abbrev main_v98 : Ref sig .tc := ⟨.hbm, 110, rfl⟩
abbrev main_v99 : Ref sig .tc := ⟨.hbm, 111, rfl⟩
abbrev main_cst_7 : Ref sig .tc := ⟨.hbm, 112, rfl⟩
abbrev main_v100 : Ref sig .tc := ⟨.hbm, 113, rfl⟩
abbrev main_v101 : Ref sig .tc := ⟨.hbm, 114, rfl⟩
abbrev main_cst_8 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩

abbrev nD : Nat := 1
abbrev τ : Topo := Topo.v7x

variable {F : FTy → Type} [FloatOps F]
-- ==== Proof.Contents.lean ====
module

public import proofs.«01_k».proof.Proof.Gen.KernelIdeal.Frame
public import proofs.«01_k».proof.Proof.Gen.KernelIdeal.Skeleton

@[expose] public section

set_option maxRecDepth 16384

noncomputable section

namespace Cert.Proof.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! What one run of the kernel body computes, buffer by buffer, as functions of the contents it finds. The body works through the 1024 columns
of a tile in four chunks of 256 columns, so each result is stated as the four (for the rotations: eight) pieces it is stored in. -/

/-- Columns 0–255 of a row tile. -/
abbrev ck0 : Rect S512x1024 := Rect.unit ![0, 0] S512x256.size inb_S512x1024_S512x256_0_0
/-- Weight rows 0–255 of a column tile. -/
abbrev wr0 : Rect S1024x2048 := Rect.unit ![0, 0] S256x2048.size inb_S1024x2048_S256x2048_0_0
/-- Entries 0–255 of a row of 1024. -/
abbrev gr0 : Rect S1x1024 := Rect.unit ![0, 0] S1x256.size inb_S1x1024_S1x256_0_0
/-- Columns 0–255 of a gate tile. -/
abbrev gv0 : Rect S128x1024 := Rect.unit ![0, 0] S128x256.size inb_S128x1024_S128x256_0_0
/-- Columns 256–511 of a row tile. -/
abbrev ck1 : Rect S512x1024 := Rect.unit ![0, 256] S512x256.size inb_S512x1024_S512x256_0_256
/-- Weight rows 256–511 of a column tile. -/
abbrev wr1 : Rect S1024x2048 := Rect.unit ![256, 0] S256x2048.size inb_S1024x2048_S256x2048_256_0
/-- Entries 256–511 of a row of 1024. -/
abbrev gr1 : Rect S1x1024 := Rect.unit ![0, 256] S1x256.size inb_S1x1024_S1x256_0_256
/-- Columns 256–511 of a gate tile. -/
abbrev gv1 : Rect S128x1024 := Rect.unit ![0, 256] S128x256.size inb_S128x1024_S128x256_0_256
/-- Columns 512–767 of a row tile. -/
abbrev ck2 : Rect S512x1024 := Rect.unit ![0, 512] S512x256.size inb_S512x1024_S512x256_0_512
/-- Weight rows 512–767 of a column tile. -/
abbrev wr2 : Rect S1024x2048 := Rect.unit ![512, 0] S256x2048.size inb_S1024x2048_S256x2048_512_0
/-- Entries 512–767 of a row of 1024. -/
abbrev gr2 : Rect S1x1024 := Rect.unit ![0, 512] S1x256.size inb_S1x1024_S1x256_0_512
/-- Columns 512–767 of a gate tile. -/
abbrev gv2 : Rect S128x1024 := Rect.unit ![0, 512] S128x256.size inb_S128x1024_S128x256_0_512
/-- Columns 768–1023 of a row tile. -/
abbrev ck3 : Rect S512x1024 := Rect.unit ![0, 768] S512x256.size inb_S512x1024_S512x256_0_768
/-- Weight rows 768–1023 of a column tile. -/
abbrev wr3 : Rect S1024x2048 := Rect.unit ![768, 0] S256x2048.size inb_S1024x2048_S256x2048_768_0
/-- Entries 768–1023 of a row of 1024. -/
abbrev gr3 : Rect S1x1024 := Rect.unit ![0, 768] S1x256.size inb_S1x1024_S1x256_0_768
/-- Columns 768–1023 of a gate tile. -/
abbrev gv3 : Rect S128x1024 := Rect.unit ![0, 768] S128x256.size inb_S128x1024_S128x256_0_768
/-- Columns 0–127 of a row tile. -/
abbrev hd0 : Rect S512x1024 := Rect.unit ![0, 0] S512x128.size inb_S512x1024_S512x128_0_0
/-- Columns 128–255 of a row tile. -/
abbrev hd1 : Rect S512x1024 := Rect.unit ![0, 128] S512x128.size inb_S512x1024_S512x128_0_128
/-- Columns 256–383 of a row tile. -/
abbrev hd2 : Rect S512x1024 := Rect.unit ![0, 256] S512x128.size inb_S512x1024_S512x128_0_256
/-- Columns 384–511 of a row tile. -/
abbrev hd3 : Rect S512x1024 := Rect.unit ![0, 384] S512x128.size inb_S512x1024_S512x128_0_384
/-- Columns 512–639 of a row tile. -/
abbrev hd4 : Rect S512x1024 := Rect.unit ![0, 512] S512x128.size inb_S512x1024_S512x128_0_512
/-- Columns 640–767 of a row tile. -/
abbrev hd5 : Rect S512x1024 := Rect.unit ![0, 640] S512x128.size inb_S512x1024_S512x128_0_640
/-- Columns 768–895 of a row tile. -/
abbrev hd6 : Rect S512x1024 := Rect.unit ![0, 768] S512x128.size inb_S512x1024_S512x128_0_768
/-- Columns 896–1023 of a row tile. -/
abbrev hd7 : Rect S512x1024 := Rect.unit ![0, 896] S512x128.size inb_S512x1024_S512x128_0_896
/-- All of an activation tile. -/
abbrev xAll : Rect S512x2048 := Rect.unit ![0, 0] S512x2048.size inb_S512x2048_S512x2048_0_0
/-- All of a weight chunk. -/
abbrev wAll : Rect S256x2048 := Rect.unit ![0, 0] S256x2048.size inb_S256x2048_S256x2048_0_0
/-- All of a row tile. -/
abbrev tAll : Rect S512x1024 := Rect.unit ![0, 0] S512x1024.size inb_S512x1024_S512x1024_0_0
/-- All of a rotation table's tile. -/
abbrev rAll : Rect S512x128 := Rect.unit ![0, 0] S512x128.size inb_S512x128_S512x128_0_0
/-- All of a gate tile. -/
abbrev gAll : Rect S128x1024 := Rect.unit ![0, 0] S128x1024.size inb_S128x1024_S128x1024_0_0

/-- The four weight chunks, cast, one under the other. -/
def castW (x1 x2 x3 x4 : Vec F S256x2048 .f32) : Vec F S1024x2048 .bf16 :=
  View.canon [⟨wr3, k0_pay4 (View.ld x4 wAll)⟩, ⟨wr2, k0_pay4 (View.ld x3 wAll)⟩, ⟨wr1, k0_pay4 (View.ld x2 wAll)⟩, ⟨wr0, k0_pay4 (View.ld x1 wAll)⟩]
/-- The product of an activation tile with the cast weights, chunk by chunk. -/
def prod (x : Vec F S512x2048 .bf16) (w : Vec F S1024x2048 .bf16) : Vec F S512x1024 .f32 :=
  View.canon [⟨ck3, k0_pay8 (View.ld x xAll) (View.ld w wr3)⟩, ⟨ck2, k0_pay8 (View.ld x xAll) (View.ld w wr2)⟩, ⟨ck1, k0_pay8 (View.ld x xAll) (View.ld w wr1)⟩, ⟨ck0, k0_pay8 (View.ld x xAll) (View.ld w wr0)⟩]
/-- The product, cast. -/
def finCopy (a : Vec F S512x1024 .f32) : Vec F S512x1024 .bf16 :=
  View.canon [⟨ck3, k0_pay11 (View.ld a ck3)⟩, ⟨ck2, k0_pay11 (View.ld a ck2)⟩, ⟨ck1, k0_pay11 (View.ld a ck1)⟩, ⟨ck0, k0_pay11 (View.ld a ck0)⟩]
/-- The logistic function of the product. -/
def finSigmoid (a : Vec F S512x1024 .f32) : Vec F S512x1024 .bf16 :=
  View.canon [⟨ck3, k0_pay150 (View.ld a ck3)⟩, ⟨ck2, k0_pay150 (View.ld a ck2)⟩, ⟨ck1, k0_pay150 (View.ld a ck1)⟩, ⟨ck0, k0_pay150 (View.ld a ck0)⟩]
/-- The product times its logistic function. -/
def finSilu (a : Vec F S512x1024 .f32) : Vec F S512x1024 .bf16 :=
  View.canon [⟨ck3, k0_pay163 (View.ld a ck3)⟩, ⟨ck2, k0_pay163 (View.ld a ck2)⟩, ⟨ck1, k0_pay163 (View.ld a ck1)⟩, ⟨ck0, k0_pay163 (View.ld a ck0)⟩]
/-- The product, each row normalised to mean 0 and variance 1 and then scaled and shifted. -/
def finLn (a : Vec F S512x1024 .f32) (g b : Vec F S1x1024 .f32) : Vec F S512x1024 .bf16 :=
  View.canon [⟨ck3, k0_pay20 (View.ld a tAll) (View.ld a ck3) (View.ld g gr3) (View.ld b gr3)⟩, ⟨ck2, k0_pay20 (View.ld a tAll) (View.ld a ck2) (View.ld g gr2) (View.ld b gr2)⟩, ⟨ck1, k0_pay20 (View.ld a tAll) (View.ld a ck1) (View.ld g gr1) (View.ld b gr1)⟩, ⟨ck0, k0_pay20 (View.ld a tAll) (View.ld a ck0) (View.ld g gr0) (View.ld b gr0)⟩]
/-- The last 128 rows of the same before the cast. -/
def gvLn (a : Vec F S512x1024 .f32) (g b : Vec F S1x1024 .f32) : Vec F S128x1024 .f32 :=
  View.canon [⟨gv3, k0_pay21 (View.ld a tAll) (View.ld a ck3) (View.ld g gr3) (View.ld b gr3)⟩, ⟨gv2, k0_pay21 (View.ld a tAll) (View.ld a ck2) (View.ld g gr2) (View.ld b gr2)⟩, ⟨gv1, k0_pay21 (View.ld a tAll) (View.ld a ck1) (View.ld g gr1) (View.ld b gr1)⟩, ⟨gv0, k0_pay21 (View.ld a tAll) (View.ld a ck0) (View.ld g gr0) (View.ld b gr0)⟩]
/-- A gate tile of zeros. -/
def gvZero : Vec F S128x1024 .f32 := View.canon [⟨gAll, k0_pay177⟩]
/-- The product with each group of 128 columns rotated against the group shifted by 64. -/
def finRope128 (a : Vec F S512x1024 .f32) (co si : Vec F S512x128 .f32) : Vec F S512x1024 .bf16 :=
  View.canon [⟨hd7, k0_pay53 (View.ld a ck3) (View.ld co rAll) (View.ld si rAll)⟩, ⟨hd6, k0_pay52 (View.ld a ck3) (View.ld co rAll) (View.ld si rAll)⟩, ⟨hd5, k0_pay53 (View.ld a ck2) (View.ld co rAll) (View.ld si rAll)⟩, ⟨hd4, k0_pay52 (View.ld a ck2) (View.ld co rAll) (View.ld si rAll)⟩, ⟨hd3, k0_pay53 (View.ld a ck1) (View.ld co rAll) (View.ld si rAll)⟩, ⟨hd2, k0_pay52 (View.ld a ck1) (View.ld co rAll) (View.ld si rAll)⟩, ⟨hd1, k0_pay53 (View.ld a ck0) (View.ld co rAll) (View.ld si rAll)⟩, ⟨hd0, k0_pay52 (View.ld a ck0) (View.ld co rAll) (View.ld si rAll)⟩]
/-- The product with each group of 64 columns rotated against the group shifted by 32. -/
def finRope64 (a : Vec F S512x1024 .f32) (co si : Vec F S512x128 .f32) : Vec F S512x1024 .bf16 :=
  View.canon [⟨hd7, k0_pay119 (View.ld a ck3) (k0_pay114 (View.ld co rAll)) (k0_pay115 (View.ld si rAll))⟩, ⟨hd6, k0_pay89 (View.ld a ck3) (View.ld co rAll) (View.ld si rAll)⟩, ⟨hd5, k0_pay119 (View.ld a ck2) (k0_pay114 (View.ld co rAll)) (k0_pay115 (View.ld si rAll))⟩, ⟨hd4, k0_pay89 (View.ld a ck2) (View.ld co rAll) (View.ld si rAll)⟩, ⟨hd3, k0_pay119 (View.ld a ck1) (k0_pay114 (View.ld co rAll)) (k0_pay115 (View.ld si rAll))⟩, ⟨hd2, k0_pay89 (View.ld a ck1) (View.ld co rAll) (View.ld si rAll)⟩, ⟨hd1, k0_pay119 (View.ld a ck0) (k0_pay114 (View.ld co rAll)) (k0_pay115 (View.ld si rAll))⟩, ⟨hd0, k0_pay89 (View.ld a ck0) (View.ld co rAll) (View.ld si rAll)⟩]

/-- The branches of the body taken at a grid point: exactly those listed. -/
def Takes (i : grid0.Coords) (l : List ℕ) : Prop :=
  (k0_cond1 i = 1#1 ↔ 1 ∈ l) ∧ (k0_cond2 i = 1#1 ↔ 2 ∈ l) ∧ (k0_cond3 i = 1#1 ↔ 3 ∈ l) ∧ (k0_cond4 i = 1#1 ↔ 4 ∈ l) ∧ (k0_cond5 i = 1#1 ↔ 5 ∈ l) ∧ (k0_cond6 i = 1#1 ↔ 6 ∈ l) ∧ (k0_cond7 i = 1#1 ↔ 7 ∈ l) ∧ (k0_cond8 i = 1#1 ↔ 8 ∈ l) ∧ (k0_cond9 i = 1#1 ↔ 9 ∈ l) ∧ (k0_cond10 i = 1#1 ↔ 10 ∈ l) ∧ (k0_cond11 i = 1#1 ↔ 11 ∈ l) ∧ (k0_cond12 i = 1#1 ↔ 12 ∈ l) ∧ (k0_cond13 i = 1#1 ↔ 13 ∈ l) ∧ (k0_cond14 i = 1#1 ↔ 14 ∈ l)

/-- The eleven inputs of the body, at their contents. -/
def inputs (c : Dev nD) (arg2 : Memref sig .tc .vmem S512x2048 .bf16) (arg3 : Memref sig .tc .vmem S256x2048 .f32) (arg4 : Memref sig .tc .vmem S256x2048 .f32) (arg5 : Memref sig .tc .vmem S256x2048 .f32) (arg6 : Memref sig .tc .vmem S256x2048 .f32) (arg7 : Memref sig .tc .vmem S512x128 .f32) (arg8 : Memref sig .tc .vmem S512x128 .f32) (arg9 : Memref sig .tc .vmem S512x128 .f32) (arg10 : Memref sig .tc .vmem S512x128 .f32) (arg11 : Memref sig .tc .vmem S1x1024 .f32) (arg12 : Memref sig .tc .vmem S1x1024 .f32) (x0 : Vec F S512x2048 .bf16) (x1 : Vec F S256x2048 .f32) (x2 : Vec F S256x2048 .f32) (x3 : Vec F S256x2048 .f32) (x4 : Vec F S256x2048 .f32) (x5 : Vec F S512x128 .f32) (x6 : Vec F S512x128 .f32) (x7 : Vec F S512x128 .f32) (x8 : Vec F S512x128 .f32) (x9 : Vec F S1x1024 .f32) (x10 : Vec F S1x1024 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10)

end Cert.Proof.Main

end
-- ==== Proof.RunStart.lean ====
module

public import proofs.«01_k».proof.Proof.Contents

@[expose] public section

set_option maxRecDepth 16384

noncomputable section

namespace Cert.Proof.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x2048 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .bf16) (harg13 : arg13.IsWhole) (arg14 : Memref sig .tc .vmem S128x1024 .f32) (harg14 : arg14.IsWhole) (arg15 : Memref sig .tc .vmem S1024x2048 .bf16) (harg15 : arg15.IsWhole) (arg16 : Memref sig .tc .vmem S512x1024 .f32) (harg16 : arg16.IsWhole)
  (x0 : Vec F S512x2048 .bf16) (x1 : Vec F S256x2048 .f32) (x2 : Vec F S256x2048 .f32) (x3 : Vec F S256x2048 .f32) (x4 : Vec F S256x2048 .f32) (x5 : Vec F S512x128 .f32) (x6 : Vec F S512x128 .f32) (x7 : Vec F S512x128 .f32) (x8 : Vec F S512x128 .f32) (x9 : Vec F S1x1024 .f32) (x10 : Vec F S1x1024 .f32)

set_option maxHeartbeats 8000000 in
/-- The first run over a column tile, not the normalised one: the weights are cast, the first product made, the gate tile cleared. -/
theorem start_other (hc : Takes i [1, 2]) (h : Vec F S512x1024 .bf16) (g : Vec F S128x1024 .f32) (w : Vec F S1024x2048 .bf16) (a : Vec F S512x1024 .f32) (E : Set ℕ) (K : PUnit → sProp 𝕄) :
    iprop(inputs c arg2 arg3 arg4 arg5 arg6 arg7 arg8 arg9 arg10 arg11 arg12 x0 x1 x2 x3 x4 x5 x6 x7 x8 x9 x10 ∗ owns (c : Thread nD τ) arg13 fullShare h ∗ owns (c : Thread nD τ) arg14 fullShare g ∗ owns (c : Thread nD τ) arg15 fullShare w ∗ owns (c : Thread nD τ) arg16 fullShare a
      ∗ (iprop(inputs c arg2 arg3 arg4 arg5 arg6 arg7 arg8 arg9 arg10 arg11 arg12 x0 x1 x2 x3 x4 x5 x6 x7 x8 x9 x10 ∗ owns (c : Thread nD τ) arg13 fullShare h ∗ owns (c : Thread nD τ) arg14 fullShare gvZero ∗ owns (c : Thread nD τ) arg15 fullShare (castW x1 x2 x3 x4) ∗ owns (c : Thread nD τ) arg16 fullShare (prod x0 (castW x1 x2 x3 x4))) -∗ K ⟨⟩))
    ⊢ wp frame (wpE (defs₀ (F := F)) Variants.none c none) E (cc0_proj_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨c1, c2, c3, c4, c5, c6, c7, c8, c9, c10, c11, c12, c13, c14⟩ := hc
  have hc1 : k0_cond1 i = 1#1 := c1.mpr (by decide)
  have hc2 : k0_cond2 i = 1#1 := c2.mpr (by decide)
  have hc3 : ¬k0_cond3 i = 1#1 := fun e => absurd (c3.mp e) (by decide)
  have hc4 : ¬k0_cond4 i = 1#1 := fun e => absurd (c4.mp e) (by decide)
  have hc5 : ¬k0_cond5 i = 1#1 := fun e => absurd (c5.mp e) (by decide)
  have hc6 : ¬k0_cond6 i = 1#1 := fun e => absurd (c6.mp e) (by decide)
  have hc7 : ¬k0_cond7 i = 1#1 := fun e => absurd (c7.mp e) (by decide)
  have hc8 : ¬k0_cond8 i = 1#1 := fun e => absurd (c8.mp e) (by decide)
  have hc9 : ¬k0_cond9 i = 1#1 := fun e => absurd (c9.mp e) (by decide)
  have hc10 : ¬k0_cond10 i = 1#1 := fun e => absurd (c10.mp e) (by decide)
  have hc11 : ¬k0_cond11 i = 1#1 := fun e => absurd (c11.mp e) (by decide)
  have hc12 : ¬k0_cond12 i = 1#1 := fun e => absurd (c12.mp e) (by decide)
  have hc13 : ¬k0_cond13 i = 1#1 := fun e => absurd (c13.mp e) (by decide)
  have hc14 : ¬k0_cond14 i = 1#1 := fun e => absurd (c14.mp e) (by decide)
  simp only [cc0_proj_main_eq_skeleton]; unfold cc0_proj_main_skel
  simp only [k0_part32_eq_skeleton, k0_part33_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%f12, %hf12, H12⟩, ⟨%f13, %hf13, H13⟩, ⟨%f14, %hf14, H14⟩, Hk⟩
  subst hf0; subst hf1; subst hf2; subst hf3; subst hf4; subst hf5; subst hf6; subst hf7; subst hf8; subst hf9; subst hf10; subst hf11; subst hf12; subst hf13; subst hf14
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14)
  sl_step
  iapply Hk
  isplitl [H0 H1 H2 H3 H4 H5 H6 H7 H8 H9 H10]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    iexists _; isplitr; swap; · iexact H10
    ipureintro; rfl
  isplitl [H11]
  · iexists _; isplitr; swap; · iexact H11
    ipureintro
    rfl
  isplitl [H12]
  · iexists _; isplitr; swap; · iexact H12
    ipureintro
    refine Eq.trans (View.read_writes_eq_canon (Val := Elt F) arg14.view _ _ (View.cover_of_tiledL _ S128x1024.size ?_)) ?_
    · sl_kernel_rfl
    rfl
  isplitl [H13]
  · iexists _; isplitr; swap; · iexact H13
    ipureintro
    refine Eq.trans (View.read_writes_eq_canon (Val := Elt F) arg15.view _ _ (View.cover_of_tiledL _ S256x2048.size ?_)) ?_
    · sl_kernel_rfl
    rfl
  iexists _; isplitr; swap; · iexact H14
  ipureintro
  refine Eq.trans (View.read_writes_eq_canon (Val := Elt F) arg16.view _ _ (View.cover_of_tiledL _ S512x256.size ?_)) ?_
  · sl_kernel_rfl
  have hw : ∀ r : Rect S1024x2048, arg15.view.readCov (start_other.sl.H13_4 c arg3 arg4 arg5 arg6 f1 f2 f3 f4) r.toLoadRect
      = View.ld (castW (arg3.view.read _ f1) (arg4.view.read _ f2) (arg5.view.read _ f3) (arg6.view.read _ f4)) r := fun r => by
    refine Eq.trans (View.readCov_eq_canon_ld (Val := Elt F) arg15.view _ r (View.cover_of_tiledL _ S256x2048.size ?_)) ?_
    · sl_kernel_rfl
    rfl
  delta start_other.sl.r_1 start_other.sl.r start_other.sl.v124 start_other.sl.v116 start_other.sl.v108 start_other.sl.v100
  rw [hw, hw, hw, hw]
  rfl

set_option maxHeartbeats 8000000 in
/-- The first run over the normalised column tile: the weights are cast and the first product made. -/
theorem start_ln (hc : Takes i [1]) (h : Vec F S512x1024 .bf16) (g : Vec F S128x1024 .f32) (w : Vec F S1024x2048 .bf16) (a : Vec F S512x1024 .f32) (E : Set ℕ) (K : PUnit → sProp 𝕄) :
    iprop(inputs c arg2 arg3 arg4 arg5 arg6 arg7 arg8 arg9 arg10 arg11 arg12 x0 x1 x2 x3 x4 x5 x6 x7 x8 x9 x10 ∗ owns (c : Thread nD τ) arg13 fullShare h ∗ owns (c : Thread nD τ) arg14 fullShare g ∗ owns (c : Thread nD τ) arg15 fullShare w ∗ owns (c : Thread nD τ) arg16 fullShare a
      ∗ (iprop(inputs c arg2 arg3 arg4 arg5 arg6 arg7 arg8 arg9 arg10 arg11 arg12 x0 x1 x2 x3 x4 x5 x6 x7 x8 x9 x10 ∗ owns (c : Thread nD τ) arg13 fullShare h ∗ owns (c : Thread nD τ) arg14 fullShare g ∗ owns (c : Thread nD τ) arg15 fullShare (castW x1 x2 x3 x4) ∗ owns (c : Thread nD τ) arg16 fullShare (prod x0 (castW x1 x2 x3 x4))) -∗ K ⟨⟩))
    ⊢ wp frame (wpE (defs₀ (F := F)) Variants.none c none) E (cc0_proj_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨c1, c2, c3, c4, c5, c6, c7, c8, c9, c10, c11, c12, c13, c14⟩ := hc
  have hc1 : k0_cond1 i = 1#1 := c1.mpr (by decide)
  have hc2 : ¬k0_cond2 i = 1#1 := fun e => absurd (c2.mp e) (by decide)
  have hc3 : ¬k0_cond3 i = 1#1 := fun e => absurd (c3.mp e) (by decide)
  have hc4 : ¬k0_cond4 i = 1#1 := fun e => absurd (c4.mp e) (by decide)
  have hc5 : ¬k0_cond5 i = 1#1 := fun e => absurd (c5.mp e) (by decide)
  have hc6 : ¬k0_cond6 i = 1#1 := fun e => absurd (c6.mp e) (by decide)
  have hc7 : ¬k0_cond7 i = 1#1 := fun e => absurd (c7.mp e) (by decide)
  have hc8 : ¬k0_cond8 i = 1#1 := fun e => absurd (c8.mp e) (by decide)
  have hc9 : ¬k0_cond9 i = 1#1 := fun e => absurd (c9.mp e) (by decide)
  have hc10 : ¬k0_cond10 i = 1#1 := fun e => absurd (c10.mp e) (by decide)
  have hc11 : ¬k0_cond11 i = 1#1 := fun e => absurd (c11.mp e) (by decide)
  have hc12 : ¬k0_cond12 i = 1#1 := fun e => absurd (c12.mp e) (by decide)
  have hc13 : ¬k0_cond13 i = 1#1 := fun e => absurd (c13.mp e) (by decide)
  have hc14 : ¬k0_cond14 i = 1#1 := fun e => absurd (c14.mp e) (by decide)
  simp only [cc0_proj_main_eq_skeleton]; unfold cc0_proj_main_skel
  simp only [k0_part32_eq_skeleton, k0_part33_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%f12, %hf12, H12⟩, ⟨%f13, %hf13, H13⟩, ⟨%f14, %hf14, H14⟩, Hk⟩
  subst hf0; subst hf1; subst hf2; subst hf3; subst hf4; subst hf5; subst hf6; subst hf7; subst hf8; subst hf9; subst hf10; subst hf11; subst hf12; subst hf13; subst hf14
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14)
  sl_step
  iapply Hk
  isplitl [H0 H1 H2 H3 H4 H5 H6 H7 H8 H9 H10]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    iexists _; isplitr; swap; · iexact H10
    ipureintro; rfl
  isplitl [H11]
  · iexists _; isplitr; swap; · iexact H11
    ipureintro
    rfl
  isplitl [H12]
  · iexists _; isplitr; swap; · iexact H12
    ipureintro
    rfl
  isplitl [H13]
  · iexists _; isplitr; swap; · iexact H13
    ipureintro
    refine Eq.trans (View.read_writes_eq_canon (Val := Elt F) arg15.view _ _ (View.cover_of_tiledL _ S256x2048.size ?_)) ?_
    · sl_kernel_rfl
    rfl
  iexists _; isplitr; swap; · iexact H14
  ipureintro
  refine Eq.trans (View.read_writes_eq_canon (Val := Elt F) arg16.view _ _ (View.cover_of_tiledL _ S512x256.size ?_)) ?_
  · sl_kernel_rfl
  have hw : ∀ r : Rect S1024x2048, arg15.view.readCov (start_ln.sl.H13_4 c arg3 arg4 arg5 arg6 f1 f2 f3 f4) r.toLoadRect
      = View.ld (castW (arg3.view.read _ f1) (arg4.view.read _ f2) (arg5.view.read _ f3) (arg6.view.read _ f4)) r := fun r => by
    refine Eq.trans (View.readCov_eq_canon_ld (Val := Elt F) arg15.view _ r (View.cover_of_tiledL _ S256x2048.size ?_)) ?_
    · sl_kernel_rfl
    rfl
  delta start_ln.sl.r_1 start_ln.sl.r start_ln.sl.v124 start_ln.sl.v116 start_ln.sl.v108 start_ln.sl.v100
  rw [hw, hw, hw, hw]
  rfl

end Cert.Proof.Main

end
-- ==== Proof.RunCopy.lean ====
module

public import proofs.«01_k».proof.Proof.Contents

@[expose] public section

set_option maxRecDepth 16384

noncomputable section

namespace Cert.Proof.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x2048 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .bf16) (harg13 : arg13.IsWhole) (arg14 : Memref sig .tc .vmem S128x1024 .f32) (harg14 : arg14.IsWhole) (arg15 : Memref sig .tc .vmem S1024x2048 .bf16) (harg15 : arg15.IsWhole) (arg16 : Memref sig .tc .vmem S512x1024 .f32) (harg16 : arg16.IsWhole)
  (x0 : Vec F S512x2048 .bf16) (x1 : Vec F S256x2048 .f32) (x2 : Vec F S256x2048 .f32) (x3 : Vec F S256x2048 .f32) (x4 : Vec F S256x2048 .f32) (x5 : Vec F S512x128 .f32) (x6 : Vec F S512x128 .f32) (x7 : Vec F S512x128 .f32) (x8 : Vec F S512x128 .f32) (x9 : Vec F S1x1024 .f32) (x10 : Vec F S1x1024 .f32)

set_option maxHeartbeats 8000000 in
/-- A run in the middle of a column tile: the product the run before left is copied and stored, and the next product made. -/
theorem mid_copy (hc : Takes i [3]) (h : Vec F S512x1024 .bf16) (g : Vec F S128x1024 .f32) (w : Vec F S1024x2048 .bf16) (a : Vec F S512x1024 .f32) (E : Set ℕ) (K : PUnit → sProp 𝕄) :
    iprop(inputs c arg2 arg3 arg4 arg5 arg6 arg7 arg8 arg9 arg10 arg11 arg12 x0 x1 x2 x3 x4 x5 x6 x7 x8 x9 x10 ∗ owns (c : Thread nD τ) arg13 fullShare h ∗ owns (c : Thread nD τ) arg14 fullShare g ∗ owns (c : Thread nD τ) arg15 fullShare w ∗ owns (c : Thread nD τ) arg16 fullShare a
      ∗ (iprop(inputs c arg2 arg3 arg4 arg5 arg6 arg7 arg8 arg9 arg10 arg11 arg12 x0 x1 x2 x3 x4 x5 x6 x7 x8 x9 x10 ∗ owns (c : Thread nD τ) arg13 fullShare (finCopy a) ∗ owns (c : Thread nD τ) arg14 fullShare g ∗ owns (c : Thread nD τ) arg15 fullShare w ∗ owns (c : Thread nD τ) arg16 fullShare (prod x0 w)) -∗ K ⟨⟩))
    ⊢ wp frame (wpE (defs₀ (F := F)) Variants.none c none) E (cc0_proj_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨c1, c2, c3, c4, c5, c6, c7, c8, c9, c10, c11, c12, c13, c14⟩ := hc
  have hc1 : ¬k0_cond1 i = 1#1 := fun e => absurd (c1.mp e) (by decide)
  have hc2 : ¬k0_cond2 i = 1#1 := fun e => absurd (c2.mp e) (by decide)
  have hc3 : k0_cond3 i = 1#1 := c3.mpr (by decide)
  have hc4 : ¬k0_cond4 i = 1#1 := fun e => absurd (c4.mp e) (by decide)
  have hc5 : ¬k0_cond5 i = 1#1 := fun e => absurd (c5.mp e) (by decide)
  have hc6 : ¬k0_cond6 i = 1#1 := fun e => absurd (c6.mp e) (by decide)
  have hc7 : ¬k0_cond7 i = 1#1 := fun e => absurd (c7.mp e) (by decide)
  have hc8 : ¬k0_cond8 i = 1#1 := fun e => absurd (c8.mp e) (by decide)
  have hc9 : ¬k0_cond9 i = 1#1 := fun e => absurd (c9.mp e) (by decide)
  have hc10 : ¬k0_cond10 i = 1#1 := fun e => absurd (c10.mp e) (by decide)
  have hc11 : ¬k0_cond11 i = 1#1 := fun e => absurd (c11.mp e) (by decide)
  have hc12 : ¬k0_cond12 i = 1#1 := fun e => absurd (c12.mp e) (by decide)
  have hc13 : ¬k0_cond13 i = 1#1 := fun e => absurd (c13.mp e) (by decide)
  have hc14 : ¬k0_cond14 i = 1#1 := fun e => absurd (c14.mp e) (by decide)
  simp only [cc0_proj_main_eq_skeleton]; unfold cc0_proj_main_skel
  simp only [k0_part32_eq_skeleton, k0_part33_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%f12, %hf12, H12⟩, ⟨%f13, %hf13, H13⟩, ⟨%f14, %hf14, H14⟩, Hk⟩
  subst hf0; subst hf1; subst hf2; subst hf3; subst hf4; subst hf5; subst hf6; subst hf7; subst hf8; subst hf9; subst hf10; subst hf11; subst hf12; subst hf13; subst hf14
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14)
  sl_step
  iapply Hk
  isplitl [H0 H1 H2 H3 H4 H5 H6 H7 H8 H9 H10]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    iexists _; isplitr; swap; · iexact H10
    ipureintro; rfl
  isplitl [H11]
  · iexists _; isplitr; swap; · iexact H11
    ipureintro
    refine Eq.trans (View.read_writes_eq_canon (Val := Elt F) arg13.view _ _ (View.cover_of_tiledL _ S512x256.size ?_)) ?_
    · sl_kernel_rfl
    rfl
  isplitl [H12]
  · iexists _; isplitr; swap; · iexact H12
    ipureintro
    rfl
  isplitl [H13]
  · iexists _; isplitr; swap; · iexact H13
    ipureintro
    rfl
  iexists _; isplitr; swap; · iexact H14
  ipureintro
  refine Eq.trans (View.read_writes_eq_canon (Val := Elt F) arg16.view _ _ (View.cover_of_tiledL _ S512x256.size ?_)) ?_
  · sl_kernel_rfl
  rfl

set_option maxHeartbeats 8000000 in
/-- The last run over a column tile: the product the run before left is copied and stored. -/
theorem last_copy (hc : Takes i [4]) (h : Vec F S512x1024 .bf16) (g : Vec F S128x1024 .f32) (w : Vec F S1024x2048 .bf16) (a : Vec F S512x1024 .f32) (E : Set ℕ) (K : PUnit → sProp 𝕄) :
    iprop(inputs c arg2 arg3 arg4 arg5 arg6 arg7 arg8 arg9 arg10 arg11 arg12 x0 x1 x2 x3 x4 x5 x6 x7 x8 x9 x10 ∗ owns (c : Thread nD τ) arg13 fullShare h ∗ owns (c : Thread nD τ) arg14 fullShare g ∗ owns (c : Thread nD τ) arg15 fullShare w ∗ owns (c : Thread nD τ) arg16 fullShare a
      ∗ (iprop(inputs c arg2 arg3 arg4 arg5 arg6 arg7 arg8 arg9 arg10 arg11 arg12 x0 x1 x2 x3 x4 x5 x6 x7 x8 x9 x10 ∗ owns (c : Thread nD τ) arg13 fullShare (finCopy a) ∗ owns (c : Thread nD τ) arg14 fullShare g ∗ owns (c : Thread nD τ) arg15 fullShare w ∗ owns (c : Thread nD τ) arg16 fullShare a) -∗ K ⟨⟩))
    ⊢ wp frame (wpE (defs₀ (F := F)) Variants.none c none) E (cc0_proj_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨c1, c2, c3, c4, c5, c6, c7, c8, c9, c10, c11, c12, c13, c14⟩ := hc
  have hc1 : ¬k0_cond1 i = 1#1 := fun e => absurd (c1.mp e) (by decide)
  have hc2 : ¬k0_cond2 i = 1#1 := fun e => absurd (c2.mp e) (by decide)
  have hc3 : ¬k0_cond3 i = 1#1 := fun e => absurd (c3.mp e) (by decide)
  have hc4 : k0_cond4 i = 1#1 := c4.mpr (by decide)
  have hc5 : ¬k0_cond5 i = 1#1 := fun e => absurd (c5.mp e) (by decide)
  have hc6 : ¬k0_cond6 i = 1#1 := fun e => absurd (c6.mp e) (by decide)
  have hc7 : ¬k0_cond7 i = 1#1 := fun e => absurd (c7.mp e) (by decide)
  have hc8 : ¬k0_cond8 i = 1#1 := fun e => absurd (c8.mp e) (by decide)
  have hc9 : ¬k0_cond9 i = 1#1 := fun e => absurd (c9.mp e) (by decide)
  have hc10 : ¬k0_cond10 i = 1#1 := fun e => absurd (c10.mp e) (by decide)
  have hc11 : ¬k0_cond11 i = 1#1 := fun e => absurd (c11.mp e) (by decide)
  have hc12 : ¬k0_cond12 i = 1#1 := fun e => absurd (c12.mp e) (by decide)
  have hc13 : ¬k0_cond13 i = 1#1 := fun e => absurd (c13.mp e) (by decide)
  have hc14 : ¬k0_cond14 i = 1#1 := fun e => absurd (c14.mp e) (by decide)
  simp only [cc0_proj_main_eq_skeleton]; unfold cc0_proj_main_skel
  simp only [k0_part32_eq_skeleton, k0_part33_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%f12, %hf12, H12⟩, ⟨%f13, %hf13, H13⟩, ⟨%f14, %hf14, H14⟩, Hk⟩
  subst hf0; subst hf1; subst hf2; subst hf3; subst hf4; subst hf5; subst hf6; subst hf7; subst hf8; subst hf9; subst hf10; subst hf11; subst hf12; subst hf13; subst hf14
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14)
  sl_step
  iapply Hk
  isplitl [H0 H1 H2 H3 H4 H5 H6 H7 H8 H9 H10]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    iexists _; isplitr; swap; · iexact H10
    ipureintro; rfl
  isplitl [H11]
  · iexists _; isplitr; swap; · iexact H11
    ipureintro
    refine Eq.trans (View.read_writes_eq_canon (Val := Elt F) arg13.view _ _ (View.cover_of_tiledL _ S512x256.size ?_)) ?_
    · sl_kernel_rfl
    rfl
  isplitl [H12]
  · iexists _; isplitr; swap; · iexact H12
    ipureintro
    rfl
  isplitl [H13]
  · iexists _; isplitr; swap; · iexact H13
    ipureintro
    rfl
  iexists _; isplitr; swap; · iexact H14
  ipureintro
  rfl

end Cert.Proof.Main

end
-- ==== Proof.RunLn.lean ====
module

public import proofs.«01_k».proof.Proof.Contents

@[expose] public section

set_option maxRecDepth 16384

noncomputable section

namespace Cert.Proof.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x2048 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .bf16) (harg13 : arg13.IsWhole) (arg14 : Memref sig .tc .vmem S128x1024 .f32) (harg14 : arg14.IsWhole) (arg15 : Memref sig .tc .vmem S1024x2048 .bf16) (harg15 : arg15.IsWhole) (arg16 : Memref sig .tc .vmem S512x1024 .f32) (harg16 : arg16.IsWhole)
  (x0 : Vec F S512x2048 .bf16) (x1 : Vec F S256x2048 .f32) (x2 : Vec F S256x2048 .f32) (x3 : Vec F S256x2048 .f32) (x4 : Vec F S256x2048 .f32) (x5 : Vec F S512x128 .f32) (x6 : Vec F S512x128 .f32) (x7 : Vec F S512x128 .f32) (x8 : Vec F S512x128 .f32) (x9 : Vec F S1x1024 .f32) (x10 : Vec F S1x1024 .f32)

set_option maxHeartbeats 8000000 in
/-- A run in the middle of a column tile: the product the run before left is normalised and stored, and the next product made. -/
theorem mid_ln (hc : Takes i [5]) (h : Vec F S512x1024 .bf16) (g : Vec F S128x1024 .f32) (w : Vec F S1024x2048 .bf16) (a : Vec F S512x1024 .f32) (E : Set ℕ) (K : PUnit → sProp 𝕄) :
    iprop(inputs c arg2 arg3 arg4 arg5 arg6 arg7 arg8 arg9 arg10 arg11 arg12 x0 x1 x2 x3 x4 x5 x6 x7 x8 x9 x10 ∗ owns (c : Thread nD τ) arg13 fullShare h ∗ owns (c : Thread nD τ) arg14 fullShare g ∗ owns (c : Thread nD τ) arg15 fullShare w ∗ owns (c : Thread nD τ) arg16 fullShare a
      ∗ (iprop(inputs c arg2 arg3 arg4 arg5 arg6 arg7 arg8 arg9 arg10 arg11 arg12 x0 x1 x2 x3 x4 x5 x6 x7 x8 x9 x10 ∗ owns (c : Thread nD τ) arg13 fullShare (finLn a x9 x10) ∗ owns (c : Thread nD τ) arg14 fullShare (gvLn a x9 x10) ∗ owns (c : Thread nD τ) arg15 fullShare w ∗ owns (c : Thread nD τ) arg16 fullShare (prod x0 w)) -∗ K ⟨⟩))
    ⊢ wp frame (wpE (defs₀ (F := F)) Variants.none c none) E (cc0_proj_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨c1, c2, c3, c4, c5, c6, c7, c8, c9, c10, c11, c12, c13, c14⟩ := hc
  have hc1 : ¬k0_cond1 i = 1#1 := fun e => absurd (c1.mp e) (by decide)
  have hc2 : ¬k0_cond2 i = 1#1 := fun e => absurd (c2.mp e) (by decide)
  have hc3 : ¬k0_cond3 i = 1#1 := fun e => absurd (c3.mp e) (by decide)
  have hc4 : ¬k0_cond4 i = 1#1 := fun e => absurd (c4.mp e) (by decide)
  have hc5 : k0_cond5 i = 1#1 := c5.mpr (by decide)
  have hc6 : ¬k0_cond6 i = 1#1 := fun e => absurd (c6.mp e) (by decide)
  have hc7 : ¬k0_cond7 i = 1#1 := fun e => absurd (c7.mp e) (by decide)
  have hc8 : ¬k0_cond8 i = 1#1 := fun e => absurd (c8.mp e) (by decide)
  have hc9 : ¬k0_cond9 i = 1#1 := fun e => absurd (c9.mp e) (by decide)
  have hc10 : ¬k0_cond10 i = 1#1 := fun e => absurd (c10.mp e) (by decide)
  have hc11 : ¬k0_cond11 i = 1#1 := fun e => absurd (c11.mp e) (by decide)
  have hc12 : ¬k0_cond12 i = 1#1 := fun e => absurd (c12.mp e) (by decide)
  have hc13 : ¬k0_cond13 i = 1#1 := fun e => absurd (c13.mp e) (by decide)
  have hc14 : ¬k0_cond14 i = 1#1 := fun e => absurd (c14.mp e) (by decide)
  simp only [cc0_proj_main_eq_skeleton]; unfold cc0_proj_main_skel
  simp only [k0_part32_eq_skeleton, k0_part33_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%f12, %hf12, H12⟩, ⟨%f13, %hf13, H13⟩, ⟨%f14, %hf14, H14⟩, Hk⟩
  subst hf0; subst hf1; subst hf2; subst hf3; subst hf4; subst hf5; subst hf6; subst hf7; subst hf8; subst hf9; subst hf10; subst hf11; subst hf12; subst hf13; subst hf14
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14)
  sl_step
  iapply Hk
  isplitl [H0 H1 H2 H3 H4 H5 H6 H7 H8 H9 H10]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    iexists _; isplitr; swap; · iexact H10
    ipureintro; rfl
  isplitl [H11]
  · iexists _; isplitr; swap; · iexact H11
    ipureintro
    refine Eq.trans (View.read_writes_eq_canon (Val := Elt F) arg13.view _ _ (View.cover_of_tiledL _ S512x256.size ?_)) ?_
    · sl_kernel_rfl
    rfl
  isplitl [H12]
  · iexists _; isplitr; swap; · iexact H12
    ipureintro
    refine Eq.trans (View.read_writes_eq_canon (Val := Elt F) arg14.view _ _ (View.cover_of_tiledL _ S128x256.size ?_)) ?_
    · sl_kernel_rfl
    rfl
  isplitl [H13]
  · iexists _; isplitr; swap; · iexact H13
    ipureintro
    rfl
  iexists _; isplitr; swap; · iexact H14
  ipureintro
  refine Eq.trans (View.read_writes_eq_canon (Val := Elt F) arg16.view _ _ (View.cover_of_tiledL _ S512x256.size ?_)) ?_
  · sl_kernel_rfl
  rfl

set_option maxHeartbeats 8000000 in
/-- The last run over a column tile: the product the run before left is normalised and stored. -/
theorem last_ln (hc : Takes i [6]) (h : Vec F S512x1024 .bf16) (g : Vec F S128x1024 .f32) (w : Vec F S1024x2048 .bf16) (a : Vec F S512x1024 .f32) (E : Set ℕ) (K : PUnit → sProp 𝕄) :
    iprop(inputs c arg2 arg3 arg4 arg5 arg6 arg7 arg8 arg9 arg10 arg11 arg12 x0 x1 x2 x3 x4 x5 x6 x7 x8 x9 x10 ∗ owns (c : Thread nD τ) arg13 fullShare h ∗ owns (c : Thread nD τ) arg14 fullShare g ∗ owns (c : Thread nD τ) arg15 fullShare w ∗ owns (c : Thread nD τ) arg16 fullShare a
      ∗ (iprop(inputs c arg2 arg3 arg4 arg5 arg6 arg7 arg8 arg9 arg10 arg11 arg12 x0 x1 x2 x3 x4 x5 x6 x7 x8 x9 x10 ∗ owns (c : Thread nD τ) arg13 fullShare (finLn a x9 x10) ∗ owns (c : Thread nD τ) arg14 fullShare (gvLn a x9 x10) ∗ owns (c : Thread nD τ) arg15 fullShare w ∗ owns (c : Thread nD τ) arg16 fullShare a) -∗ K ⟨⟩))
    ⊢ wp frame (wpE (defs₀ (F := F)) Variants.none c none) E (cc0_proj_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨c1, c2, c3, c4, c5, c6, c7, c8, c9, c10, c11, c12, c13, c14⟩ := hc
  have hc1 : ¬k0_cond1 i = 1#1 := fun e => absurd (c1.mp e) (by decide)
  have hc2 : ¬k0_cond2 i = 1#1 := fun e => absurd (c2.mp e) (by decide)
  have hc3 : ¬k0_cond3 i = 1#1 := fun e => absurd (c3.mp e) (by decide)
  have hc4 : ¬k0_cond4 i = 1#1 := fun e => absurd (c4.mp e) (by decide)
  have hc5 : ¬k0_cond5 i = 1#1 := fun e => absurd (c5.mp e) (by decide)
  have hc6 : k0_cond6 i = 1#1 := c6.mpr (by decide)
  have hc7 : ¬k0_cond7 i = 1#1 := fun e => absurd (c7.mp e) (by decide)
  have hc8 : ¬k0_cond8 i = 1#1 := fun e => absurd (c8.mp e) (by decide)
  have hc9 : ¬k0_cond9 i = 1#1 := fun e => absurd (c9.mp e) (by decide)
  have hc10 : ¬k0_cond10 i = 1#1 := fun e => absurd (c10.mp e) (by decide)
  have hc11 : ¬k0_cond11 i = 1#1 := fun e => absurd (c11.mp e) (by decide)
  have hc12 : ¬k0_cond12 i = 1#1 := fun e => absurd (c12.mp e) (by decide)
  have hc13 : ¬k0_cond13 i = 1#1 := fun e => absurd (c13.mp e) (by decide)
  have hc14 : ¬k0_cond14 i = 1#1 := fun e => absurd (c14.mp e) (by decide)
  simp only [cc0_proj_main_eq_skeleton]; unfold cc0_proj_main_skel
  simp only [k0_part32_eq_skeleton, k0_part33_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%f12, %hf12, H12⟩, ⟨%f13, %hf13, H13⟩, ⟨%f14, %hf14, H14⟩, Hk⟩
  subst hf0; subst hf1; subst hf2; subst hf3; subst hf4; subst hf5; subst hf6; subst hf7; subst hf8; subst hf9; subst hf10; subst hf11; subst hf12; subst hf13; subst hf14
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14)
  sl_step
  iapply Hk
  isplitl [H0 H1 H2 H3 H4 H5 H6 H7 H8 H9 H10]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    iexists _; isplitr; swap; · iexact H10
    ipureintro; rfl
  isplitl [H11]
  · iexists _; isplitr; swap; · iexact H11
    ipureintro
    refine Eq.trans (View.read_writes_eq_canon (Val := Elt F) arg13.view _ _ (View.cover_of_tiledL _ S512x256.size ?_)) ?_
    · sl_kernel_rfl
    rfl
  isplitl [H12]
  · iexists _; isplitr; swap; · iexact H12
    ipureintro
    refine Eq.trans (View.read_writes_eq_canon (Val := Elt F) arg14.view _ _ (View.cover_of_tiledL _ S128x256.size ?_)) ?_
    · sl_kernel_rfl
    rfl
  isplitl [H13]
  · iexists _; isplitr; swap; · iexact H13
    ipureintro
    rfl
  iexists _; isplitr; swap; · iexact H14
  ipureintro
  rfl

end Cert.Proof.Main

end
-- ==== Proof.RunRope128.lean ====
module

public import proofs.«01_k».proof.Proof.Contents

@[expose] public section

set_option maxRecDepth 16384

noncomputable section

namespace Cert.Proof.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x2048 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .bf16) (harg13 : arg13.IsWhole) (arg14 : Memref sig .tc .vmem S128x1024 .f32) (harg14 : arg14.IsWhole) (arg15 : Memref sig .tc .vmem S1024x2048 .bf16) (harg15 : arg15.IsWhole) (arg16 : Memref sig .tc .vmem S512x1024 .f32) (harg16 : arg16.IsWhole)
  (x0 : Vec F S512x2048 .bf16) (x1 : Vec F S256x2048 .f32) (x2 : Vec F S256x2048 .f32) (x3 : Vec F S256x2048 .f32) (x4 : Vec F S256x2048 .f32) (x5 : Vec F S512x128 .f32) (x6 : Vec F S512x128 .f32) (x7 : Vec F S512x128 .f32) (x8 : Vec F S512x128 .f32) (x9 : Vec F S1x1024 .f32) (x10 : Vec F S1x1024 .f32)

set_option maxHeartbeats 8000000 in
/-- A run in the middle of a column tile: the product the run before left is rotated in groups of 128 and stored, and the next product made. -/
theorem mid_rope128 (hc : Takes i [7]) (h : Vec F S512x1024 .bf16) (g : Vec F S128x1024 .f32) (w : Vec F S1024x2048 .bf16) (a : Vec F S512x1024 .f32) (E : Set ℕ) (K : PUnit → sProp 𝕄) :
    iprop(inputs c arg2 arg3 arg4 arg5 arg6 arg7 arg8 arg9 arg10 arg11 arg12 x0 x1 x2 x3 x4 x5 x6 x7 x8 x9 x10 ∗ owns (c : Thread nD τ) arg13 fullShare h ∗ owns (c : Thread nD τ) arg14 fullShare g ∗ owns (c : Thread nD τ) arg15 fullShare w ∗ owns (c : Thread nD τ) arg16 fullShare a
      ∗ (iprop(inputs c arg2 arg3 arg4 arg5 arg6 arg7 arg8 arg9 arg10 arg11 arg12 x0 x1 x2 x3 x4 x5 x6 x7 x8 x9 x10 ∗ owns (c : Thread nD τ) arg13 fullShare (finRope128 a x5 x6) ∗ owns (c : Thread nD τ) arg14 fullShare g ∗ owns (c : Thread nD τ) arg15 fullShare w ∗ owns (c : Thread nD τ) arg16 fullShare (prod x0 w)) -∗ K ⟨⟩))
    ⊢ wp frame (wpE (defs₀ (F := F)) Variants.none c none) E (cc0_proj_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨c1, c2, c3, c4, c5, c6, c7, c8, c9, c10, c11, c12, c13, c14⟩ := hc
  have hc1 : ¬k0_cond1 i = 1#1 := fun e => absurd (c1.mp e) (by decide)
  have hc2 : ¬k0_cond2 i = 1#1 := fun e => absurd (c2.mp e) (by decide)
  have hc3 : ¬k0_cond3 i = 1#1 := fun e => absurd (c3.mp e) (by decide)
  have hc4 : ¬k0_cond4 i = 1#1 := fun e => absurd (c4.mp e) (by decide)
  have hc5 : ¬k0_cond5 i = 1#1 := fun e => absurd (c5.mp e) (by decide)
  have hc6 : ¬k0_cond6 i = 1#1 := fun e => absurd (c6.mp e) (by decide)
  have hc7 : k0_cond7 i = 1#1 := c7.mpr (by decide)
  have hc8 : ¬k0_cond8 i = 1#1 := fun e => absurd (c8.mp e) (by decide)
  have hc9 : ¬k0_cond9 i = 1#1 := fun e => absurd (c9.mp e) (by decide)
  have hc10 : ¬k0_cond10 i = 1#1 := fun e => absurd (c10.mp e) (by decide)
  have hc11 : ¬k0_cond11 i = 1#1 := fun e => absurd (c11.mp e) (by decide)
  have hc12 : ¬k0_cond12 i = 1#1 := fun e => absurd (c12.mp e) (by decide)
  have hc13 : ¬k0_cond13 i = 1#1 := fun e => absurd (c13.mp e) (by decide)
  have hc14 : ¬k0_cond14 i = 1#1 := fun e => absurd (c14.mp e) (by decide)
  simp only [cc0_proj_main_eq_skeleton]; unfold cc0_proj_main_skel
  simp only [k0_part32_eq_skeleton, k0_part33_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%f12, %hf12, H12⟩, ⟨%f13, %hf13, H13⟩, ⟨%f14, %hf14, H14⟩, Hk⟩
  subst hf0; subst hf1; subst hf2; subst hf3; subst hf4; subst hf5; subst hf6; subst hf7; subst hf8; subst hf9; subst hf10; subst hf11; subst hf12; subst hf13; subst hf14
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14)
  sl_step
  iapply Hk
  isplitl [H0 H1 H2 H3 H4 H5 H6 H7 H8 H9 H10]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    iexists _; isplitr; swap; · iexact H10
    ipureintro; rfl
  isplitl [H11]
  · iexists _; isplitr; swap; · iexact H11
    ipureintro
    refine Eq.trans (View.read_writes_eq_canon (Val := Elt F) arg13.view _ _ (View.cover_of_tiledL _ S512x128.size ?_)) ?_
    · sl_kernel_rfl
    rfl
  isplitl [H12]
  · iexists _; isplitr; swap; · iexact H12
    ipureintro
    rfl
  isplitl [H13]
  · iexists _; isplitr; swap; · iexact H13
    ipureintro
    rfl
  iexists _; isplitr; swap; · iexact H14
  ipureintro
  refine Eq.trans (View.read_writes_eq_canon (Val := Elt F) arg16.view _ _ (View.cover_of_tiledL _ S512x256.size ?_)) ?_
  · sl_kernel_rfl
  rfl

set_option maxHeartbeats 8000000 in
/-- The last run over a column tile: the product the run before left is rotated in groups of 128 and stored. -/
theorem last_rope128 (hc : Takes i [8]) (h : Vec F S512x1024 .bf16) (g : Vec F S128x1024 .f32) (w : Vec F S1024x2048 .bf16) (a : Vec F S512x1024 .f32) (E : Set ℕ) (K : PUnit → sProp 𝕄) :
    iprop(inputs c arg2 arg3 arg4 arg5 arg6 arg7 arg8 arg9 arg10 arg11 arg12 x0 x1 x2 x3 x4 x5 x6 x7 x8 x9 x10 ∗ owns (c : Thread nD τ) arg13 fullShare h ∗ owns (c : Thread nD τ) arg14 fullShare g ∗ owns (c : Thread nD τ) arg15 fullShare w ∗ owns (c : Thread nD τ) arg16 fullShare a
      ∗ (iprop(inputs c arg2 arg3 arg4 arg5 arg6 arg7 arg8 arg9 arg10 arg11 arg12 x0 x1 x2 x3 x4 x5 x6 x7 x8 x9 x10 ∗ owns (c : Thread nD τ) arg13 fullShare (finRope128 a x5 x6) ∗ owns (c : Thread nD τ) arg14 fullShare g ∗ owns (c : Thread nD τ) arg15 fullShare w ∗ owns (c : Thread nD τ) arg16 fullShare a) -∗ K ⟨⟩))
    ⊢ wp frame (wpE (defs₀ (F := F)) Variants.none c none) E (cc0_proj_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨c1, c2, c3, c4, c5, c6, c7, c8, c9, c10, c11, c12, c13, c14⟩ := hc
  have hc1 : ¬k0_cond1 i = 1#1 := fun e => absurd (c1.mp e) (by decide)
  have hc2 : ¬k0_cond2 i = 1#1 := fun e => absurd (c2.mp e) (by decide)
  have hc3 : ¬k0_cond3 i = 1#1 := fun e => absurd (c3.mp e) (by decide)
  have hc4 : ¬k0_cond4 i = 1#1 := fun e => absurd (c4.mp e) (by decide)
  have hc5 : ¬k0_cond5 i = 1#1 := fun e => absurd (c5.mp e) (by decide)
  have hc6 : ¬k0_cond6 i = 1#1 := fun e => absurd (c6.mp e) (by decide)
  have hc7 : ¬k0_cond7 i = 1#1 := fun e => absurd (c7.mp e) (by decide)
  have hc8 : k0_cond8 i = 1#1 := c8.mpr (by decide)
  have hc9 : ¬k0_cond9 i = 1#1 := fun e => absurd (c9.mp e) (by decide)
  have hc10 : ¬k0_cond10 i = 1#1 := fun e => absurd (c10.mp e) (by decide)
  have hc11 : ¬k0_cond11 i = 1#1 := fun e => absurd (c11.mp e) (by decide)
  have hc12 : ¬k0_cond12 i = 1#1 := fun e => absurd (c12.mp e) (by decide)
  have hc13 : ¬k0_cond13 i = 1#1 := fun e => absurd (c13.mp e) (by decide)
  have hc14 : ¬k0_cond14 i = 1#1 := fun e => absurd (c14.mp e) (by decide)
  simp only [cc0_proj_main_eq_skeleton]; unfold cc0_proj_main_skel
  simp only [k0_part32_eq_skeleton, k0_part33_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%f12, %hf12, H12⟩, ⟨%f13, %hf13, H13⟩, ⟨%f14, %hf14, H14⟩, Hk⟩
  subst hf0; subst hf1; subst hf2; subst hf3; subst hf4; subst hf5; subst hf6; subst hf7; subst hf8; subst hf9; subst hf10; subst hf11; subst hf12; subst hf13; subst hf14
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14)
  sl_step
  iapply Hk
  isplitl [H0 H1 H2 H3 H4 H5 H6 H7 H8 H9 H10]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    iexists _; isplitr; swap; · iexact H10
    ipureintro; rfl
  isplitl [H11]
  · iexists _; isplitr; swap; · iexact H11
    ipureintro
    refine Eq.trans (View.read_writes_eq_canon (Val := Elt F) arg13.view _ _ (View.cover_of_tiledL _ S512x128.size ?_)) ?_
    · sl_kernel_rfl
    rfl
  isplitl [H12]
  · iexists _; isplitr; swap; · iexact H12
    ipureintro
    rfl
  isplitl [H13]
  · iexists _; isplitr; swap; · iexact H13
    ipureintro
    rfl
  iexists _; isplitr; swap; · iexact H14
  ipureintro
  rfl

end Cert.Proof.Main

end
-- ==== Proof.RunRope64.lean ====
module

public import proofs.«01_k».proof.Proof.Contents

@[expose] public section

set_option maxRecDepth 16384

noncomputable section

namespace Cert.Proof.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x2048 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .bf16) (harg13 : arg13.IsWhole) (arg14 : Memref sig .tc .vmem S128x1024 .f32) (harg14 : arg14.IsWhole) (arg15 : Memref sig .tc .vmem S1024x2048 .bf16) (harg15 : arg15.IsWhole) (arg16 : Memref sig .tc .vmem S512x1024 .f32) (harg16 : arg16.IsWhole)
  (x0 : Vec F S512x2048 .bf16) (x1 : Vec F S256x2048 .f32) (x2 : Vec F S256x2048 .f32) (x3 : Vec F S256x2048 .f32) (x4 : Vec F S256x2048 .f32) (x5 : Vec F S512x128 .f32) (x6 : Vec F S512x128 .f32) (x7 : Vec F S512x128 .f32) (x8 : Vec F S512x128 .f32) (x9 : Vec F S1x1024 .f32) (x10 : Vec F S1x1024 .f32)

set_option maxHeartbeats 8000000 in
/-- A run in the middle of a column tile: the product the run before left is rotated in groups of 64 and stored, and the next product made. -/
theorem mid_rope64 (hc : Takes i [9]) (h : Vec F S512x1024 .bf16) (g : Vec F S128x1024 .f32) (w : Vec F S1024x2048 .bf16) (a : Vec F S512x1024 .f32) (E : Set ℕ) (K : PUnit → sProp 𝕄) :
    iprop(inputs c arg2 arg3 arg4 arg5 arg6 arg7 arg8 arg9 arg10 arg11 arg12 x0 x1 x2 x3 x4 x5 x6 x7 x8 x9 x10 ∗ owns (c : Thread nD τ) arg13 fullShare h ∗ owns (c : Thread nD τ) arg14 fullShare g ∗ owns (c : Thread nD τ) arg15 fullShare w ∗ owns (c : Thread nD τ) arg16 fullShare a
      ∗ (iprop(inputs c arg2 arg3 arg4 arg5 arg6 arg7 arg8 arg9 arg10 arg11 arg12 x0 x1 x2 x3 x4 x5 x6 x7 x8 x9 x10 ∗ owns (c : Thread nD τ) arg13 fullShare (finRope64 a x7 x8) ∗ owns (c : Thread nD τ) arg14 fullShare g ∗ owns (c : Thread nD τ) arg15 fullShare w ∗ owns (c : Thread nD τ) arg16 fullShare (prod x0 w)) -∗ K ⟨⟩))
    ⊢ wp frame (wpE (defs₀ (F := F)) Variants.none c none) E (cc0_proj_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨c1, c2, c3, c4, c5, c6, c7, c8, c9, c10, c11, c12, c13, c14⟩ := hc
  have hc1 : ¬k0_cond1 i = 1#1 := fun e => absurd (c1.mp e) (by decide)
  have hc2 : ¬k0_cond2 i = 1#1 := fun e => absurd (c2.mp e) (by decide)
  have hc3 : ¬k0_cond3 i = 1#1 := fun e => absurd (c3.mp e) (by decide)
  have hc4 : ¬k0_cond4 i = 1#1 := fun e => absurd (c4.mp e) (by decide)
  have hc5 : ¬k0_cond5 i = 1#1 := fun e => absurd (c5.mp e) (by decide)
  have hc6 : ¬k0_cond6 i = 1#1 := fun e => absurd (c6.mp e) (by decide)
  have hc7 : ¬k0_cond7 i = 1#1 := fun e => absurd (c7.mp e) (by decide)
  have hc8 : ¬k0_cond8 i = 1#1 := fun e => absurd (c8.mp e) (by decide)
  have hc9 : k0_cond9 i = 1#1 := c9.mpr (by decide)
  have hc10 : ¬k0_cond10 i = 1#1 := fun e => absurd (c10.mp e) (by decide)
  have hc11 : ¬k0_cond11 i = 1#1 := fun e => absurd (c11.mp e) (by decide)
  have hc12 : ¬k0_cond12 i = 1#1 := fun e => absurd (c12.mp e) (by decide)
  have hc13 : ¬k0_cond13 i = 1#1 := fun e => absurd (c13.mp e) (by decide)
  have hc14 : ¬k0_cond14 i = 1#1 := fun e => absurd (c14.mp e) (by decide)
  simp only [cc0_proj_main_eq_skeleton]; unfold cc0_proj_main_skel
  simp only [k0_part32_eq_skeleton, k0_part33_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%f12, %hf12, H12⟩, ⟨%f13, %hf13, H13⟩, ⟨%f14, %hf14, H14⟩, Hk⟩
  subst hf0; subst hf1; subst hf2; subst hf3; subst hf4; subst hf5; subst hf6; subst hf7; subst hf8; subst hf9; subst hf10; subst hf11; subst hf12; subst hf13; subst hf14
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14)
  sl_step
  iapply Hk
  isplitl [H0 H1 H2 H3 H4 H5 H6 H7 H8 H9 H10]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    iexists _; isplitr; swap; · iexact H10
    ipureintro; rfl
  isplitl [H11]
  · iexists _; isplitr; swap; · iexact H11
    ipureintro
    refine Eq.trans (View.read_writes_eq_canon (Val := Elt F) arg13.view _ _ (View.cover_of_tiledL _ S512x128.size ?_)) ?_
    · sl_kernel_rfl
    rfl
  isplitl [H12]
  · iexists _; isplitr; swap; · iexact H12
    ipureintro
    rfl
  isplitl [H13]
  · iexists _; isplitr; swap; · iexact H13
    ipureintro
    rfl
  iexists _; isplitr; swap; · iexact H14
  ipureintro
  refine Eq.trans (View.read_writes_eq_canon (Val := Elt F) arg16.view _ _ (View.cover_of_tiledL _ S512x256.size ?_)) ?_
  · sl_kernel_rfl
  rfl

set_option maxHeartbeats 8000000 in
/-- The last run over a column tile: the product the run before left is rotated in groups of 64 and stored. -/
theorem last_rope64 (hc : Takes i [10]) (h : Vec F S512x1024 .bf16) (g : Vec F S128x1024 .f32) (w : Vec F S1024x2048 .bf16) (a : Vec F S512x1024 .f32) (E : Set ℕ) (K : PUnit → sProp 𝕄) :
    iprop(inputs c arg2 arg3 arg4 arg5 arg6 arg7 arg8 arg9 arg10 arg11 arg12 x0 x1 x2 x3 x4 x5 x6 x7 x8 x9 x10 ∗ owns (c : Thread nD τ) arg13 fullShare h ∗ owns (c : Thread nD τ) arg14 fullShare g ∗ owns (c : Thread nD τ) arg15 fullShare w ∗ owns (c : Thread nD τ) arg16 fullShare a
      ∗ (iprop(inputs c arg2 arg3 arg4 arg5 arg6 arg7 arg8 arg9 arg10 arg11 arg12 x0 x1 x2 x3 x4 x5 x6 x7 x8 x9 x10 ∗ owns (c : Thread nD τ) arg13 fullShare (finRope64 a x7 x8) ∗ owns (c : Thread nD τ) arg14 fullShare g ∗ owns (c : Thread nD τ) arg15 fullShare w ∗ owns (c : Thread nD τ) arg16 fullShare a) -∗ K ⟨⟩))
    ⊢ wp frame (wpE (defs₀ (F := F)) Variants.none c none) E (cc0_proj_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨c1, c2, c3, c4, c5, c6, c7, c8, c9, c10, c11, c12, c13, c14⟩ := hc
  have hc1 : ¬k0_cond1 i = 1#1 := fun e => absurd (c1.mp e) (by decide)
  have hc2 : ¬k0_cond2 i = 1#1 := fun e => absurd (c2.mp e) (by decide)
  have hc3 : ¬k0_cond3 i = 1#1 := fun e => absurd (c3.mp e) (by decide)
  have hc4 : ¬k0_cond4 i = 1#1 := fun e => absurd (c4.mp e) (by decide)
  have hc5 : ¬k0_cond5 i = 1#1 := fun e => absurd (c5.mp e) (by decide)
  have hc6 : ¬k0_cond6 i = 1#1 := fun e => absurd (c6.mp e) (by decide)
  have hc7 : ¬k0_cond7 i = 1#1 := fun e => absurd (c7.mp e) (by decide)
  have hc8 : ¬k0_cond8 i = 1#1 := fun e => absurd (c8.mp e) (by decide)
  have hc9 : ¬k0_cond9 i = 1#1 := fun e => absurd (c9.mp e) (by decide)
  have hc10 : k0_cond10 i = 1#1 := c10.mpr (by decide)
  have hc11 : ¬k0_cond11 i = 1#1 := fun e => absurd (c11.mp e) (by decide)
  have hc12 : ¬k0_cond12 i = 1#1 := fun e => absurd (c12.mp e) (by decide)
  have hc13 : ¬k0_cond13 i = 1#1 := fun e => absurd (c13.mp e) (by decide)
  have hc14 : ¬k0_cond14 i = 1#1 := fun e => absurd (c14.mp e) (by decide)
  simp only [cc0_proj_main_eq_skeleton]; unfold cc0_proj_main_skel
  simp only [k0_part32_eq_skeleton, k0_part33_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%f12, %hf12, H12⟩, ⟨%f13, %hf13, H13⟩, ⟨%f14, %hf14, H14⟩, Hk⟩
  subst hf0; subst hf1; subst hf2; subst hf3; subst hf4; subst hf5; subst hf6; subst hf7; subst hf8; subst hf9; subst hf10; subst hf11; subst hf12; subst hf13; subst hf14
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14)
  sl_step
  iapply Hk
  isplitl [H0 H1 H2 H3 H4 H5 H6 H7 H8 H9 H10]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    iexists _; isplitr; swap; · iexact H10
    ipureintro; rfl
  isplitl [H11]
  · iexists _; isplitr; swap; · iexact H11
    ipureintro
    refine Eq.trans (View.read_writes_eq_canon (Val := Elt F) arg13.view _ _ (View.cover_of_tiledL _ S512x128.size ?_)) ?_
    · sl_kernel_rfl
    rfl
  isplitl [H12]
  · iexists _; isplitr; swap; · iexact H12
    ipureintro
    rfl
  isplitl [H13]
  · iexists _; isplitr; swap; · iexact H13
    ipureintro
    rfl
  iexists _; isplitr; swap; · iexact H14
  ipureintro
  rfl

end Cert.Proof.Main

end
-- ==== Proof.RunSigmoid.lean ====
module

public import proofs.«01_k».proof.Proof.Contents

@[expose] public section

set_option maxRecDepth 16384

noncomputable section

namespace Cert.Proof.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x2048 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .bf16) (harg13 : arg13.IsWhole) (arg14 : Memref sig .tc .vmem S128x1024 .f32) (harg14 : arg14.IsWhole) (arg15 : Memref sig .tc .vmem S1024x2048 .bf16) (harg15 : arg15.IsWhole) (arg16 : Memref sig .tc .vmem S512x1024 .f32) (harg16 : arg16.IsWhole)
  (x0 : Vec F S512x2048 .bf16) (x1 : Vec F S256x2048 .f32) (x2 : Vec F S256x2048 .f32) (x3 : Vec F S256x2048 .f32) (x4 : Vec F S256x2048 .f32) (x5 : Vec F S512x128 .f32) (x6 : Vec F S512x128 .f32) (x7 : Vec F S512x128 .f32) (x8 : Vec F S512x128 .f32) (x9 : Vec F S1x1024 .f32) (x10 : Vec F S1x1024 .f32)

set_option maxHeartbeats 8000000 in
/-- A run in the middle of a column tile: the product the run before left is put through the logistic function and stored, and the next product made. -/
theorem mid_sigmoid (hc : Takes i [11]) (h : Vec F S512x1024 .bf16) (g : Vec F S128x1024 .f32) (w : Vec F S1024x2048 .bf16) (a : Vec F S512x1024 .f32) (E : Set ℕ) (K : PUnit → sProp 𝕄) :
    iprop(inputs c arg2 arg3 arg4 arg5 arg6 arg7 arg8 arg9 arg10 arg11 arg12 x0 x1 x2 x3 x4 x5 x6 x7 x8 x9 x10 ∗ owns (c : Thread nD τ) arg13 fullShare h ∗ owns (c : Thread nD τ) arg14 fullShare g ∗ owns (c : Thread nD τ) arg15 fullShare w ∗ owns (c : Thread nD τ) arg16 fullShare a
      ∗ (iprop(inputs c arg2 arg3 arg4 arg5 arg6 arg7 arg8 arg9 arg10 arg11 arg12 x0 x1 x2 x3 x4 x5 x6 x7 x8 x9 x10 ∗ owns (c : Thread nD τ) arg13 fullShare (finSigmoid a) ∗ owns (c : Thread nD τ) arg14 fullShare g ∗ owns (c : Thread nD τ) arg15 fullShare w ∗ owns (c : Thread nD τ) arg16 fullShare (prod x0 w)) -∗ K ⟨⟩))
    ⊢ wp frame (wpE (defs₀ (F := F)) Variants.none c none) E (cc0_proj_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨c1, c2, c3, c4, c5, c6, c7, c8, c9, c10, c11, c12, c13, c14⟩ := hc
  have hc1 : ¬k0_cond1 i = 1#1 := fun e => absurd (c1.mp e) (by decide)
  have hc2 : ¬k0_cond2 i = 1#1 := fun e => absurd (c2.mp e) (by decide)
  have hc3 : ¬k0_cond3 i = 1#1 := fun e => absurd (c3.mp e) (by decide)
  have hc4 : ¬k0_cond4 i = 1#1 := fun e => absurd (c4.mp e) (by decide)
  have hc5 : ¬k0_cond5 i = 1#1 := fun e => absurd (c5.mp e) (by decide)
  have hc6 : ¬k0_cond6 i = 1#1 := fun e => absurd (c6.mp e) (by decide)
  have hc7 : ¬k0_cond7 i = 1#1 := fun e => absurd (c7.mp e) (by decide)
  have hc8 : ¬k0_cond8 i = 1#1 := fun e => absurd (c8.mp e) (by decide)
  have hc9 : ¬k0_cond9 i = 1#1 := fun e => absurd (c9.mp e) (by decide)
  have hc10 : ¬k0_cond10 i = 1#1 := fun e => absurd (c10.mp e) (by decide)
  have hc11 : k0_cond11 i = 1#1 := c11.mpr (by decide)
  have hc12 : ¬k0_cond12 i = 1#1 := fun e => absurd (c12.mp e) (by decide)
  have hc13 : ¬k0_cond13 i = 1#1 := fun e => absurd (c13.mp e) (by decide)
  have hc14 : ¬k0_cond14 i = 1#1 := fun e => absurd (c14.mp e) (by decide)
  simp only [cc0_proj_main_eq_skeleton]; unfold cc0_proj_main_skel
  simp only [k0_part32_eq_skeleton, k0_part33_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%f12, %hf12, H12⟩, ⟨%f13, %hf13, H13⟩, ⟨%f14, %hf14, H14⟩, Hk⟩
  subst hf0; subst hf1; subst hf2; subst hf3; subst hf4; subst hf5; subst hf6; subst hf7; subst hf8; subst hf9; subst hf10; subst hf11; subst hf12; subst hf13; subst hf14
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14)
  sl_step
  iapply Hk
  isplitl [H0 H1 H2 H3 H4 H5 H6 H7 H8 H9 H10]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    iexists _; isplitr; swap; · iexact H10
    ipureintro; rfl
  isplitl [H11]
  · iexists _; isplitr; swap; · iexact H11
    ipureintro
    refine Eq.trans (View.read_writes_eq_canon (Val := Elt F) arg13.view _ _ (View.cover_of_tiledL _ S512x256.size ?_)) ?_
    · sl_kernel_rfl
    rfl
  isplitl [H12]
  · iexists _; isplitr; swap; · iexact H12
    ipureintro
    rfl
  isplitl [H13]
  · iexists _; isplitr; swap; · iexact H13
    ipureintro
    rfl
  iexists _; isplitr; swap; · iexact H14
  ipureintro
  refine Eq.trans (View.read_writes_eq_canon (Val := Elt F) arg16.view _ _ (View.cover_of_tiledL _ S512x256.size ?_)) ?_
  · sl_kernel_rfl
  rfl

set_option maxHeartbeats 8000000 in
/-- The last run over a column tile: the product the run before left is put through the logistic function and stored. -/
theorem last_sigmoid (hc : Takes i [12]) (h : Vec F S512x1024 .bf16) (g : Vec F S128x1024 .f32) (w : Vec F S1024x2048 .bf16) (a : Vec F S512x1024 .f32) (E : Set ℕ) (K : PUnit → sProp 𝕄) :
    iprop(inputs c arg2 arg3 arg4 arg5 arg6 arg7 arg8 arg9 arg10 arg11 arg12 x0 x1 x2 x3 x4 x5 x6 x7 x8 x9 x10 ∗ owns (c : Thread nD τ) arg13 fullShare h ∗ owns (c : Thread nD τ) arg14 fullShare g ∗ owns (c : Thread nD τ) arg15 fullShare w ∗ owns (c : Thread nD τ) arg16 fullShare a
      ∗ (iprop(inputs c arg2 arg3 arg4 arg5 arg6 arg7 arg8 arg9 arg10 arg11 arg12 x0 x1 x2 x3 x4 x5 x6 x7 x8 x9 x10 ∗ owns (c : Thread nD τ) arg13 fullShare (finSigmoid a) ∗ owns (c : Thread nD τ) arg14 fullShare g ∗ owns (c : Thread nD τ) arg15 fullShare w ∗ owns (c : Thread nD τ) arg16 fullShare a) -∗ K ⟨⟩))
    ⊢ wp frame (wpE (defs₀ (F := F)) Variants.none c none) E (cc0_proj_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨c1, c2, c3, c4, c5, c6, c7, c8, c9, c10, c11, c12, c13, c14⟩ := hc
  have hc1 : ¬k0_cond1 i = 1#1 := fun e => absurd (c1.mp e) (by decide)
  have hc2 : ¬k0_cond2 i = 1#1 := fun e => absurd (c2.mp e) (by decide)
  have hc3 : ¬k0_cond3 i = 1#1 := fun e => absurd (c3.mp e) (by decide)
  have hc4 : ¬k0_cond4 i = 1#1 := fun e => absurd (c4.mp e) (by decide)
  have hc5 : ¬k0_cond5 i = 1#1 := fun e => absurd (c5.mp e) (by decide)
  have hc6 : ¬k0_cond6 i = 1#1 := fun e => absurd (c6.mp e) (by decide)
  have hc7 : ¬k0_cond7 i = 1#1 := fun e => absurd (c7.mp e) (by decide)
  have hc8 : ¬k0_cond8 i = 1#1 := fun e => absurd (c8.mp e) (by decide)
  have hc9 : ¬k0_cond9 i = 1#1 := fun e => absurd (c9.mp e) (by decide)
  have hc10 : ¬k0_cond10 i = 1#1 := fun e => absurd (c10.mp e) (by decide)
  have hc11 : ¬k0_cond11 i = 1#1 := fun e => absurd (c11.mp e) (by decide)
  have hc12 : k0_cond12 i = 1#1 := c12.mpr (by decide)
  have hc13 : ¬k0_cond13 i = 1#1 := fun e => absurd (c13.mp e) (by decide)
  have hc14 : ¬k0_cond14 i = 1#1 := fun e => absurd (c14.mp e) (by decide)
  simp only [cc0_proj_main_eq_skeleton]; unfold cc0_proj_main_skel
  simp only [k0_part32_eq_skeleton, k0_part33_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%f12, %hf12, H12⟩, ⟨%f13, %hf13, H13⟩, ⟨%f14, %hf14, H14⟩, Hk⟩
  subst hf0; subst hf1; subst hf2; subst hf3; subst hf4; subst hf5; subst hf6; subst hf7; subst hf8; subst hf9; subst hf10; subst hf11; subst hf12; subst hf13; subst hf14
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14)
  sl_step
  iapply Hk
  isplitl [H0 H1 H2 H3 H4 H5 H6 H7 H8 H9 H10]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    iexists _; isplitr; swap; · iexact H10
    ipureintro; rfl
  isplitl [H11]
  · iexists _; isplitr; swap; · iexact H11
    ipureintro
    refine Eq.trans (View.read_writes_eq_canon (Val := Elt F) arg13.view _ _ (View.cover_of_tiledL _ S512x256.size ?_)) ?_
    · sl_kernel_rfl
    rfl
  isplitl [H12]
  · iexists _; isplitr; swap; · iexact H12
    ipureintro
    rfl
  isplitl [H13]
  · iexists _; isplitr; swap; · iexact H13
    ipureintro
    rfl
  iexists _; isplitr; swap; · iexact H14
  ipureintro
  rfl

end Cert.Proof.Main

end
-- ==== Proof.RunSilu.lean ====
module

public import proofs.«01_k».proof.Proof.Contents

@[expose] public section

set_option maxRecDepth 16384

noncomputable section

namespace Cert.Proof.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x2048 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .bf16) (harg13 : arg13.IsWhole) (arg14 : Memref sig .tc .vmem S128x1024 .f32) (harg14 : arg14.IsWhole) (arg15 : Memref sig .tc .vmem S1024x2048 .bf16) (harg15 : arg15.IsWhole) (arg16 : Memref sig .tc .vmem S512x1024 .f32) (harg16 : arg16.IsWhole)
  (x0 : Vec F S512x2048 .bf16) (x1 : Vec F S256x2048 .f32) (x2 : Vec F S256x2048 .f32) (x3 : Vec F S256x2048 .f32) (x4 : Vec F S256x2048 .f32) (x5 : Vec F S512x128 .f32) (x6 : Vec F S512x128 .f32) (x7 : Vec F S512x128 .f32) (x8 : Vec F S512x128 .f32) (x9 : Vec F S1x1024 .f32) (x10 : Vec F S1x1024 .f32)

set_option maxHeartbeats 8000000 in
/-- A run in the middle of a column tile: the product the run before left is multiplied by its logistic function and stored, and the next product made. -/
theorem mid_silu (hc : Takes i [13]) (h : Vec F S512x1024 .bf16) (g : Vec F S128x1024 .f32) (w : Vec F S1024x2048 .bf16) (a : Vec F S512x1024 .f32) (E : Set ℕ) (K : PUnit → sProp 𝕄) :
    iprop(inputs c arg2 arg3 arg4 arg5 arg6 arg7 arg8 arg9 arg10 arg11 arg12 x0 x1 x2 x3 x4 x5 x6 x7 x8 x9 x10 ∗ owns (c : Thread nD τ) arg13 fullShare h ∗ owns (c : Thread nD τ) arg14 fullShare g ∗ owns (c : Thread nD τ) arg15 fullShare w ∗ owns (c : Thread nD τ) arg16 fullShare a
      ∗ (iprop(inputs c arg2 arg3 arg4 arg5 arg6 arg7 arg8 arg9 arg10 arg11 arg12 x0 x1 x2 x3 x4 x5 x6 x7 x8 x9 x10 ∗ owns (c : Thread nD τ) arg13 fullShare (finSilu a) ∗ owns (c : Thread nD τ) arg14 fullShare g ∗ owns (c : Thread nD τ) arg15 fullShare w ∗ owns (c : Thread nD τ) arg16 fullShare (prod x0 w)) -∗ K ⟨⟩))
    ⊢ wp frame (wpE (defs₀ (F := F)) Variants.none c none) E (cc0_proj_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨c1, c2, c3, c4, c5, c6, c7, c8, c9, c10, c11, c12, c13, c14⟩ := hc
  have hc1 : ¬k0_cond1 i = 1#1 := fun e => absurd (c1.mp e) (by decide)
  have hc2 : ¬k0_cond2 i = 1#1 := fun e => absurd (c2.mp e) (by decide)
  have hc3 : ¬k0_cond3 i = 1#1 := fun e => absurd (c3.mp e) (by decide)
  have hc4 : ¬k0_cond4 i = 1#1 := fun e => absurd (c4.mp e) (by decide)
  have hc5 : ¬k0_cond5 i = 1#1 := fun e => absurd (c5.mp e) (by decide)
  have hc6 : ¬k0_cond6 i = 1#1 := fun e => absurd (c6.mp e) (by decide)
  have hc7 : ¬k0_cond7 i = 1#1 := fun e => absurd (c7.mp e) (by decide)
  have hc8 : ¬k0_cond8 i = 1#1 := fun e => absurd (c8.mp e) (by decide)
  have hc9 : ¬k0_cond9 i = 1#1 := fun e => absurd (c9.mp e) (by decide)
  have hc10 : ¬k0_cond10 i = 1#1 := fun e => absurd (c10.mp e) (by decide)
  have hc11 : ¬k0_cond11 i = 1#1 := fun e => absurd (c11.mp e) (by decide)
  have hc12 : ¬k0_cond12 i = 1#1 := fun e => absurd (c12.mp e) (by decide)
  have hc13 : k0_cond13 i = 1#1 := c13.mpr (by decide)
  have hc14 : ¬k0_cond14 i = 1#1 := fun e => absurd (c14.mp e) (by decide)
  simp only [cc0_proj_main_eq_skeleton]; unfold cc0_proj_main_skel
  simp only [k0_part32_eq_skeleton, k0_part33_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%f12, %hf12, H12⟩, ⟨%f13, %hf13, H13⟩, ⟨%f14, %hf14, H14⟩, Hk⟩
  subst hf0; subst hf1; subst hf2; subst hf3; subst hf4; subst hf5; subst hf6; subst hf7; subst hf8; subst hf9; subst hf10; subst hf11; subst hf12; subst hf13; subst hf14
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14)
  sl_step
  iapply Hk
  isplitl [H0 H1 H2 H3 H4 H5 H6 H7 H8 H9 H10]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    iexists _; isplitr; swap; · iexact H10
    ipureintro; rfl
  isplitl [H11]
  · iexists _; isplitr; swap; · iexact H11
    ipureintro
    refine Eq.trans (View.read_writes_eq_canon (Val := Elt F) arg13.view _ _ (View.cover_of_tiledL _ S512x256.size ?_)) ?_
    · sl_kernel_rfl
    rfl
  isplitl [H12]
  · iexists _; isplitr; swap; · iexact H12
    ipureintro
    rfl
  isplitl [H13]
  · iexists _; isplitr; swap; · iexact H13
    ipureintro
    rfl
  iexists _; isplitr; swap; · iexact H14
  ipureintro
  refine Eq.trans (View.read_writes_eq_canon (Val := Elt F) arg16.view _ _ (View.cover_of_tiledL _ S512x256.size ?_)) ?_
  · sl_kernel_rfl
  rfl

set_option maxHeartbeats 8000000 in
/-- The last run over a column tile: the product the run before left is multiplied by its logistic function and stored. -/
theorem last_silu (hc : Takes i [14]) (h : Vec F S512x1024 .bf16) (g : Vec F S128x1024 .f32) (w : Vec F S1024x2048 .bf16) (a : Vec F S512x1024 .f32) (E : Set ℕ) (K : PUnit → sProp 𝕄) :
    iprop(inputs c arg2 arg3 arg4 arg5 arg6 arg7 arg8 arg9 arg10 arg11 arg12 x0 x1 x2 x3 x4 x5 x6 x7 x8 x9 x10 ∗ owns (c : Thread nD τ) arg13 fullShare h ∗ owns (c : Thread nD τ) arg14 fullShare g ∗ owns (c : Thread nD τ) arg15 fullShare w ∗ owns (c : Thread nD τ) arg16 fullShare a
      ∗ (iprop(inputs c arg2 arg3 arg4 arg5 arg6 arg7 arg8 arg9 arg10 arg11 arg12 x0 x1 x2 x3 x4 x5 x6 x7 x8 x9 x10 ∗ owns (c : Thread nD τ) arg13 fullShare (finSilu a) ∗ owns (c : Thread nD τ) arg14 fullShare g ∗ owns (c : Thread nD τ) arg15 fullShare w ∗ owns (c : Thread nD τ) arg16 fullShare a) -∗ K ⟨⟩))
    ⊢ wp frame (wpE (defs₀ (F := F)) Variants.none c none) E (cc0_proj_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨c1, c2, c3, c4, c5, c6, c7, c8, c9, c10, c11, c12, c13, c14⟩ := hc
  have hc1 : ¬k0_cond1 i = 1#1 := fun e => absurd (c1.mp e) (by decide)
  have hc2 : ¬k0_cond2 i = 1#1 := fun e => absurd (c2.mp e) (by decide)
  have hc3 : ¬k0_cond3 i = 1#1 := fun e => absurd (c3.mp e) (by decide)
  have hc4 : ¬k0_cond4 i = 1#1 := fun e => absurd (c4.mp e) (by decide)
  have hc5 : ¬k0_cond5 i = 1#1 := fun e => absurd (c5.mp e) (by decide)
  have hc6 : ¬k0_cond6 i = 1#1 := fun e => absurd (c6.mp e) (by decide)
  have hc7 : ¬k0_cond7 i = 1#1 := fun e => absurd (c7.mp e) (by decide)
  have hc8 : ¬k0_cond8 i = 1#1 := fun e => absurd (c8.mp e) (by decide)
  have hc9 : ¬k0_cond9 i = 1#1 := fun e => absurd (c9.mp e) (by decide)
  have hc10 : ¬k0_cond10 i = 1#1 := fun e => absurd (c10.mp e) (by decide)
  have hc11 : ¬k0_cond11 i = 1#1 := fun e => absurd (c11.mp e) (by decide)
  have hc12 : ¬k0_cond12 i = 1#1 := fun e => absurd (c12.mp e) (by decide)
  have hc13 : ¬k0_cond13 i = 1#1 := fun e => absurd (c13.mp e) (by decide)
  have hc14 : k0_cond14 i = 1#1 := c14.mpr (by decide)
  simp only [cc0_proj_main_eq_skeleton]; unfold cc0_proj_main_skel
  simp only [k0_part32_eq_skeleton, k0_part33_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%f12, %hf12, H12⟩, ⟨%f13, %hf13, H13⟩, ⟨%f14, %hf14, H14⟩, Hk⟩
  subst hf0; subst hf1; subst hf2; subst hf3; subst hf4; subst hf5; subst hf6; subst hf7; subst hf8; subst hf9; subst hf10; subst hf11; subst hf12; subst hf13; subst hf14
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14)
  sl_step
  iapply Hk
  isplitl [H0 H1 H2 H3 H4 H5 H6 H7 H8 H9 H10]
  · isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    iexists _; isplitr; swap; · iexact H10
    ipureintro; rfl
  isplitl [H11]
  · iexists _; isplitr; swap; · iexact H11
    ipureintro
    refine Eq.trans (View.read_writes_eq_canon (Val := Elt F) arg13.view _ _ (View.cover_of_tiledL _ S512x256.size ?_)) ?_
    · sl_kernel_rfl
    rfl
  isplitl [H12]
  · iexists _; isplitr; swap; · iexact H12
    ipureintro
    rfl
  isplitl [H13]
  · iexists _; isplitr; swap; · iexact H13
    ipureintro
    rfl
  iexists _; isplitr; swap; · iexact H14
  ipureintro
  rfl

end Cert.Proof.Main

end
-- ==== Proof.Effect.lean ====
module

public import proofs.«01_k».proof.Proof.RunStart
public import proofs.«01_k».proof.Proof.RunCopy
public import proofs.«01_k».proof.Proof.RunLn
public import proofs.«01_k».proof.Proof.RunRope128
public import proofs.«01_k».proof.Proof.RunRope64
public import proofs.«01_k».proof.Proof.RunSigmoid
public import proofs.«01_k».proof.Proof.RunSilu

@[expose] public section

set_option maxRecDepth 16384

noncomputable section

namespace Cert.Proof.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! One run of the body at any grid point: column tile `j`, row step `r`. -/

/-- What a row tile of the product becomes in column tile `j`. -/
def fin (j : ℕ) (a : Vec F S512x1024 .f32) (x5 x6 x7 x8 : Vec F S512x128 .f32) (x9 x10 : Vec F S1x1024 .f32) : Vec F S512x1024 .bf16 :=
  if j = 0 then finCopy a else if j = 1 then finLn a x9 x10 else if j = 2 ∨ j = 4 then finSilu a
  else if j = 3 then finRope128 a x5 x6 else if j = 5 then finRope64 a x7 x8 else finSigmoid a

/-- The place of column tile `j`'s treatment in the body's list of treatments. -/
def kind (j : ℕ) : ℕ :=
  if j = 0 then 0 else if j = 1 then 1 else if j = 2 ∨ j = 4 then 5 else if j = 3 then 2 else if j = 5 then 3 else 4

/-- The branches taken in column tile `j` at row step `r`. -/
def active (j r : ℕ) : List ℕ :=
  if r = 0 then (if j = 1 then [1] else [1, 2]) else if r < 16 then [3 + 2 * kind j] else [4 + 2 * kind j]

/-- The output tile after the run: untouched at the first step, then the tile of the step before, finished. -/
def newH (j r : ℕ) (h : Vec F S512x1024 .bf16) (a : Vec F S512x1024 .f32) (x5 x6 x7 x8 : Vec F S512x128 .f32) (x9 x10 : Vec F S1x1024 .f32) : Vec F S512x1024 .bf16 :=
  if r = 0 then h else fin j a x5 x6 x7 x8 x9 x10
/-- The gate tile after the run. -/
def newG (j r : ℕ) (g : Vec F S128x1024 .f32) (a : Vec F S512x1024 .f32) (x9 x10 : Vec F S1x1024 .f32) : Vec F S128x1024 .f32 :=
  if r = 0 then (if j = 1 then g else gvZero) else if j = 1 then gvLn a x9 x10 else g
/-- The weight tile after the run: cast at the first step, kept afterwards. -/
def newW (r : ℕ) (w : Vec F S1024x2048 .bf16) (x1 x2 x3 x4 : Vec F S256x2048 .f32) : Vec F S1024x2048 .bf16 :=
  if r = 0 then castW x1 x2 x3 x4 else w
/-- The product after the run: made at every step but the last. -/
def newA (r : ℕ) (a : Vec F S512x1024 .f32) (w : Vec F S1024x2048 .bf16) (x0 : Vec F S512x2048 .bf16) : Vec F S512x1024 .f32 :=
  if r < 16 then prod x0 w else a

theorem fin_0 (a : Vec F S512x1024 .f32) (x5 x6 x7 x8 : Vec F S512x128 .f32) (x9 x10 : Vec F S1x1024 .f32) : fin 0 a x5 x6 x7 x8 x9 x10 = finCopy a := by simp only [fin, reduceIte, OfNat.ofNat_ne_zero, OfNat.ofNat_ne_one, OfNat.ofNat_eq_ofNat, Nat.reduceEqDiff, or_true, true_or, or_self, one_ne_zero, zero_ne_one]
theorem fin_1 (a : Vec F S512x1024 .f32) (x5 x6 x7 x8 : Vec F S512x128 .f32) (x9 x10 : Vec F S1x1024 .f32) : fin 1 a x5 x6 x7 x8 x9 x10 = finLn a x9 x10 := by simp only [fin, reduceIte, OfNat.ofNat_ne_zero, OfNat.ofNat_ne_one, OfNat.ofNat_eq_ofNat, Nat.reduceEqDiff, or_true, true_or, or_self, one_ne_zero, zero_ne_one]
theorem fin_2 (a : Vec F S512x1024 .f32) (x5 x6 x7 x8 : Vec F S512x128 .f32) (x9 x10 : Vec F S1x1024 .f32) : fin 2 a x5 x6 x7 x8 x9 x10 = finSilu a := by simp only [fin, reduceIte, OfNat.ofNat_ne_zero, OfNat.ofNat_ne_one, OfNat.ofNat_eq_ofNat, Nat.reduceEqDiff, or_true, true_or, or_self, one_ne_zero, zero_ne_one]
theorem fin_3 (a : Vec F S512x1024 .f32) (x5 x6 x7 x8 : Vec F S512x128 .f32) (x9 x10 : Vec F S1x1024 .f32) : fin 3 a x5 x6 x7 x8 x9 x10 = finRope128 a x5 x6 := by simp only [fin, reduceIte, OfNat.ofNat_ne_zero, OfNat.ofNat_ne_one, OfNat.ofNat_eq_ofNat, Nat.reduceEqDiff, or_true, true_or, or_self, one_ne_zero, zero_ne_one]
theorem fin_4 (a : Vec F S512x1024 .f32) (x5 x6 x7 x8 : Vec F S512x128 .f32) (x9 x10 : Vec F S1x1024 .f32) : fin 4 a x5 x6 x7 x8 x9 x10 = finSilu a := by simp only [fin, reduceIte, OfNat.ofNat_ne_zero, OfNat.ofNat_ne_one, OfNat.ofNat_eq_ofNat, Nat.reduceEqDiff, or_true, true_or, or_self, one_ne_zero, zero_ne_one]
theorem fin_5 (a : Vec F S512x1024 .f32) (x5 x6 x7 x8 : Vec F S512x128 .f32) (x9 x10 : Vec F S1x1024 .f32) : fin 5 a x5 x6 x7 x8 x9 x10 = finRope64 a x7 x8 := by simp only [fin, reduceIte, OfNat.ofNat_ne_zero, OfNat.ofNat_ne_one, OfNat.ofNat_eq_ofNat, Nat.reduceEqDiff, or_true, true_or, or_self, one_ne_zero, zero_ne_one]
theorem fin_6 (a : Vec F S512x1024 .f32) (x5 x6 x7 x8 : Vec F S512x128 .f32) (x9 x10 : Vec F S1x1024 .f32) : fin 6 a x5 x6 x7 x8 x9 x10 = finSigmoid a := by simp only [fin, reduceIte, OfNat.ofNat_ne_zero, OfNat.ofNat_ne_one, OfNat.ofNat_eq_ofNat, Nat.reduceEqDiff, or_true, true_or, or_self, one_ne_zero, zero_ne_one]
theorem fin_7 (a : Vec F S512x1024 .f32) (x5 x6 x7 x8 : Vec F S512x128 .f32) (x9 x10 : Vec F S1x1024 .f32) : fin 7 a x5 x6 x7 x8 x9 x10 = finSigmoid a := by simp only [fin, reduceIte, OfNat.ofNat_ne_zero, OfNat.ofNat_ne_one, OfNat.ofNat_eq_ofNat, Nat.reduceEqDiff, or_true, true_or, or_self, one_ne_zero, zero_ne_one]
theorem fin_8 (a : Vec F S512x1024 .f32) (x5 x6 x7 x8 : Vec F S512x128 .f32) (x9 x10 : Vec F S1x1024 .f32) : fin 8 a x5 x6 x7 x8 x9 x10 = finSigmoid a := by simp only [fin, reduceIte, OfNat.ofNat_ne_zero, OfNat.ofNat_ne_one, OfNat.ofNat_eq_ofNat, Nat.reduceEqDiff, or_true, true_or, or_self, one_ne_zero, zero_ne_one]
theorem fin_9 (a : Vec F S512x1024 .f32) (x5 x6 x7 x8 : Vec F S512x128 .f32) (x9 x10 : Vec F S1x1024 .f32) : fin 9 a x5 x6 x7 x8 x9 x10 = finSigmoid a := by simp only [fin, reduceIte, OfNat.ofNat_ne_zero, OfNat.ofNat_ne_one, OfNat.ofNat_eq_ofNat, Nat.reduceEqDiff, or_true, true_or, or_self, one_ne_zero, zero_ne_one]

variable (c : Dev nD) (i : grid0.Coords) (arg2 : Memref sig .tc .vmem S512x2048 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .bf16) (harg13 : arg13.IsWhole) (arg14 : Memref sig .tc .vmem S128x1024 .f32) (harg14 : arg14.IsWhole) (arg15 : Memref sig .tc .vmem S1024x2048 .bf16) (harg15 : arg15.IsWhole) (arg16 : Memref sig .tc .vmem S512x1024 .f32) (harg16 : arg16.IsWhole)
  (x0 : Vec F S512x2048 .bf16) (x1 : Vec F S256x2048 .f32) (x2 : Vec F S256x2048 .f32) (x3 : Vec F S256x2048 .f32) (x4 : Vec F S256x2048 .f32) (x5 : Vec F S512x128 .f32) (x6 : Vec F S512x128 .f32) (x7 : Vec F S512x128 .f32) (x8 : Vec F S512x128 .f32) (x9 : Vec F S1x1024 .f32) (x10 : Vec F S1x1024 .f32)

set_option maxHeartbeats 2000000 in
/-- The body's run at any step of any column tile. -/
theorem body_run (j r : ℕ) (hj : j < 10) (hr : r < 17) (hc : Takes i (active j r)) (h : Vec F S512x1024 .bf16) (g : Vec F S128x1024 .f32) (w : Vec F S1024x2048 .bf16) (a : Vec F S512x1024 .f32) (E : Set ℕ) (K : PUnit → sProp 𝕄) :
    iprop(inputs c arg2 arg3 arg4 arg5 arg6 arg7 arg8 arg9 arg10 arg11 arg12 x0 x1 x2 x3 x4 x5 x6 x7 x8 x9 x10 ∗ owns (c : Thread nD τ) arg13 fullShare h ∗ owns (c : Thread nD τ) arg14 fullShare g ∗ owns (c : Thread nD τ) arg15 fullShare w ∗ owns (c : Thread nD τ) arg16 fullShare a
      ∗ (iprop(inputs c arg2 arg3 arg4 arg5 arg6 arg7 arg8 arg9 arg10 arg11 arg12 x0 x1 x2 x3 x4 x5 x6 x7 x8 x9 x10 ∗ owns (c : Thread nD τ) arg13 fullShare (newH j r h a x5 x6 x7 x8 x9 x10) ∗ owns (c : Thread nD τ) arg14 fullShare (newG j r g a x9 x10) ∗ owns (c : Thread nD τ) arg15 fullShare (newW r w x1 x2 x3 x4) ∗ owns (c : Thread nD τ) arg16 fullShare (newA r a (newW r w x1 x2 x3 x4) x0)) -∗ K ⟨⟩))
    ⊢ wp frame (wpE (defs₀ (F := F)) Variants.none c none) E (cc0_proj_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  by_cases h0 : r = 0
  · subst h0
    have eH : newH j 0 h a x5 x6 x7 x8 x9 x10 = h := if_pos rfl
    have eW : newW 0 w x1 x2 x3 x4 = castW x1 x2 x3 x4 := if_pos rfl
    have eA : newA 0 a (castW x1 x2 x3 x4) x0 = prod x0 (castW x1 x2 x3 x4) := if_pos (by decide)
    have eG : newG j 0 g a x9 x10 = if j = 1 then g else gvZero := if_pos rfl
    have eL : active j 0 = if j = 1 then [1] else [1, 2] := if_pos rfl
    rw [eH, eW, eA, eG]; rw [eL] at hc
    by_cases h1 : j = 1
    · rw [if_pos h1] at hc; rw [if_pos h1]
      exact start_ln c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc h g w a E K
    · rw [if_neg h1] at hc; rw [if_neg h1]
      exact start_other c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc h g w a E K
  · have eH : newH j r h a x5 x6 x7 x8 x9 x10 = fin j a x5 x6 x7 x8 x9 x10 := if_neg h0
    have eG : newG j r g a x9 x10 = if j = 1 then gvLn a x9 x10 else g := if_neg h0
    have eW : newW r w x1 x2 x3 x4 = w := if_neg h0
    rw [eH, eG, eW]
    by_cases h16 : r < 16
    · have eA : newA r a w x0 = prod x0 w := if_pos h16
      have eL : active j r = [3 + 2 * kind j] := by unfold active; rw [if_neg h0, if_pos h16]
      rw [eA]; rw [eL] at hc
      have hj' : j = 0 ∨ j = 1 ∨ j = 2 ∨ j = 3 ∨ j = 4 ∨ j = 5 ∨ j = 6 ∨ j = 7 ∨ j = 8 ∨ j = 9 := by omega
      rcases hj' with rfl | rfl | rfl | rfl | rfl | rfl | rfl | rfl | rfl | rfl
      · have hc' : Takes i [3] := hc
        rw [fin_0, if_neg (by decide)]
        exact mid_copy c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K
      · have hc' : Takes i [5] := hc
        rw [fin_1, if_pos rfl]
        exact mid_ln c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K
      · have hc' : Takes i [13] := hc
        rw [fin_2, if_neg (by decide)]
        exact mid_silu c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K
      · have hc' : Takes i [7] := hc
        rw [fin_3, if_neg (by decide)]
        exact mid_rope128 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K
      · have hc' : Takes i [13] := hc
        rw [fin_4, if_neg (by decide)]
        exact mid_silu c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K
      · have hc' : Takes i [9] := hc
        rw [fin_5, if_neg (by decide)]
        exact mid_rope64 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K
      · have hc' : Takes i [11] := hc
        rw [fin_6, if_neg (by decide)]
        exact mid_sigmoid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K
      · have hc' : Takes i [11] := hc
        rw [fin_7, if_neg (by decide)]
        exact mid_sigmoid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K
      · have hc' : Takes i [11] := hc
        rw [fin_8, if_neg (by decide)]
        exact mid_sigmoid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K
      · have hc' : Takes i [11] := hc
        rw [fin_9, if_neg (by decide)]
        exact mid_sigmoid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K
    · have eA : newA r a w x0 = a := if_neg h16
      have eL : active j r = [4 + 2 * kind j] := by unfold active; rw [if_neg h0, if_neg h16]
      rw [eA]; rw [eL] at hc
      have hj' : j = 0 ∨ j = 1 ∨ j = 2 ∨ j = 3 ∨ j = 4 ∨ j = 5 ∨ j = 6 ∨ j = 7 ∨ j = 8 ∨ j = 9 := by omega
      rcases hj' with rfl | rfl | rfl | rfl | rfl | rfl | rfl | rfl | rfl | rfl
      · have hc' : Takes i [4] := hc
        rw [fin_0, if_neg (by decide)]
        exact last_copy c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K
      · have hc' : Takes i [6] := hc
        rw [fin_1, if_pos rfl]
        exact last_ln c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K
      · have hc' : Takes i [14] := hc
        rw [fin_2, if_neg (by decide)]
        exact last_silu c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K
      · have hc' : Takes i [8] := hc
        rw [fin_3, if_neg (by decide)]
        exact last_rope128 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K
      · have hc' : Takes i [14] := hc
        rw [fin_4, if_neg (by decide)]
        exact last_silu c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K
      · have hc' : Takes i [10] := hc
        rw [fin_5, if_neg (by decide)]
        exact last_rope64 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K
      · have hc' : Takes i [12] := hc
        rw [fin_6, if_neg (by decide)]
        exact last_sigmoid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K
      · have hc' : Takes i [12] := hc
        rw [fin_7, if_neg (by decide)]
        exact last_sigmoid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K
      · have hc' : Takes i [12] := hc
        rw [fin_8, if_neg (by decide)]
        exact last_sigmoid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K
      · have hc' : Takes i [12] := hc
        rw [fin_9, if_neg (by decide)]
        exact last_sigmoid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc' h g w a E K

end Cert.Proof.Main

end
-- ==== Proof.Points.lean ====
module

public import proofs.«01_k».proof.Proof.Effect

@[expose] public section

set_option maxRecDepth 16384

noncomputable section

namespace Cert.Proof.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! The grid's 170 points: point `t` is column tile `t / 17`, row step `t % 17`. -/

/-- The branches taken at each point. -/
theorem takes : ∀ t : Fin cfg0.N, Takes (grid0.coords t) (active (t.val / 17) (t.val % 17)) := by
  unfold Takes; decide +kernel
/-- The output tile is left alone at the first step of a column tile, -/
theorem idle11 : ∀ t : Fin cfg0.N, cfg0.idle 11 (grid0.coords t) = decide (t.val % 17 = 0) := by decide +kernel
/-- and is not written back there. -/
theorem stay11 : ∀ t : Fin cfg0.N, t.val % 17 = 0 → (cfg0.win 11).flush t = false := by decide +kernel
/-- The gate tile is stored in the normalised column tile after the first step, in the others at the first. -/
theorem idle12 : ∀ t : Fin cfg0.N, cfg0.idle 12 (grid0.coords t) = if t.val % 17 = 0 then decide (t.val / 17 = 1) else decide (t.val / 17 ≠ 1) := by decide +kernel
/-- It is not written back at the normalised tile's first step, -/
theorem stay12_ln : ∀ t : Fin cfg0.N, t.val / 17 = 1 → t.val % 17 = 0 → (cfg0.win 12).flush t = false := by decide +kernel
/-- nor in the others but at the last. -/
theorem stay12_other : ∀ t : Fin cfg0.N, t.val / 17 ≠ 1 → t.val % 17 ≠ 16 → (cfg0.win 12).flush t = false := by decide +kernel
/-- The weight tile is stored at the first step alone, -/
theorem idle13 : ∀ t : Fin cfg0.N, cfg0.idle 13 (grid0.coords t) = decide (t.val % 17 ≠ 0) := by decide +kernel
/-- and not written back before the last. -/
theorem stay13 : ∀ t : Fin cfg0.N, t.val % 17 ≠ 16 → (cfg0.win 13).flush t = false := by decide +kernel

end Cert.Proof.Main

end
-- ==== Proof.Launch.lean ====
module

public import proofs.«01_k».proof.Proof.Points
public import Idealize.ShloMosaic.Lib.Claim

@[expose] public section

set_option maxRecDepth 16384

noncomputable section

namespace Cert.Proof.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! The kernel's run: what every buffer holds at every grid point, and from it what the whole launch leaves. -/

variable (m : (ℓ : Loc nD τ sig) → Buf (Elt F) ℓ) (ρ : Dev nD → PrngReg)

/-- The point before. -/
def prv (t : Fin cfg0.N) : Fin cfg0.N := ⟨t.val - 1, Nat.lt_of_le_of_lt (Nat.sub_le _ _) t.isLt⟩
/-- The first point of a point's column tile. -/
def top (t : Fin cfg0.N) : Fin cfg0.N := ⟨17 * (t.val / 17), by have := t.isLt; omega⟩
/-- The point whose rows the product held after a point is of. -/
def src (t : Fin cfg0.N) : Fin cfg0.N := if t.val % 17 < 16 then t else prv t

theorem lt_N (t : Fin cfg0.N) : t.val < 170 := lt_of_lt_of_eq t.isLt (show cfg0.N = 170 from N_0)
theorem top_prv (t : Fin cfg0.N) (h : t.val % 17 ≠ 0) : top (prv t) = top t := by
  apply Fin.ext; show 17 * ((t.val - 1) / 17) = 17 * (t.val / 17); omega
theorem top_first (t : Fin cfg0.N) (h : t.val % 17 = 0) : top t = t := by
  apply Fin.ext; show 17 * (t.val / 17) = t.val; omega

/-- The cast weights of a point's column tile. -/
def wAt (c : Dev nD) (t : Fin cfg0.N) : Vec F S1024x2048 .bf16 := castW (iblk m c 1 (top t)) (iblk m c 2 (top t)) (iblk m c 3 (top t)) (iblk m c 4 (top t))
/-- The product held after a point. -/
def accAt (c : Dev nD) (t : Fin cfg0.N) : Vec F S512x1024 .f32 := prod (iblk m c 0 (src t)) (wAt m c t)
/-- The output tile stored at a point. -/
def hAt (c : Dev nD) (t : Fin cfg0.N) : Vec F S512x1024 .bf16 :=
  fin (t.val / 17) (accAt m c (prv t)) (iblk m c 5 t) (iblk m c 6 t) (iblk m c 7 t) (iblk m c 8 t) (iblk m c 9 t) (iblk m c 10 t)
/-- The gate tile held after a point. -/
def gAt (c : Dev nD) (t : Fin cfg0.N) : Vec F S128x1024 .f32 :=
  if t.val / 17 = 1 then gvLn (accAt m c (prv t)) (iblk m c 9 t) (iblk m c 10 t) else gvZero

theorem wAt_prv (c : Dev nD) (t : Fin cfg0.N) (h : t.val % 17 ≠ 0) : wAt m c (prv t) = wAt m c t := by
  unfold wAt; rw [top_prv t h]

/-! ## What the buffers hold -/

/-- The scratch buffer of the product. -/
abbrev scr : Memref sig .tc .vmem S512x1024 .f32 := Memref.whole cc0_scratch0

/-- What is kept between points: nothing before the first, then the product the point before left. -/
def held (c : Dev nD) : (n : ℕ) → n ≤ cfg0.N → sProp 𝕄
  | 0, _ => Pipeline.ΦA spec0 c
  | n + 1, hn => iprop(owns (c : Thread nD τ) scr fullShare (accAt m c ⟨n, hn⟩) ∗ (∃ r, prngReg c r))

theorem held_zero (c : Dev nD) (n : ℕ) (h : n ≤ cfg0.N) (hz : n = 0) : held m c n h = Pipeline.ΦA spec0 c := by subst hz; rfl
theorem held_pos (c : Dev nD) (n : ℕ) (h : n ≤ cfg0.N) (hz : n ≠ 0) :
    held m c n h = iprop(owns (c : Thread nD τ) scr fullShare (accAt m c ⟨n - 1, by omega⟩) ∗ (∃ r, prngReg c r)) := by
  cases n with
  | zero => exact absurd rfl hz
  | succ n => rfl

/-- The launch hands the scratch buffer over at some contents. -/
theorem handed (c : Dev nD) : (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- The contents of every window's buffer after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => hAt m c t
    | ⟨12, _⟩ => gAt m c t
    | ⟨13, _⟩ => wAt m c t
  Φ t := held m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem keep_castSucc (c : Dev nD) (t : Fin cfg0.N) : (dats m 0 c).Φ t.castSucc = held m c t.val (Nat.le_of_lt t.isLt) := by
  dsimp only [dats]; exact Pipeline.Dat.Φ_castSucc (held m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = hAt m c t := by dsimp only [dats]
theorem after_12 (c : Dev nD) (t : Fin cfg0.N) : (dats m 0 c).after 12 t = gAt m c t := by dsimp only [dats]
theorem after_13 (c : Dev nD) (t : Fin cfg0.N) : (dats m 0 c).after 13 t = wAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d

/-- An output's buffer after a point that does not write it back holds, at the next point, what that point left. -/
theorem before_next (c : Dev nD) (w : Fin cfg0.W) (hw : (cfg0.win w).isOut = true) (hclip : ∀ (i : cfg0.grid.Coords) a, (cfg0.win w).clip i a = none)
    (t : Fin cfg0.N) (ht : t.val ≠ 0) (hf : (cfg0.win w).flush (prv t) = false) (d) :
    (dats m 0 c).before w t d = if cfg0.idle w (grid0.coords (prv t)) = true then (dats m 0 c).before w (prv t) d else (dats m 0 c).after w (prv t) := by
  rw [Dat.before_of_pos (dats m 0 c) w t ht ((cfg0.win w).fetch_out hw t)]
  rw [show (cfg0.win w).flush ⟨t.val - 1, _⟩ = false from hf, if_neg Bool.false_ne_true]
  show (dats m 0 c).left w (prv t) d = _
  unfold Dat.left
  cases hi : cfg0.idle w (grid0.coords (prv t)) with
  | true => rw [if_pos rfl]
  | false =>
    rw [if_neg Bool.false_ne_true]; simp only [hi]
    unfold Dat.kept
    rw [Pipeline.fill_of_clip_none w _ (hclip _) d ((dats m 0 c).after w (prv t)), Pipeline.Window.fill_cut]

/-- After its first step a column tile's weight buffer holds its cast weights. -/
theorem before_13 (c : Dev nD) (d) : ∀ (n : ℕ) (t : Fin cfg0.N), t.val % 17 = n + 1 → (dats m 0 c).before 13 t d = wAt m c t
  | 0, t, h => by
    have e : (prv t).val = t.val - 1 := rfl
    rw [before_next m c 13 rfl (fun _ _ => rfl) t (by omega) (stay13 _ (by omega)) d, idle13, if_neg (by rw [decide_eq_true_eq]; omega), after_13, wAt_prv m c t (by omega)]
  | n + 1, t, h => by
    have e : (prv t).val = t.val - 1 := rfl
    have := lt_N t
    rw [before_next m c 13 rfl (fun _ _ => rfl) t (by omega) (stay13 _ (by omega)) d, idle13, if_pos (by rw [decide_eq_true_eq]; omega),
      before_13 c d n (prv t) (by omega), wAt_prv m c t (by omega)]

/-- After the first step of a tile not normalised the gate buffer holds zeros. -/
theorem before_12 (c : Dev nD) (d) : ∀ (n : ℕ) (t : Fin cfg0.N), t.val / 17 ≠ 1 → t.val % 17 = n + 1 → (dats m 0 c).before 12 t d = gvZero
  | 0, t, hj, h => by
    have e : (prv t).val = t.val - 1 := rfl
    have e' : (prv t).val / 17 ≠ 1 := by omega
    have hi : cfg0.idle 12 (grid0.coords (prv t)) = false := by rw [idle12, if_pos (by omega), decide_eq_false e']
    rw [before_next m c 12 rfl (fun _ _ => rfl) t (by omega) (stay12_other _ e' (by omega)) d, hi, if_neg Bool.false_ne_true, after_12]
    unfold gAt; rw [if_neg e']
  | n + 1, t, hj, h => by
    have e : (prv t).val = t.val - 1 := rfl
    have e' : (prv t).val / 17 ≠ 1 := by omega
    have hi : cfg0.idle 12 (grid0.coords (prv t)) = true := by rw [idle12, if_neg (by omega), decide_eq_true e']
    rw [before_next m c 12 rfl (fun _ _ => rfl) t (by omega) (stay12_other _ e' (by omega)) d, hi, if_pos rfl,
      before_12 c d n (prv t) e' (by omega)]

/-- What the body leaves in a window's buffer is what is asked of it: the stated contents where it stores or writes back, else what it found. -/
theorem leaves_of (c : Dev nD) (w : Fin cfg0.W) (t : Fin cfg0.N) (d) (X : (cfg0.win w).block.Idx → Elt F (cfg0.win w).elt)
    (hlive : cfg0.idle w (grid0.coords t) = false ∨ (cfg0.win w).flush t = true → X = (dats m 0 c).after w t)
    (hidle : cfg0.idle w (grid0.coords t) = true → (cfg0.win w).flush t = false → X = (dats m 0 c).before w t d) :
    owns (c : Thread nD τ) ((cfg0.win w).stage (cfg0.slots t w)) fullShare X ⊢ ((dats m 0 c).leavesExact w t : sProp 𝕄) := by
  unfold Dat.leavesExact
  cases hi : cfg0.idle w (grid0.coords t) with
  | false =>
    simp only [hi]
    rw [hlive (.inl hi)]
  | true =>
    simp only [hi]
    cases hf : (cfg0.win w).flush t with
    | true => simp only [hf]; rw [hlive (.inr hf)]
    | false =>
      simp only [hf]
      rw [hidle hi hf]
      iintro H; iexists d; iexact H

/-! ## The body at every point -/

/-- What the body is run with at a point, -/
def found (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)))
/-- and what it leaves. -/
def leftAfter (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t)

/-- The scratch buffer as the body finds it. -/
theorem scratch_found (c : Dev nD) (t : Fin cfg0.N) :
    (dats m 0 c).Φ t.castSucc ⊢ (iprop((∃ a, ⌜t.val ≠ 0 → a = accAt m c (prv t)⌝ ∗ owns (c : Thread nD τ) scr fullShare a) ∗ (∃ r, prngReg c r)) : sProp 𝕄) := by
  rw [keep_castSucc]
  by_cases hz : t.val = 0
  · rw [held_zero m c _ _ hz, handed]
    iintro ⟨⟨%d, H⟩, Hg⟩
    isplitl [H]
    · iexists d; isplitr
      · ipureintro; exact fun h => absurd hz h
      · iexact H
    · iexact Hg
  · rw [held_pos m c _ _ hz]
    iintro ⟨H, Hg⟩
    isplitl [H]
    · iexists _; isplitr
      swap; · iexact H
      ipureintro; intro _; rfl
    · iexact Hg

/-- The weight tile after a run is the column tile's. -/
theorem newW_eq (c : Dev nD) (t : Fin cfg0.N) (d) : newW (t.val % 17) ((dats m 0 c).before 13 t d) (iblk m c 1 t) (iblk m c 2 t) (iblk m c 3 t) (iblk m c 4 t) = wAt m c t := by
  unfold newW
  by_cases h : t.val % 17 = 0
  · rw [if_pos h]; unfold wAt; rw [top_first t h]
  · rw [if_neg h]; exact before_13 m c d (t.val % 17 - 1) t (by omega)

/-- The product after a run. -/
theorem newA_eq (c : Dev nD) (t : Fin cfg0.N) (a) (ha : t.val ≠ 0 → a = accAt m c (prv t)) : newA (t.val % 17) a (wAt m c t) (iblk m c 0 t) = accAt m c t := by
  unfold newA
  have e : (prv t).val = t.val - 1 := rfl
  by_cases h : t.val % 17 < 16
  · rw [if_pos h]; unfold accAt src; rw [if_pos h]
  · rw [if_neg h, ha (by omega)]; unfold accAt src
    rw [if_neg h, if_pos (by omega), wAt_prv m c t (by omega)]

/-- The output tile after a run. -/
theorem leave_11 (c : Dev nD) (t : Fin cfg0.N) (d) (a) (ha : t.val ≠ 0 → a = accAt m c (prv t)) :
    owns (c : Thread nD τ) (st0_11 t) fullShare (newH (t.val / 17) (t.val % 17) ((dats m 0 c).before 11 t d) a (iblk m c 5 t) (iblk m c 6 t) (iblk m c 7 t) (iblk m c 8 t) (iblk m c 9 t) (iblk m c 10 t)) ⊢ ((dats m 0 c).leavesExact 11 t : sProp 𝕄) := by
  by_cases h : t.val % 17 = 0
  · refine leaves_of m c 11 t d _ (fun hx => ?_) (fun _ _ => ?_)
    · rw [idle11, stay11 t h] at hx; simp only [h] at hx; exact absurd hx (by decide)
    · unfold newH; rw [if_pos h]
  · refine leaves_of m c 11 t d _ (fun _ => ?_) (fun hx _ => ?_)
    · unfold newH; rw [if_neg h, after_11, ha (by omega)]; rfl
    · rw [idle11, decide_eq_true_eq] at hx; exact absurd hx h

/-- The gate tile after a run. -/
theorem leave_12 (c : Dev nD) (t : Fin cfg0.N) (d) (a) (ha : t.val ≠ 0 → a = accAt m c (prv t)) :
    owns (c : Thread nD τ) (st0_12 t) fullShare (newG (t.val / 17) (t.val % 17) ((dats m 0 c).before 12 t d) a (iblk m c 9 t) (iblk m c 10 t)) ⊢ ((dats m 0 c).leavesExact 12 t : sProp 𝕄) := by
  by_cases h : t.val % 17 = 0
  · by_cases hj : t.val / 17 = 1
    · refine leaves_of m c 12 t d _ (fun hx => ?_) (fun _ _ => ?_)
      · rw [idle12, if_pos h, stay12_ln t hj h] at hx; simp only [hj] at hx; exact absurd hx (by decide)
      · unfold newG; rw [if_pos h, if_pos hj]
    · refine leaves_of m c 12 t d _ (fun _ => ?_) (fun hx _ => ?_)
      · unfold newG; rw [if_pos h, if_neg hj, after_12]; unfold gAt; rw [if_neg hj]
      · rw [idle12, if_pos h, decide_eq_true_eq] at hx; exact absurd hx hj
  · by_cases hj : t.val / 17 = 1
    · refine leaves_of m c 12 t d _ (fun _ => ?_) (fun hx _ => ?_)
      · unfold newG; rw [if_neg h, if_pos hj, after_12, ha (by omega)]; unfold gAt; rw [if_pos hj]
      · rw [idle12, if_neg h, decide_eq_true_eq] at hx; exact absurd hj hx
    · refine leaves_of m c 12 t d _ (fun _ => ?_) (fun _ _ => ?_)
      · unfold newG; rw [if_neg h, if_neg hj, after_12, before_12 m c d (t.val % 17 - 1) t hj (by omega)]; unfold gAt; rw [if_neg hj]
      · unfold newG; rw [if_neg h, if_neg hj]

/-- The weight tile after a run. -/
theorem leave_13 (c : Dev nD) (t : Fin cfg0.N) (d : (cfg0.win 13).block.Idx → Elt F (cfg0.win 13).elt) :
    owns (c : Thread nD τ) (st0_13 t) fullShare (wAt m c t) ⊢ ((dats m 0 c).leavesExact 13 t : sProp 𝕄) := by
  refine leaves_of m c 13 t d _ (fun _ => (after_13 m c t).symm) (fun hx _ => ?_)
  rw [idle13, decide_eq_true_eq] at hx
  exact (before_13 m c d (t.val % 17 - 1) t (by omega)).symm

theorem leave_0 (c : Dev nD) (t : Fin cfg0.N) (d : (cfg0.win 0).block.Idx → Elt F (cfg0.win 0).elt) : owns (c : Thread nD τ) (st0_0 t) fullShare (iblk m c 0 t) ⊢ ((dats m 0 c).leavesExact 0 t : sProp 𝕄) :=
  leaves_of m c 0 t d _ (fun _ => (after_0 m c t).symm) (fun _ _ => (before_0 m c t d).symm)
theorem leave_1 (c : Dev nD) (t : Fin cfg0.N) (d : (cfg0.win 1).block.Idx → Elt F (cfg0.win 1).elt) : owns (c : Thread nD τ) (st0_1 t) fullShare (iblk m c 1 t) ⊢ ((dats m 0 c).leavesExact 1 t : sProp 𝕄) :=
  leaves_of m c 1 t d _ (fun _ => (after_1 m c t).symm) (fun _ _ => (before_1 m c t d).symm)
theorem leave_2 (c : Dev nD) (t : Fin cfg0.N) (d : (cfg0.win 2).block.Idx → Elt F (cfg0.win 2).elt) : owns (c : Thread nD τ) (st0_2 t) fullShare (iblk m c 2 t) ⊢ ((dats m 0 c).leavesExact 2 t : sProp 𝕄) :=
  leaves_of m c 2 t d _ (fun _ => (after_2 m c t).symm) (fun _ _ => (before_2 m c t d).symm)
theorem leave_3 (c : Dev nD) (t : Fin cfg0.N) (d : (cfg0.win 3).block.Idx → Elt F (cfg0.win 3).elt) : owns (c : Thread nD τ) (st0_3 t) fullShare (iblk m c 3 t) ⊢ ((dats m 0 c).leavesExact 3 t : sProp 𝕄) :=
  leaves_of m c 3 t d _ (fun _ => (after_3 m c t).symm) (fun _ _ => (before_3 m c t d).symm)
theorem leave_4 (c : Dev nD) (t : Fin cfg0.N) (d : (cfg0.win 4).block.Idx → Elt F (cfg0.win 4).elt) : owns (c : Thread nD τ) (st0_4 t) fullShare (iblk m c 4 t) ⊢ ((dats m 0 c).leavesExact 4 t : sProp 𝕄) :=
  leaves_of m c 4 t d _ (fun _ => (after_4 m c t).symm) (fun _ _ => (before_4 m c t d).symm)
theorem leave_5 (c : Dev nD) (t : Fin cfg0.N) (d : (cfg0.win 5).block.Idx → Elt F (cfg0.win 5).elt) : owns (c : Thread nD τ) (st0_5 t) fullShare (iblk m c 5 t) ⊢ ((dats m 0 c).leavesExact 5 t : sProp 𝕄) :=
  leaves_of m c 5 t d _ (fun _ => (after_5 m c t).symm) (fun _ _ => (before_5 m c t d).symm)
theorem leave_6 (c : Dev nD) (t : Fin cfg0.N) (d : (cfg0.win 6).block.Idx → Elt F (cfg0.win 6).elt) : owns (c : Thread nD τ) (st0_6 t) fullShare (iblk m c 6 t) ⊢ ((dats m 0 c).leavesExact 6 t : sProp 𝕄) :=
  leaves_of m c 6 t d _ (fun _ => (after_6 m c t).symm) (fun _ _ => (before_6 m c t d).symm)
theorem leave_7 (c : Dev nD) (t : Fin cfg0.N) (d : (cfg0.win 7).block.Idx → Elt F (cfg0.win 7).elt) : owns (c : Thread nD τ) (st0_7 t) fullShare (iblk m c 7 t) ⊢ ((dats m 0 c).leavesExact 7 t : sProp 𝕄) :=
  leaves_of m c 7 t d _ (fun _ => (after_7 m c t).symm) (fun _ _ => (before_7 m c t d).symm)
theorem leave_8 (c : Dev nD) (t : Fin cfg0.N) (d : (cfg0.win 8).block.Idx → Elt F (cfg0.win 8).elt) : owns (c : Thread nD τ) (st0_8 t) fullShare (iblk m c 8 t) ⊢ ((dats m 0 c).leavesExact 8 t : sProp 𝕄) :=
  leaves_of m c 8 t d _ (fun _ => (after_8 m c t).symm) (fun _ _ => (before_8 m c t d).symm)
theorem leave_9 (c : Dev nD) (t : Fin cfg0.N) (d : (cfg0.win 9).block.Idx → Elt F (cfg0.win 9).elt) : owns (c : Thread nD τ) (st0_9 t) fullShare (iblk m c 9 t) ⊢ ((dats m 0 c).leavesExact 9 t : sProp 𝕄) :=
  leaves_of m c 9 t d _ (fun _ => (after_9 m c t).symm) (fun _ _ => (before_9 m c t d).symm)
theorem leave_10 (c : Dev nD) (t : Fin cfg0.N) (d : (cfg0.win 10).block.Idx → Elt F (cfg0.win 10).elt) : owns (c : Thread nD τ) (st0_10 t) fullShare (iblk m c 10 t) ⊢ ((dats m 0 c).leavesExact 10 t : sProp 𝕄) :=
  leaves_of m c 10 t d _ (fun _ => (after_10 m c t).symm) (fun _ _ => (before_10 m c t d).symm)

set_option maxHeartbeats 4000000 in
/-- The body at every point. -/
theorem body_sound (c : Dev nD) (t : Fin cfg0.N) :
    found m c t ⊢ wp frame (wpE (defs₀ (F := F)) Variants.none c none) Set.univ (bodyAt0 t) (fun _ => leftAfter m c t) := by
  have ht := lt_N t
  unfold found leftAfter bodyAt0
  simp only [before_0, before_1, before_2, before_3, before_4, before_5, before_6, before_7, before_8, before_9, before_10]
  rw [show (dats m 0 c).Φ t.succ = iprop(owns (c : Thread nD τ) scr fullShare (accAt m c t) ∗ (∃ r, prngReg c r)) from rfl]
  rw [show (dats m 0 c).owesAt () t.succ = (dats m 0 c).owesAt () t.castSucc from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave HP := scratch_found m c t $$ HP
  icases HP with ⟨⟨%a, %ha, HS⟩, Hg⟩
  iapply (body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) scr (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (t.val / 17) (t.val % 17) (by omega) (by omega) (takes t) ((dats m 0 c).before 11 t d11) ((dats m 0 c).before 12 t d12) ((dats m 0 c).before 13 t d13) a Set.univ _)
  rw [newW_eq m c t d13, newA_eq m c t a ha]
  isplitl [H0 H1 H2 H3 H4 H5 H6 H7 H8 H9 H10]
  · unfold inputs
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]; · iexact H11
  isplitl [H12]; · iexact H12
  isplitl [H13]; · iexact H13
  isplitl [HS]; · iexact HS
  unfold inputs
  iintro ⟨⟨H0, H1, H2, H3, H4, H5, H6, H7, H8, H9, H10⟩, H11, H12, H13, HS⟩
  isplitl [HS Hg]
  · isplitl [HS]; · iexact HS
    iexact Hg
  isplitl [Ho]; · iexact Ho
  isplitl [H0]; · iapply (leave_0 m c t d0); iexact H0
  isplitl [H1]; · iapply (leave_1 m c t d1); iexact H1
  isplitl [H2]; · iapply (leave_2 m c t d2); iexact H2
  isplitl [H3]; · iapply (leave_3 m c t d3); iexact H3
  isplitl [H4]; · iapply (leave_4 m c t d4); iexact H4
  isplitl [H5]; · iapply (leave_5 m c t d5); iexact H5
  isplitl [H6]; · iapply (leave_6 m c t d6); iexact H6
  isplitl [H7]; · iapply (leave_7 m c t d7); iexact H7
  isplitl [H8]; · iapply (leave_8 m c t d8); iexact H8
  isplitl [H9]; · iapply (leave_9 m c t d9); iexact H9
  isplitl [H10]; · iapply (leave_10 m c t d10); iexact H10
  isplitl [H11]; · iapply (leave_11 m c t d11 a ha); iexact H11
  isplitl [H12]; · iapply (leave_12 m c t d12 a ha); iexact H12
  iapply (leave_13 m c t d13); iexact H13

/-- The body table's row is the body. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_sound m c t) rfl .rfl fun _ => .rfl

theorem start_held (c : Dev nD) : Pipeline.ΦA spec0 c ⊢ (dats m 0 c).Φ 0 := by
  rw [show (dats m 0 c).Φ 0 = held m c 0 (Nat.zero_le _) from rfl, held_zero m c 0 _ rfl]
  try exact Idealize.SL.BI.Entails.refl _

theorem end_held (c : Dev nD) : (dats m 0 c).Φ (Fin.last cfg0.N) ⊢ Pipeline.ΦA spec0 c := by
  have hN : cfg0.N = 170 := N_0
  rw [show (dats m 0 c).Φ (Fin.last cfg0.N) = held m c (Fin.last cfg0.N).val (Nat.le_of_lt_succ (Fin.last cfg0.N).isLt) from rfl,
    held_pos m c _ _ (by rw [Fin.val_last]; omega), handed]
  iintro ⟨HS, Hg⟩
  isplitl [HS]
  · iexists _; iexact HS
  iexact Hg

set_option backward.isDefEq.respectTransparency.types false in
set_option maxHeartbeats 800000 in
/-- The launch: every execution ends, every array holds what the contents above give it, and every counter is zero. -/
theorem run_counters : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := start_held m) (hout := end_held m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_counters m ρ)

/-- Every execution ends with the arguments as they were and every counter at zero. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_counters m ρ))

end Cert.Proof.Main

end
-- ==== Proof.Same.lean ====
module

public import proofs.«01_k».proof.Defs
public import proofs.«01_k».proof.Proof.Gen.KernelIdeal.Frame
public import proofs.«01_k».proof.Proof.Gen.Kernel.Frame

@[expose] public section

set_option maxRecDepth 16384

noncomputable section

namespace Cert.Proof

open Idealize.ShloMosaic Idealize.SL.Sem

/-! The kernel and its idealised form are the same text under two names. -/

instance : Cert.Kernel.Facts := Cert.Kernel.Gen.facts
instance : Cert.KernelIdeal.Facts := Cert.KernelIdeal.Gen.facts

set_option backward.isDefEq.respectTransparency false in
set_option maxHeartbeats 1000000 in
/-- The kernels' bodies are the same. -/
theorem body_eq : @Cert.Kernel.cc0_proj_main Bits _ _ = @Cert.KernelIdeal.cc0_proj_main Bits _ _ := rfl

set_option backward.isDefEq.respectTransparency false in
set_option maxHeartbeats 1000000 in
/-- The kernels' tables of bodies are the same. -/
theorem table_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) =>
    dsimp only
    rw [body_eq]
    rfl

set_option backward.isDefEq.respectTransparency false in
set_option maxHeartbeats 1000000 in
/-- The programs' definitions are the same. -/
theorem defs_eq : Cert.Kernel.defs (F := Bits) = Cert.KernelIdeal.defs (F := Bits) :=
  congrArg (Pipeline.defs (Cert.KernelIdeal.pcfgs (F := Bits))) table_eq

set_option backward.isDefEq.respectTransparency false in
set_option maxHeartbeats 1000000 in
/-- The programs' entries are the same. -/
theorem main_eq : Cert.Kernel.main (F := Bits) = Cert.KernelIdeal.main (F := Bits) := rfl

end Cert.Proof

end
-- ==== Proof.Frames.lean ====
module

public import proofs.«01_k».proof.Defs
public import proofs.«01_k».proof.Proof.Launch
public import proofs.«01_k».proof.Proof.Same
public import proofs.«01_k».proof.Proof.Gen.ReferenceIdeal.Run

@[expose] public section

set_option maxRecDepth 16384

noncomputable section

namespace Cert.Proof

open Idealize.ShloMosaic Idealize.SL.Sem

/-! The three programs run to the end, keep their arguments and leave every counter at zero. -/

instance : Cert.ReferenceIdeal.Facts := Cert.ReferenceIdeal.Gen.facts

set_option backward.isDefEq.respectTransparency false in
set_option maxHeartbeats 1000000 in
/-- The kernel's frame on the machine's own floats: the run is the one over any floats, since the two programs are the same text. -/
theorem frame_kernel : Cert.quiescent_Kernel := fun m ρ _ => by
  rw [main_eq, defs_eq]
  exact Main.args_kept (F := Bits) m ρ

/-- The idealised kernel's frame. -/
theorem frame_kernelIdeal : Cert.quiescent_KernelIdeal := fun m ρ _ => Main.args_kept (F := Ideal) m ρ

/-- The reference's frame: it declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.Proof

end
-- ==== Proof.Pay.lean ====
module

public import proofs.«01_k».proof.Proof.Contents
public import Idealize.ShloMosaic.Lib.Pipeline.ValueKit
public import Idealize.ShloMosaic.Lib.Pointwise

@[expose] public section

set_option maxRecDepth 16384

noncomputable section

namespace Cert.Proof.Main

open Cert.KernelIdeal Cert.KernelIdeal.Gen
open Idealize.ShloMosaic Idealize.ShloMosaic.TcCoe Idealize.SL.Sem

/-! What the body computes, entry by entry, over the ideal values. -/

/-- The four weight chunks, one under the other. -/
theorem castW_apply (x1 x2 x3 x4 : FVec Ideal S256x2048 .f32) (n : Fin 1024) (k : Fin 2048) :
    castW (F := Ideal) x1 x2 x3 x4 (ix2 n k) = (if (n : ℕ) < 256 then x1 else if (n : ℕ) < 512 then x2 else if (n : ℕ) < 768 then x3 else x4) (ix2 ⟨n % 256, Nat.mod_lt _ (by omega)⟩ k) := by
  unfold castW
  canon_tiles x h
  all_goals (idx_vars x; pointwise [k0_pay4] at h0 h1 ⊢)
  · rw [if_neg (by omega), if_neg (by omega), if_neg (by omega)]; blk_ext
  · rw [if_neg (by omega), if_neg (by omega), if_pos (by omega)]; blk_ext
  · rw [if_neg (by omega), if_pos (by omega)]; blk_ext
  · rw [if_pos (by omega)]; blk_ext

/-- The product of the activations with the weights, row by row. -/
theorem prod_apply (x : FVec Ideal S512x2048 .bf16) (w : FVec Ideal S1024x2048 .bf16) (p : Fin 512) (q : Fin 1024) :
    prod (F := Ideal) x w (ix2 p q) = ∑ k : Fin 2048, x (ix2 p k) * w (ix2 q k) := by
  unfold prod
  canon_tiles x h
  all_goals (idx_vars x; pointwise [k0_pay8] at h0 h1 ⊢; refine Finset.sum_congr rfl fun k _ => ?_; refine congrArg₂ _ ?_ ?_ <;> blk_ext)

theorem finCopy_apply (a : FVec Ideal S512x1024 .f32) (p : Fin 512) (q : Fin 1024) : finCopy (F := Ideal) a (ix2 p q) = a (ix2 p q) := by
  unfold finCopy
  canon_tiles x h
  all_goals (idx_vars x; pointwise [k0_pay11] at h0 h1 ⊢; blk_ext)

/-- The logistic function as the body computes it. -/
def lgs (u : EReal) : EReal := Ideal.ofBits FTy.f32 1056964608#32 * Ideal.tanh (Ideal.ofBits FTy.f32 1056964608#32 * u) + Ideal.ofBits FTy.f32 1056964608#32

theorem finSigmoid_apply (a : FVec Ideal S512x1024 .f32) (p : Fin 512) (q : Fin 1024) : finSigmoid (F := Ideal) a (ix2 p q) = lgs (a (ix2 p q)) := by
  unfold finSigmoid
  canon_tiles x h
  all_goals (idx_vars x; pointwise [k0_pay150] at h0 h1 ⊢; refine congrArg lgs ?_; blk_ext)

theorem finSilu_apply (a : FVec Ideal S512x1024 .f32) (p : Fin 512) (q : Fin 1024) : finSilu (F := Ideal) a (ix2 p q) = a (ix2 p q) * lgs (a (ix2 p q)) := by
  unfold finSilu
  canon_tiles x h
  all_goals (idx_vars x; pointwise [k0_pay163] at h0 h1 ⊢; refine congrArg (fun u => u * lgs u) ?_; blk_ext)

/-- The mean of a row. -/
def mean (r : Fin 1024 → EReal) : EReal := Ideal.div (∑ k, r k) (Ideal.ofBits FTy.f32 1149239296#32)
/-- A row's normalised entry, scaled and shifted. -/
def norm (r : Fin 1024 → EReal) (q : Fin 1024) (g b : EReal) : EReal :=
  (r q - mean r) * Ideal.rsqrt (Ideal.div (∑ k, (r k - mean r) * (r k - mean r)) (Ideal.ofBits FTy.f32 1149239296#32) + Ideal.ofBits FTy.f32 897988541#32) * g + b

theorem finLn_apply (a : FVec Ideal S512x1024 .f32) (g b : FVec Ideal S1x1024 .f32) (p : Fin 512) (q : Fin 1024) :
    finLn (F := Ideal) a g b (ix2 p q) = norm (fun k => a (ix2 p k)) q (g (ix2 0 q)) (b (ix2 0 q)) := by
  unfold finLn norm mean
  canon_tiles x h
  all_goals (idx_vars x; pointwise [k0_pay20, k0_pay19, k0_pay18, k0_pay17] at h0 h1 ⊢; blk_point [])

theorem gvLn_apply (a : FVec Ideal S512x1024 .f32) (g b : FVec Ideal S1x1024 .f32) (p : Fin 128) (q : Fin 1024) :
    gvLn (F := Ideal) a g b (ix2 p q) = norm (fun k => a (ix2 ⟨384 + p, by omega⟩ k)) q (g (ix2 0 q)) (b (ix2 0 q)) := by
  unfold gvLn norm mean
  canon_tiles x h
  all_goals (idx_vars x; pointwise [k0_pay21, k0_pay19, k0_pay18, k0_pay17] at h0 h1 ⊢; blk_point [])

theorem finRope128_apply (a : FVec Ideal S512x1024 .f32) (co si : FVec Ideal S512x128 .f32) (p : Fin 512) (q : Fin 1024) :
    finRope128 (F := Ideal) a co si (ix2 p q) = a (ix2 p q) * co (ix2 p ⟨q % 128, by omega⟩)
      + a (ix2 p ⟨q / 128 * 128 + (q % 128 + 64) % 128, by omega⟩) * si (ix2 p ⟨q % 128, by omega⟩) := by
  unfold finRope128
  canon_tiles x h
  all_goals (idx_vars x; pointwise [k0_pay52, k0_pay53, k0_pay50, k0_pay51] at h0 h1 ⊢; blk_point [])

/-- The body's test of a lane's place in its group of 64. -/
def lane (n : BitVec 32) : BitVec 1 := IntOp.cmpi CmpIPredicate.slt
            (Scalar.select
              (IntOp.andi
                (IntOp.xori
                  (IntOp.cmpi CmpIPredicate.slt
                    (IntOp.remsi ArithUnit.vector n
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector n
                    (Scalar.select (Scalar.cmpi CmpIPredicate.eq 64#32 0#32) 1#32 64#32))
                  0#32))
              (IntOp.addi
                (IntOp.remsi ArithUnit.vector n
                  (Scalar.select (Scalar.cmpi CmpIPredicate.eq 64#32 0#32) 1#32 64#32))
                (Scalar.select (Scalar.cmpi CmpIPredicate.eq 64#32 0#32) 1#32 64#32))
              (IntOp.remsi ArithUnit.vector n
                (Scalar.select (Scalar.cmpi CmpIPredicate.eq 64#32 0#32) 1#32 64#32)))
            32#32
theorem lane_eq : ∀ l : Fin 128, lane (BitVec.ofNat 32 l.val) = if l.val % 64 < 32 then 1#1 else 0#1 := by decide +kernel
theorem select_lane (l : Fin 128) (u v : EReal) : Scalar.select (lane (BitVec.ofNat 32 l.val)) u v = if l.val % 64 < 32 then u else v := by
  rw [lane_eq]; split <;> rfl

theorem finRope64_apply (a : FVec Ideal S512x1024 .f32) (co si : FVec Ideal S512x128 .f32) (p : Fin 512) (q : Fin 1024) :
    finRope64 (F := Ideal) a co si (ix2 p q) = a (ix2 p q) * co (ix2 p ⟨q % 128, by omega⟩)
      + a (ix2 p ⟨q / 64 * 64 + (q % 64 + 32) % 64, by omega⟩) * si (ix2 p ⟨q % 128, by omega⟩) := by
  unfold finRope64
  canon_tiles x h
  all_goals (idx_vars x; pointwise [k0_pay89, k0_pay119, k0_pay87, k0_pay88, k0_pay114, k0_pay115] at h0 h1 ⊢)
  all_goals (refine (congrArg₂ (fun u v => u + v * _) rfl (select_lane x1 _ _)).trans ?_)
  all_goals (split <;> (refine congrArg₂ _ (congrArg₂ _ ?_ ?_) (congrArg₂ _ ?_ ?_) <;> blk_ext))

end Cert.Proof.Main

end
-- ==== Proof.Ref.lean ====
module

public import proofs.«01_k».proof.Proof.Pay
public import proofs.«01_k».proof.Proof.Gen.ReferenceIdeal.Run

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.Tactic
open Idealize.SL Idealize.SL.Sem

variable (W : Valuation τ sig (Elt Ideal))

/-- Row `s` of sequence `b` of the activations against column `k` of the weights. -/
def proj (X : FVec Ideal S4x2048x2048 .bf16) (Y : FVec Ideal S1x2048x10832 .f32) (b : Fin 4) (s : Fin 2048) (k : Fin 10832) : EReal :=
  ∑ d : Fin 2048, X (ix3 b s d) * Y (ix3 0 d k)

/-- The reference's projection. -/
def H (b : Fin 4) (s : Fin 2048) (k : Fin 10832) : EReal := proj (W (Proc.devRef .tc main_arg0)) (W (Proc.devRef .tc main_arg1)) b s k

theorem H_apply (b : Fin 4) (s : Fin 2048) (k : Fin 10832) : res_main_v3 W (ix3 b s k) = H W b s k := by
  unfold H proj
  pointwise [res_main_v3]

/-- The angle of position `s` and lane `l` of a rotation over 128. -/
def ang128 (s : Fin 2048) (l : Fin 64) : EReal :=
  FloatOps.sitofp (F := Ideal) FTy.f32 (BitVec.ofNat 32 s) * Ideal.pow (Ideal.ofBits FTy.f32 1176256512#32) (Ideal.div (-FloatOps.sitofp (F := Ideal) FTy.f32 (BitVec.ofNat 32 l)) (Ideal.ofBits FTy.f32 1115684864#32))
/-- The angle of position `s` and lane `l` of a rotation over 64. -/
def ang64 (s : Fin 2048) (l : Fin 32) : EReal :=
  FloatOps.sitofp (F := Ideal) FTy.f32 (BitVec.ofNat 32 s) * Ideal.pow (Ideal.ofBits FTy.f32 1176256512#32) (Ideal.div (-FloatOps.sitofp (F := Ideal) FTy.f32 (BitVec.ofNat 32 l)) (Ideal.ofBits FTy.f32 1107296256#32))

theorem v28_apply (s : Fin 2048) (l : Fin 64) : res_main_v28 W (ix2 s l) = ang128 s l := by
  pointwise [res_main_v28, res_main_v0]
  rfl
theorem v63_apply (s : Fin 2048) (l : Fin 32) : res_main_v63 W (ix2 s l) = ang64 s l := by
  pointwise [res_main_v63, res_main_v0]
  rfl
theorem v30_apply (s : Fin 2048) (l : Fin 64) : res_main_v30 W (ix3 s 0 l) = Ideal.cos (ang128 s l) := by
  pointwise [res_main_v30]
  exact congrArg Ideal.cos (v28_apply W s l)
theorem v32_apply (s : Fin 2048) (l : Fin 64) : res_main_v32 W (ix3 s 0 l) = Ideal.sin (ang128 s l) := by
  pointwise [res_main_v32]
  exact congrArg Ideal.sin (v28_apply W s l)
theorem v65_apply (s : Fin 2048) (l : Fin 32) : res_main_v65 W (ix3 s 0 l) = Ideal.cos (ang64 s l) := by
  pointwise [res_main_v65]
  exact congrArg Ideal.cos (v63_apply W s l)
theorem v67_apply (s : Fin 2048) (l : Fin 32) : res_main_v67 W (ix3 s 0 l) = Ideal.sin (ang64 s l) := by
  pointwise [res_main_v67]
  exact congrArg Ideal.sin (v63_apply W s l)
theorem v6_apply (b : Fin 4) (s : Fin 2048) (q : Fin 1024) : res_main_v6 W (ix3 b s q) = H W b s ⟨2048 + q, by omega⟩ := by
  pointwise [res_main_v6]
  exact H_apply W b s _
theorem v10_apply (b : Fin 4) (s : Fin 2048) (q : Fin 1024) : res_main_v10 W (ix3 b s q) = H W b s ⟨4608 + q, by omega⟩ := by
  pointwise [res_main_v10]
  exact H_apply W b s _
theorem v33_apply (b : Fin 4) (s : Fin 2048) (h : Fin 8) (l : Fin 64) : res_main_v33 W (ix4 b s h l) = H W b s ⟨3072 + (h * 128 + l), by omega⟩ := by
  pointwise [res_main_v33, res_main_v16]
  exact H_apply W b s _
theorem v34_apply (b : Fin 4) (s : Fin 2048) (h : Fin 8) (l : Fin 64) : res_main_v34 W (ix4 b s h l) = H W b s ⟨3072 + (h * 128 + (64 + l)), by omega⟩ := by
  pointwise [res_main_v34, res_main_v16]
  exact H_apply W b s _
theorem v68_apply (b : Fin 4) (s : Fin 2048) (h : Fin 16) (l : Fin 32) : res_main_v68 W (ix4 b s h l) = H W b s ⟨5632 + (h * 64 + l), by omega⟩ := by
  pointwise [res_main_v68, res_main_v51]
  exact H_apply W b s _
theorem v69_apply (b : Fin 4) (s : Fin 2048) (h : Fin 16) (l : Fin 32) : res_main_v69 W (ix4 b s h l) = H W b s ⟨5632 + (h * 64 + (32 + l)), by omega⟩ := by
  pointwise [res_main_v69, res_main_v51]
  exact H_apply W b s _
/-- The reference's normalised gate. -/
theorem v111_apply (b : Fin 4) (s : Fin 2048) (q : Fin 1024) : res_main_v111 W (ix3 b s q) = Main.norm (fun k => H W b s ⟨1024 + k, by omega⟩) q
    ((show FVec Ideal S1x1024 .f32 from W (Proc.devRef .tc main_arg2)) (ix2 0 q)) ((show FVec Ideal S1x1024 .f32 from W (Proc.devRef .tc main_arg3)) (ix2 0 q)) := by
  unfold Main.norm Main.mean
  simp only [← H_apply]
  pointwise [res_main_v111, res_main_v93, res_main_v91, res_main_v5]

/-- The logistic function as the reference computes it. -/
def lgs (u : EReal) : EReal := Ideal.div 1 (1 + Ideal.exp (-u))

/-! The activations, column tile by column tile: tile `j` is made of 1024 columns of the product, from column `off j` on. -/

/-- The weight column a column tile starts at. -/
def off (j : ℕ) : ℕ := 1024 * j + (if j < 4 then 0 else if j < 6 then 512 else 592)
theorem off_le (j : ℕ) (h : j < 10) : off j + 1024 ≤ 10832 := by unfold off; split <;> [skip; split] <;> omega

/-- Column tile `j` of a row of the product. -/
def tileRow (X : FVec Ideal S4x2048x2048 .bf16) (Y : FVec Ideal S1x2048x10832 .f32) (b : Fin 4) (s : Fin 2048) (j : Fin 10) (k : Fin 1024) : EReal :=
  proj X Y b s ⟨off j + k, by have := off_le j j.isLt; omega⟩

/-- The sine of a rotation over 128 lanes, with the sign it enters with. -/
def sgn128 (s : Fin 2048) (l : ℕ) : EReal := if l < 64 then -Ideal.sin (ang128 s ⟨l % 64, by omega⟩) else Ideal.sin (ang128 s ⟨l % 64, by omega⟩)
/-- The sine of a rotation over 64 lanes, with the sign it enters with. -/
def sgn64 (s : Fin 2048) (l : ℕ) : EReal := if l % 64 < 32 then -Ideal.sin (ang64 s ⟨l % 32, by omega⟩) else Ideal.sin (ang64 s ⟨l % 32, by omega⟩)

/-- A row of column tile `j`, finished, from the row `r` of the product. -/
def tile (r g b : Fin 1024 → EReal) (s : Fin 2048) (j : ℕ) (q : Fin 1024) : EReal :=
  if j = 0 then r q else if j = 1 then Main.norm r q (g q) (b q) else if j = 2 ∨ j = 4 then r q * lgs (r q)
  else if j = 3 then r q * Ideal.cos (ang128 s ⟨q % 128 % 64, by omega⟩) + r ⟨q / 128 * 128 + (q % 128 + 64) % 128, by omega⟩ * sgn128 s (q % 128)
  else if j = 5 then r q * Ideal.cos (ang64 s ⟨q % 128 % 32, by omega⟩) + r ⟨q / 64 * 64 + (q % 64 + 32) % 64, by omega⟩ * sgn64 s (q % 128)
  else lgs (r q)

/-- An entry of an array of three axes, as a number. -/
def at3 {n0 n1 n2 : ℕ} (x : FVec Ideal ⟨3, ![n0, n1, n2]⟩ .f32) (i : Shape.Idx ⟨3, ![n0, n1, n2]⟩) : EReal := x i
/-- An entry of an array of four axes, as a number. -/
def at4 {n0 n1 n2 n3 : ℕ} (x : FVec Ideal ⟨4, ![n0, n1, n2, n3]⟩ .f32) (i : Shape.Idx ⟨4, ![n0, n1, n2, n3]⟩) : EReal := x i

end Cert.Proof.Ref

end
-- ==== Proof.Alg.lean ====
module

public import proofs.«01_k».proof.Proof.Ref

@[expose] public section

noncomputable section

namespace Cert.Proof

open Idealize.ShloMosaic

/-! The arithmetic on which kernel and reference differ: the logistic function. -/

theorem half : Ideal.ofBits FTy.f32 1056964608#32 = ((1 / 2 : ℝ) : EReal) := by
  simp [Ideal.ofBits, Ideal.ieee]
  norm_num [← EReal.coe_mul]

/-- On the reals, one half of the tangent of the half plus one half is the logistic function. -/
theorem tanh_half (r : ℝ) : 1 / 2 * Real.tanh (1 / 2 * r) + 1 / 2 = 1 / (1 + Real.exp (-r)) := by
  have e : Real.exp (-r) = Real.exp (-(1 / 2 * r)) * Real.exp (-(1 / 2 * r)) := by rw [← Real.exp_add]; congr 1; ring
  have p := Real.exp_pos (1 / 2 * r)
  have q := Real.exp_pos (-(1 / 2 * r))
  have pq : Real.exp (1 / 2 * r) * Real.exp (-(1 / 2 * r)) = 1 := by rw [← Real.exp_add]; simp
  rw [Real.tanh_eq_sinh_div_cosh, Real.sinh_eq, Real.cosh_eq, e]
  generalize Real.exp (1 / 2 * r) = x at *
  generalize Real.exp (-(1 / 2 * r)) = y at *
  have h : x + y ≠ 0 := by positivity
  have h' : 1 + y * y ≠ 0 := by positivity
  have h2 : (x + y) / 2 ≠ 0 := by positivity
  have k : 1 / 2 * ((x - y) / 2 / ((x + y) / 2)) + 1 / 2 = x / (x + y) := by field_simp; ring
  rw [k, div_eq_div_iff h h']
  linear_combination y * pq

/-- The kernel's logistic function is the reference's, at the infinities too. -/
theorem lgs_eq (u : EReal) : Main.lgs u = Ref.lgs u := by
  unfold Main.lgs Ref.lgs
  rw [half]
  induction u using EReal.rec with
  | bot =>
    rw [EReal.coe_mul_bot_of_pos (by norm_num)]
    simp only [Ideal.tanh_bot, EReal.neg_bot, Ideal.exp_top]
    rw [show (1 : EReal) + ⊤ = ⊤ from rfl]
    unfold Ideal.div
    rw [if_neg (by simp), EReal.inv_top, mul_zero, show (-1 : EReal) = ((-1 : ℝ) : EReal) from rfl, ← EReal.coe_mul, ← EReal.coe_add]
    norm_num
  | top =>
    rw [EReal.coe_mul_top_of_pos (by norm_num)]
    simp only [Ideal.tanh_top, EReal.neg_top, Ideal.exp_bot, add_zero]
    rw [show (1 : EReal) = ((1 : ℝ) : EReal) from rfl, Ideal.div_coe one_ne_zero, ← EReal.coe_mul, ← EReal.coe_mul, ← EReal.coe_add]
    norm_num
  | coe r =>
    rw [← EReal.coe_mul, Ideal.tanh_coe, ← EReal.coe_mul, ← EReal.coe_add, tanh_half, ← EReal.coe_neg, Ideal.exp_coe, show (1 : EReal) = ((1 : ℝ) : EReal) from rfl,
      ← EReal.coe_add, Ideal.div_coe (by have := Real.exp_pos (-r); positivity), ← EReal.coe_mul, one_mul]

end Cert.Proof

end
-- ==== Proof.Host.lean ====
module

public import proofs.«01_k».proof.Proof.Ref

@[expose] public section

set_option maxRecDepth 16384

noncomputable section

namespace Cert.Proof.Main

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-! What the host's lines before the launch leave in the arrays the launch reads. -/

/-- The activations, one row per position. -/
theorem acts_apply (c : Dev nD) (p : Fin 8192) (d : Fin 2048) : V m c main_v47 (ix2 p d) = m ((c : Thread nD τ).loc main_arg0) (ix3 ⟨p / 2048, by omega⟩ ⟨p % 2048, by omega⟩ d) := by
  unfold V V0
  simp only [List.flatten_cons, List.flatten_nil, List.append_nil]
  after_results
  pointwise
/-- The weights, transposed. -/
theorem weights_apply (c : Dev nD) (n : Fin 10832) (d : Fin 2048) : V m c main_v49 (ix2 n d) = m ((c : Thread nD τ).loc main_arg1) (ix3 0 d n) := by
  unfold V V0
  simp only [List.flatten_cons, List.flatten_nil, List.append_nil]
  after_results
  pointwise
theorem gain_apply (c : Dev nD) (q : Fin 1024) : V m c main_v51 (ix2 0 q) = m ((c : Thread nD τ).loc main_arg2) (ix2 0 q) := by
  unfold V V0
  simp only [List.flatten_cons, List.flatten_nil, List.append_nil]
  after_results
  pointwise
theorem shift_apply (c : Dev nD) (q : Fin 1024) : V m c main_v53 (ix2 0 q) = m ((c : Thread nD τ).loc main_arg3) (ix2 0 q) := by
  unfold V V0
  simp only [List.flatten_cons, List.flatten_nil, List.append_nil]
  after_results
  pointwise
/-- The table of cosines over 128 lanes. -/
theorem cos128_apply (c : Dev nD) (s : Fin 2048) (l : Fin 128) : V m c main_v18 (ix2 s l) = Ideal.cos (Ref.ang128 s ⟨l % 64, by omega⟩) := by
  unfold V V0
  simp only [List.flatten_cons, List.flatten_nil, List.append_nil]
  after_results
  pointwise
  split
  · have e : (l : ℕ) % 64 = l := by omega
    simp only [Ref.ang128, e]
  · have e : (l : ℕ) % 64 = l - 64 := by omega
    simp only [Ref.ang128, e]
/-- The table of signed sines over 128 lanes. -/
theorem sin128_apply (c : Dev nD) (s : Fin 2048) (l : Fin 128) : V m c main_v23 (ix2 s l) = if (l : ℕ) < 64 then -Ideal.sin (Ref.ang128 s ⟨l % 64, by omega⟩) else Ideal.sin (Ref.ang128 s ⟨l % 64, by omega⟩) := by
  unfold V V0
  simp only [List.flatten_cons, List.flatten_nil, List.append_nil]
  after_results
  pointwise
  split
  · have e : (l : ℕ) % 64 = l := by omega
    simp only [Ref.ang128, e]
  · have e : (l : ℕ) % 64 = l - 64 := by omega
    simp only [Ref.ang128, e]
/-- The table of cosines over 64 lanes, twice side by side. -/
theorem cos64_apply (c : Dev nD) (s : Fin 2048) (l : Fin 128) : V m c main_v41 (ix2 s l) = Ideal.cos (Ref.ang64 s ⟨l % 32, by omega⟩) := by
  unfold V V0
  simp only [List.flatten_cons, List.flatten_nil, List.append_nil]
  after_results
  pointwise
  split
  · have e : (l : ℕ) % 32 = l % 64 := by omega
    simp only [Ref.ang64, e]
  · have e : (l : ℕ) % 32 = l % 64 - 32 := by omega
    simp only [Ref.ang64, e]
/-- The table of signed sines over 64 lanes, twice side by side. -/
theorem sin64_apply (c : Dev nD) (s : Fin 2048) (l : Fin 128) : V m c main_v46 (ix2 s l) = if (l : ℕ) % 64 < 32 then -Ideal.sin (Ref.ang64 s ⟨l % 32, by omega⟩) else Ideal.sin (Ref.ang64 s ⟨l % 32, by omega⟩) := by
  unfold V V0
  simp only [List.flatten_cons, List.flatten_nil, List.append_nil]
  after_results
  pointwise
  split
  · have e : (l : ℕ) % 32 = l % 64 := by omega
    simp only [Ref.ang64, e]
  · have e : (l : ℕ) % 32 = l % 64 - 32 := by omega
    simp only [Ref.ang64, e]

end Cert.Proof.Main

end
-- ==== Proof.Blocks.lean ====
module

public import proofs.«01_k».proof.Proof.Launch
public import proofs.«01_k».proof.Proof.Alg
public import proofs.«01_k».proof.Proof.Host

@[expose] public section

set_option maxRecDepth 16384

noncomputable section

namespace Cert.Proof.Main

open Cert.KernelIdeal Cert.KernelIdeal.Gen
open Idealize.ShloMosaic Idealize.ShloMosaic.TcCoe Idealize.SL.Sem
open Idealize.ShloMosaic.Pipeline (Dat)

open Cert.Proof.Ref (off off_le proj tileRow tile sgn128 sgn64)

variable (m : (ℓ : Loc nD τ sig) → Buf (Elt Ideal) ℓ)

/-! Where each window's block lies in its array, at each point of the grid. -/

theorem idx0 : ∀ t : Fin cfg0.N, t.val % 17 < 16 → win0_0.index t = ![t.val % 17, 0] := (by decide +kernel : ∀ t : Fin grid0.N, _)
theorem idxT : ∀ t : Fin cfg0.N, t.val % 17 ≠ 0 → win0_5.index t = ![(t.val % 17 - 1) % 4, 0] ∧ win0_6.index t = ![(t.val % 17 - 1) % 4, 0] ∧ win0_7.index t = ![(t.val % 17 - 1) % 4, 0] ∧ win0_8.index t = ![(t.val % 17 - 1) % 4, 0] ∧ win0_11.index t = ![t.val % 17 - 1, t.val / 17] := (by decide +kernel : ∀ t : Fin grid0.N, _)
theorem idxG : ∀ t : Fin cfg0.N, win0_9.index t = ![0, 0] ∧ win0_10.index t = ![0, 0] ∧ win0_13.index t = ![t.val / 17, 0] := (by decide +kernel : ∀ t : Fin grid0.N, _)
theorem idxW : ∀ t : Fin cfg0.N, t.val % 17 = 0 → win0_1.index t = ![off (t.val / 17), 0] ∧ win0_2.index t = ![off (t.val / 17) + 256, 0] ∧ win0_3.index t = ![off (t.val / 17) + 512, 0] ∧ win0_4.index t = ![off (t.val / 17) + 768, 0] := (by decide +kernel : ∀ t : Fin grid0.N, _)

theorem act_read (c : Dev nD) (t : Fin cfg0.N) (h : t.val % 17 < 16) (p : Fin 512) (d : Fin 2048) :
    iblk m c 0 t (ix2 p d) = V m c main_v47 (ix2 ⟨512 * (t.val % 17) + p, by omega⟩ d) := by
  blk_ext [iblk, idx0 t h]
theorem w_read1 (c : Dev nD) (t : Fin cfg0.N) (h : t.val % 17 = 0) (p : Fin 256) (d : Fin 2048) :
    iblk m c 1 t (ix2 p d) = V m c main_v49 (ix2 ⟨off (t.val / 17) + p, by have := off_le (t.val / 17) (by have := lt_N t; omega); omega⟩ d) := by
  blk_simp [iblk]
  have h0 : ((((win0_1.blk t).view.emb (ix2 p d)) 0 : Fin _) : ℕ) = win0_1.index t 0 + 1 * p := rfl
  have h1 : ((((win0_1.blk t).view.emb (ix2 p d)) 1 : Fin _) : ℕ) = win0_1.index t 1 + 1 * d := rfl
  rw [(idxW t h).1] at h0 h1
  refine congrArg (V m c main_v49) (funext fun a => ?_)
  match a with
  | 0 => exact Fin.ext (h0.trans (by dsimp; omega))
  | 1 => exact Fin.ext (h1.trans (by dsimp; omega))
theorem w_read2 (c : Dev nD) (t : Fin cfg0.N) (h : t.val % 17 = 0) (p : Fin 256) (d : Fin 2048) :
    iblk m c 2 t (ix2 p d) = V m c main_v49 (ix2 ⟨off (t.val / 17) + 256 + p, by have := off_le (t.val / 17) (by have := lt_N t; omega); omega⟩ d) := by
  blk_simp [iblk]
  have h0 : ((((win0_2.blk t).view.emb (ix2 p d)) 0 : Fin _) : ℕ) = win0_2.index t 0 + 1 * p := rfl
  have h1 : ((((win0_2.blk t).view.emb (ix2 p d)) 1 : Fin _) : ℕ) = win0_2.index t 1 + 1 * d := rfl
  rw [(idxW t h).2.1] at h0 h1
  refine congrArg (V m c main_v49) (funext fun a => ?_)
  match a with
  | 0 => exact Fin.ext (h0.trans (by dsimp; omega))
  | 1 => exact Fin.ext (h1.trans (by dsimp; omega))
theorem w_read3 (c : Dev nD) (t : Fin cfg0.N) (h : t.val % 17 = 0) (p : Fin 256) (d : Fin 2048) :
    iblk m c 3 t (ix2 p d) = V m c main_v49 (ix2 ⟨off (t.val / 17) + 512 + p, by have := off_le (t.val / 17) (by have := lt_N t; omega); omega⟩ d) := by
  blk_simp [iblk]
  have h0 : ((((win0_3.blk t).view.emb (ix2 p d)) 0 : Fin _) : ℕ) = win0_3.index t 0 + 1 * p := rfl
  have h1 : ((((win0_3.blk t).view.emb (ix2 p d)) 1 : Fin _) : ℕ) = win0_3.index t 1 + 1 * d := rfl
  rw [(idxW t h).2.2.1] at h0 h1
  refine congrArg (V m c main_v49) (funext fun a => ?_)
  match a with
  | 0 => exact Fin.ext (h0.trans (by dsimp; omega))
  | 1 => exact Fin.ext (h1.trans (by dsimp; omega))
theorem w_read4 (c : Dev nD) (t : Fin cfg0.N) (h : t.val % 17 = 0) (p : Fin 256) (d : Fin 2048) :
    iblk m c 4 t (ix2 p d) = V m c main_v49 (ix2 ⟨off (t.val / 17) + 768 + p, by have := off_le (t.val / 17) (by have := lt_N t; omega); omega⟩ d) := by
  blk_simp [iblk]
  have h0 : ((((win0_4.blk t).view.emb (ix2 p d)) 0 : Fin _) : ℕ) = win0_4.index t 0 + 1 * p := rfl
  have h1 : ((((win0_4.blk t).view.emb (ix2 p d)) 1 : Fin _) : ℕ) = win0_4.index t 1 + 1 * d := rfl
  rw [(idxW t h).2.2.2] at h0 h1
  refine congrArg (V m c main_v49) (funext fun a => ?_)
  match a with
  | 0 => exact Fin.ext (h0.trans (by dsimp; omega))
  | 1 => exact Fin.ext (h1.trans (by dsimp; omega))
theorem cos128_read (c : Dev nD) (t : Fin cfg0.N) (h : t.val % 17 ≠ 0) (p : Fin 512) (l : Fin 128) :
    iblk m c 5 t (ix2 p l) = Ideal.cos (Ref.ang128 ⟨512 * ((t.val % 17 - 1) % 4) + p, by omega⟩ ⟨l % 64, by omega⟩) := by
  have e : iblk m c 5 t (ix2 p l) = V m c main_v18 (ix2 ⟨512 * ((t.val % 17 - 1) % 4) + p, by omega⟩ l) := by blk_ext [iblk, (idxT t h).1]
  exact e.trans (cos128_apply m c _ l)
theorem sin128_read (c : Dev nD) (t : Fin cfg0.N) (h : t.val % 17 ≠ 0) (p : Fin 512) (l : Fin 128) :
    iblk m c 6 t (ix2 p l) = sgn128 ⟨512 * ((t.val % 17 - 1) % 4) + p, by omega⟩ l := by
  have e : iblk m c 6 t (ix2 p l) = V m c main_v23 (ix2 ⟨512 * ((t.val % 17 - 1) % 4) + p, by omega⟩ l) := by blk_ext [iblk, (idxT t h).2.1]
  exact e.trans (sin128_apply m c _ l)
theorem cos64_read (c : Dev nD) (t : Fin cfg0.N) (h : t.val % 17 ≠ 0) (p : Fin 512) (l : Fin 128) :
    iblk m c 7 t (ix2 p l) = Ideal.cos (Ref.ang64 ⟨512 * ((t.val % 17 - 1) % 4) + p, by omega⟩ ⟨l % 32, by omega⟩) := by
  have e : iblk m c 7 t (ix2 p l) = V m c main_v41 (ix2 ⟨512 * ((t.val % 17 - 1) % 4) + p, by omega⟩ l) := by blk_ext [iblk, (idxT t h).2.2.1]
  exact e.trans (cos64_apply m c _ l)
theorem sin64_read (c : Dev nD) (t : Fin cfg0.N) (h : t.val % 17 ≠ 0) (p : Fin 512) (l : Fin 128) :
    iblk m c 8 t (ix2 p l) = sgn64 ⟨512 * ((t.val % 17 - 1) % 4) + p, by omega⟩ l := by
  have e : iblk m c 8 t (ix2 p l) = V m c main_v46 (ix2 ⟨512 * ((t.val % 17 - 1) % 4) + p, by omega⟩ l) := by blk_ext [iblk, (idxT t h).2.2.2.1]
  exact e.trans (sin64_apply m c _ l)
theorem gain_read (c : Dev nD) (t : Fin cfg0.N) (q : Fin 1024) : iblk m c 9 t (ix2 0 q) = m ((c : Thread nD τ).loc main_arg2) (ix2 0 q) := by
  have e : iblk m c 9 t (ix2 0 q) = V m c main_v51 (ix2 0 q) := by blk_ext [iblk, (idxG t).1]
  exact e.trans (gain_apply m c q)
theorem shift_read (c : Dev nD) (t : Fin cfg0.N) (q : Fin 1024) : iblk m c 10 t (ix2 0 q) = m ((c : Thread nD τ).loc main_arg3) (ix2 0 q) := by
  have e : iblk m c 10 t (ix2 0 q) = V m c main_v53 (ix2 0 q) := by blk_ext [iblk, (idxG t).2.1]
  exact e.trans (shift_apply m c q)

/-- The column tile a point works on. -/
def jAt (t : Fin cfg0.N) : Fin 10 := ⟨t.val / 17, by have := lt_N t; omega⟩
/-- The point's tile of the weights, transposed. -/
theorem wAt_apply (c : Dev nD) (t : Fin cfg0.N) (n : Fin 1024) (d : Fin 2048) :
    wAt m c t (ix2 n d) = m ((c : Thread nD τ).loc main_arg1) (ix3 0 d ⟨off (jAt t) + n, by have := off_le (jAt t) (jAt t).isLt; omega⟩) := by
  have hj : (top t).val / 17 = jAt t := by dsimp only [top, jAt]; omega
  have hr : (top t).val % 17 = 0 := by dsimp only [top]; omega
  unfold wAt
  refine (castW_apply _ _ _ _ n d).trans ?_
  split_ifs
  · refine (w_read1 m c (top t) hr _ d).trans ((weights_apply m c _ d).trans (congrArg (fun k => m ((c : Thread nD τ).loc main_arg1) (ix3 0 d k)) (Fin.ext ?_)))
    dsimp only; rw [hj]; omega
  · refine (w_read2 m c (top t) hr _ d).trans ((weights_apply m c _ d).trans (congrArg (fun k => m ((c : Thread nD τ).loc main_arg1) (ix3 0 d k)) (Fin.ext ?_)))
    dsimp only; rw [hj]; omega
  · refine (w_read3 m c (top t) hr _ d).trans ((weights_apply m c _ d).trans (congrArg (fun k => m ((c : Thread nD τ).loc main_arg1) (ix3 0 d k)) (Fin.ext ?_)))
    dsimp only; rw [hj]; omega
  · refine (w_read4 m c (top t) hr _ d).trans ((weights_apply m c _ d).trans (congrArg (fun k => m ((c : Thread nD τ).loc main_arg1) (ix3 0 d k)) (Fin.ext ?_)))
    dsimp only; rw [hj]; omega
/-- The product a point finishes: 512 rows of the projection, at the point's column tile. -/
theorem accAt_apply (c : Dev nD) (t : Fin cfg0.N) (h : t.val % 17 ≠ 0) (p : Fin 512) (q : Fin 1024) :
    accAt m c (prv t) (ix2 p q) = tileRow (m ((c : Thread nD τ).loc main_arg0)) (m ((c : Thread nD τ).loc main_arg1))
      ⟨(512 * (t.val % 17 - 1) + p) / 2048, by omega⟩ ⟨(512 * (t.val % 17 - 1) + p) % 2048, by omega⟩ (jAt t) q := by
  have hr : (prv t).val % 17 = t.val % 17 - 1 := by dsimp only [prv]; omega
  have hs : src (prv t) = prv t := if_pos (by omega)
  unfold accAt tileRow proj
  rw [wAt_prv m c t h, hs]
  refine (prod_apply _ _ p q).trans (Finset.sum_congr rfl fun d _ => congrArg₂ (fun u v : EReal => u * v) ?_ (wAt_apply m c t q d))
  refine (act_read m c (prv t) (by omega) p d).trans ((acts_apply m c _ d).trans ?_)
  simp only [hr]
/-- What a point leaves in its block of the activations. -/
theorem hAt_apply (c : Dev nD) (t : Fin cfg0.N) (h : t.val % 17 ≠ 0) (p : Fin 512) (q : Fin 1024) :
    hAt m c t (ix2 p q) = tile (tileRow (m ((c : Thread nD τ).loc main_arg0)) (m ((c : Thread nD τ).loc main_arg1))
        ⟨(512 * (t.val % 17 - 1) + p) / 2048, by omega⟩ ⟨(512 * (t.val % 17 - 1) + p) % 2048, by omega⟩ (jAt t))
      (fun q => m ((c : Thread nD τ).loc main_arg2) (ix2 0 q)) (fun q => m ((c : Thread nD τ).loc main_arg3) (ix2 0 q))
      ⟨(512 * (t.val % 17 - 1) + p) % 2048, by omega⟩ (jAt t) q := by
  have hs : (⟨(512 * (t.val % 17 - 1) + p) % 2048, by omega⟩ : Fin 2048) = ⟨512 * ((t.val % 17 - 1) % 4) + p, by omega⟩ := Fin.ext (by dsimp only; omega)
  have ha := accAt_apply m c t h p
  unfold hAt fin tile
  rw [show ((jAt t : Fin 10) : ℕ) = t.val / 17 from rfl]
  split_ifs
  · exact (finCopy_apply _ p q).trans (ha q)
  · refine (finLn_apply _ _ _ p q).trans ?_
    rw [gain_read, shift_read]
    exact congrArg (fun r => norm r q _ _) (funext ha)
  · refine (finSilu_apply _ p q).trans ?_
    rw [lgs_eq]
    exact congrArg (fun u : EReal => u * Ref.lgs u) (ha q)
  · refine (finRope128_apply _ _ _ p q).trans ?_
    refine congrArg₂ (fun u v : EReal => u + v) (congrArg₂ (fun u v : EReal => u * v) (ha q) ?_) (congrArg₂ (fun u v : EReal => u * v) (ha _) ?_)
    · exact (cos128_read m c t h p _).trans (by rw [hs])
    · exact (sin128_read m c t h p _).trans (by rw [hs])
  · refine (finRope64_apply _ _ _ p q).trans ?_
    refine congrArg₂ (fun u v : EReal => u + v) (congrArg₂ (fun u v : EReal => u * v) (ha q) ?_) (congrArg₂ (fun u v : EReal => u * v) (ha _) ?_)
    · exact (cos64_read m c t h p _).trans (by rw [hs])
    · exact (sin64_read m c t h p _).trans (by rw [hs])
  · refine (finSigmoid_apply _ p q).trans ?_
    rw [lgs_eq]
    exact congrArg Ref.lgs (ha q)
/-- What a point of the second column tile leaves in its block of the late gate rows. -/
theorem gAt_apply (c : Dev nD) (t : Fin cfg0.N) (h : t.val % 17 ≠ 0) (hj : t.val / 17 = 1) (p : Fin 128) (q : Fin 1024) :
    gAt m c t (ix2 p q) = norm (tileRow (m ((c : Thread nD τ).loc main_arg0)) (m ((c : Thread nD τ).loc main_arg1))
        ⟨(512 * (t.val % 17 - 1) + (384 + p)) / 2048, by omega⟩ ⟨(512 * (t.val % 17 - 1) + (384 + p)) % 2048, by omega⟩ 1) q
      (m ((c : Thread nD τ).loc main_arg2) (ix2 0 q)) (m ((c : Thread nD τ).loc main_arg3) (ix2 0 q)) := by
  have e : jAt t = 1 := Fin.ext hj
  unfold gAt
  rw [if_pos hj]
  refine (gvLn_apply _ _ _ p q).trans ?_
  rw [gain_read, shift_read]
  refine congrArg (fun r => norm r q _ _) (funext fun k => (accAt_apply m c t h _ k).trans ?_)
  rw [e]

end Cert.Proof.Main

end
-- ==== Proof.RefAct.lean ====
module

public import proofs.«01_k».proof.Proof.Ref

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.Tactic
open Idealize.SL Idealize.SL.Sem

variable (W : Valuation τ sig (Elt Ideal))

set_option maxRecDepth 100000 in
set_option maxHeartbeats 1000000 in
/-- The reference's activations, column range by column range. -/
theorem v126_apply (b : Fin 4) (s : Fin 2048) (q : Fin 10240) : res_main_v126 W (ix3 b s q) =
    (if h : (q : ℕ) < 1024 then at3 (res_main_v3 W) (ix3 b s ⟨q, by omega⟩) else
    if h : (q : ℕ) - 1024 < 1024 then at3 (res_main_v111 W) (ix3 b s ⟨q - 1024, by omega⟩) else
    if h : (q : ℕ) - 1024 - 1024 < 1024 then
      at3 (res_main_v6 W) (ix3 b s ⟨q - 1024 - 1024, by omega⟩) * lgs (at3 (res_main_v6 W) (ix3 b s ⟨q - 1024 - 1024, by omega⟩)) else
    if h : (q : ℕ) - 1024 - 1024 - 1024 < 1024 then
      (if h' : ((q : ℕ) - 1024 - 1024 - 1024) % 128 < 64 then
        at4 (res_main_v33 W) (ix4 b s ⟨(q - 1024 - 1024 - 1024) / 128, by omega⟩ ⟨(q - 1024 - 1024 - 1024) % 128, by omega⟩) * at3 (res_main_v30 W) (ix3 s 0 ⟨(q - 1024 - 1024 - 1024) % 128, by omega⟩)
          - at4 (res_main_v34 W) (ix4 b s ⟨(q - 1024 - 1024 - 1024) / 128, by omega⟩ ⟨(q - 1024 - 1024 - 1024) % 128, by omega⟩) * at3 (res_main_v32 W) (ix3 s 0 ⟨(q - 1024 - 1024 - 1024) % 128, by omega⟩)
      else
        at4 (res_main_v34 W) (ix4 b s ⟨(q - 1024 - 1024 - 1024) / 128, by omega⟩ ⟨(q - 1024 - 1024 - 1024) % 128 - 64, by omega⟩) * at3 (res_main_v30 W) (ix3 s 0 ⟨(q - 1024 - 1024 - 1024) % 128 - 64, by omega⟩)
          + at4 (res_main_v33 W) (ix4 b s ⟨(q - 1024 - 1024 - 1024) / 128, by omega⟩ ⟨(q - 1024 - 1024 - 1024) % 128 - 64, by omega⟩) * at3 (res_main_v32 W) (ix3 s 0 ⟨(q - 1024 - 1024 - 1024) % 128 - 64, by omega⟩)) else
    if h : (q : ℕ) - 1024 - 1024 - 1024 - 1024 < 1024 then
      at3 (res_main_v10 W) (ix3 b s ⟨q - 1024 - 1024 - 1024 - 1024, by omega⟩) * lgs (at3 (res_main_v10 W) (ix3 b s ⟨q - 1024 - 1024 - 1024 - 1024, by omega⟩)) else
    if h : (q : ℕ) - 1024 - 1024 - 1024 - 1024 - 1024 < 1024 then
      (if h' : ((q : ℕ) - 1024 - 1024 - 1024 - 1024 - 1024) % 64 < 32 then
        at4 (res_main_v68 W) (ix4 b s ⟨(q - 1024 - 1024 - 1024 - 1024 - 1024) / 64, by omega⟩ ⟨(q - 1024 - 1024 - 1024 - 1024 - 1024) % 64, by omega⟩) * at3 (res_main_v65 W) (ix3 s 0 ⟨(q - 1024 - 1024 - 1024 - 1024 - 1024) % 64, by omega⟩)
          - at4 (res_main_v69 W) (ix4 b s ⟨(q - 1024 - 1024 - 1024 - 1024 - 1024) / 64, by omega⟩ ⟨(q - 1024 - 1024 - 1024 - 1024 - 1024) % 64, by omega⟩) * at3 (res_main_v67 W) (ix3 s 0 ⟨(q - 1024 - 1024 - 1024 - 1024 - 1024) % 64, by omega⟩)
      else
        at4 (res_main_v69 W) (ix4 b s ⟨(q - 1024 - 1024 - 1024 - 1024 - 1024) / 64, by omega⟩ ⟨(q - 1024 - 1024 - 1024 - 1024 - 1024) % 64 - 32, by omega⟩) * at3 (res_main_v65 W) (ix3 s 0 ⟨(q - 1024 - 1024 - 1024 - 1024 - 1024) % 64 - 32, by omega⟩)
          + at4 (res_main_v68 W) (ix4 b s ⟨(q - 1024 - 1024 - 1024 - 1024 - 1024) / 64, by omega⟩ ⟨(q - 1024 - 1024 - 1024 - 1024 - 1024) % 64 - 32, by omega⟩) * at3 (res_main_v67 W) (ix3 s 0 ⟨(q - 1024 - 1024 - 1024 - 1024 - 1024) % 64 - 32, by omega⟩)) else
    if h : (q : ℕ) - 1024 - 1024 - 1024 - 1024 - 1024 - 1024 < 2048 then
      lgs (at3 (res_main_v3 W) (ix3 b s ⟨6736 + (q - 1024 - 1024 - 1024 - 1024 - 1024 - 1024), by omega⟩)) else
      lgs (at3 (res_main_v3 W) (ix3 b s ⟨8784 + (q - 1024 - 1024 - 1024 - 1024 - 1024 - 1024 - 2048), by omega⟩)) : EReal) := by
  unfold lgs at3 at4
  pointwise [res_main_v126]

end Cert.Proof.Ref

end
-- ==== Proof.RefTile.lean ====
module

public import proofs.«01_k».proof.Proof.RefAct

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.Tactic
open Idealize.SL Idealize.SL.Sem

variable (W : Valuation τ sig (Elt Ideal))

/-- The reference's row of the product at a column tile. -/
abbrev rowW (b : Fin 4) (s : Fin 2048) (j : Fin 10) : Fin 1024 → EReal := tileRow (W (Proc.devRef .tc main_arg0)) (W (Proc.devRef .tc main_arg1)) b s j
/-- The reference's gain. -/
abbrev gainW (q : Fin 1024) : EReal := (show FVec Ideal S1x1024 .f32 from W (Proc.devRef .tc main_arg2)) (ix2 0 q)
/-- The reference's shift. -/
abbrev shiftW (q : Fin 1024) : EReal := (show FVec Ideal S1x1024 .f32 from W (Proc.devRef .tc main_arg3)) (ix2 0 q)

theorem H_row (b : Fin 4) (s : Fin 2048) (j : Fin 10) (k : Fin 1024) (n : Fin 10832) (h : (n : ℕ) = off j + k) : H W b s n = rowW W b s j k := by
  unfold rowW tileRow H
  exact congrArg _ (Fin.ext h)

/-! The reference's activations at each column tile. -/

theorem act_0 (b : Fin 4) (s : Fin 2048) (q : Fin 1024) (n : Fin 10240) (h : (n : ℕ) = 1024 * 0 + q) :
    res_main_v126 W (ix3 b s n) = tile (rowW W b s 0) (gainW W) (shiftW W) s 0 q := by
  refine (v126_apply W b s n).trans ?_
  rw [dif_pos (by omega)]
  exact (H_apply W b s _).trans (H_row W b s 0 _ _ (by show _ = 0 + _; dsimp only; omega))
theorem act_1 (b : Fin 4) (s : Fin 2048) (q : Fin 1024) (n : Fin 10240) (h : (n : ℕ) = 1024 * 1 + q) :
    res_main_v126 W (ix3 b s n) = tile (rowW W b s 1) (gainW W) (shiftW W) s 1 q := by
  refine (v126_apply W b s n).trans ?_
  rw [dif_neg (by omega), dif_pos (by omega)]
  have e : (⟨(n : ℕ) - 1024, by omega⟩ : Fin 1024) = q := Fin.ext (by dsimp only; omega)
  rw [e]
  exact (v111_apply W b s q).trans (congrArg (fun r => Main.norm r q (gainW W q) (shiftW W q)) (funext fun k => (H_row W b s 1 _ _ (by show _ = 1024 + _; dsimp only))))
theorem act_2 (b : Fin 4) (s : Fin 2048) (q : Fin 1024) (n : Fin 10240) (h : (n : ℕ) = 1024 * 2 + q) :
    res_main_v126 W (ix3 b s n) = tile (rowW W b s 2) (gainW W) (shiftW W) s 2 q := by
  refine (v126_apply W b s n).trans ?_
  rw [dif_neg (by omega), dif_neg (by omega), dif_pos (by omega)]
  exact congrArg (fun u : EReal => u * lgs u) ((v6_apply W b s _).trans (H_row W b s 2 _ _ (by show _ = 2048 + _; dsimp only; omega)))
theorem act_3 (b : Fin 4) (s : Fin 2048) (q : Fin 1024) (n : Fin 10240) (h : (n : ℕ) = 1024 * 3 + q) :
    res_main_v126 W (ix3 b s n) = tile (rowW W b s 3) (gainW W) (shiftW W) s 3 q := by
  refine (v126_apply W b s n).trans ?_
  rw [dif_neg (by omega), dif_neg (by omega), dif_neg (by omega), dif_pos (by omega)]
  show _ = rowW W b s 3 q * Ideal.cos (ang128 s ⟨q % 128 % 64, by omega⟩) + rowW W b s 3 ⟨q / 128 * 128 + (q % 128 + 64) % 128, by omega⟩ * sgn128 s (q % 128)
  unfold sgn128
  split
  · rw [if_pos (by omega), mul_neg, ← sub_eq_add_neg]
    exact congrArg₂ (fun u v : EReal => u - v)
      (congrArg₂ (fun u v : EReal => u * v) ((v33_apply W b s _ _).trans (H_row W b s 3 _ _ (by show _ = 3072 + _; dsimp only; omega))) ((v30_apply W s _).trans (congrArg (fun l => Ideal.cos (ang128 s l)) (Fin.ext (by dsimp only; omega)))))
      (congrArg₂ (fun u v : EReal => u * v) ((v34_apply W b s _ _).trans (H_row W b s 3 _ _ (by show _ = 3072 + _; dsimp only; omega))) ((v32_apply W s _).trans (congrArg (fun l => Ideal.sin (ang128 s l)) (Fin.ext (by dsimp only; omega)))))
  · rw [if_neg (by omega)]
    exact congrArg₂ (fun u v : EReal => u + v)
      (congrArg₂ (fun u v : EReal => u * v) ((v34_apply W b s _ _).trans (H_row W b s 3 _ _ (by show _ = 3072 + _; dsimp only; omega))) ((v30_apply W s _).trans (congrArg (fun l => Ideal.cos (ang128 s l)) (Fin.ext (by dsimp only; omega)))))
      (congrArg₂ (fun u v : EReal => u * v) ((v33_apply W b s _ _).trans (H_row W b s 3 _ _ (by show _ = 3072 + _; dsimp only; omega))) ((v32_apply W s _).trans (congrArg (fun l => Ideal.sin (ang128 s l)) (Fin.ext (by dsimp only; omega)))))
theorem act_4 (b : Fin 4) (s : Fin 2048) (q : Fin 1024) (n : Fin 10240) (h : (n : ℕ) = 1024 * 4 + q) :
    res_main_v126 W (ix3 b s n) = tile (rowW W b s 4) (gainW W) (shiftW W) s 4 q := by
  refine (v126_apply W b s n).trans ?_
  rw [dif_neg (by omega), dif_neg (by omega), dif_neg (by omega), dif_neg (by omega), dif_pos (by omega)]
  exact congrArg (fun u : EReal => u * lgs u) ((v10_apply W b s _).trans (H_row W b s 4 _ _ (by show _ = 4608 + _; dsimp only; omega)))
theorem act_5 (b : Fin 4) (s : Fin 2048) (q : Fin 1024) (n : Fin 10240) (h : (n : ℕ) = 1024 * 5 + q) :
    res_main_v126 W (ix3 b s n) = tile (rowW W b s 5) (gainW W) (shiftW W) s 5 q := by
  refine (v126_apply W b s n).trans ?_
  rw [dif_neg (by omega), dif_neg (by omega), dif_neg (by omega), dif_neg (by omega), dif_neg (by omega), dif_pos (by omega)]
  show _ = rowW W b s 5 q * Ideal.cos (ang64 s ⟨q % 128 % 32, by omega⟩) + rowW W b s 5 ⟨q / 64 * 64 + (q % 64 + 32) % 64, by omega⟩ * sgn64 s (q % 128)
  unfold sgn64
  split
  · rw [if_pos (by omega), mul_neg, ← sub_eq_add_neg]
    exact congrArg₂ (fun u v : EReal => u - v)
      (congrArg₂ (fun u v : EReal => u * v) ((v68_apply W b s _ _).trans (H_row W b s 5 _ _ (by show _ = 5632 + _; dsimp only; omega))) ((v65_apply W s _).trans (congrArg (fun l => Ideal.cos (ang64 s l)) (Fin.ext (by dsimp only; omega)))))
      (congrArg₂ (fun u v : EReal => u * v) ((v69_apply W b s _ _).trans (H_row W b s 5 _ _ (by show _ = 5632 + _; dsimp only; omega))) ((v67_apply W s _).trans (congrArg (fun l => Ideal.sin (ang64 s l)) (Fin.ext (by dsimp only; omega)))))
  · rw [if_neg (by omega)]
    exact congrArg₂ (fun u v : EReal => u + v)
      (congrArg₂ (fun u v : EReal => u * v) ((v69_apply W b s _ _).trans (H_row W b s 5 _ _ (by show _ = 5632 + _; dsimp only; omega))) ((v65_apply W s _).trans (congrArg (fun l => Ideal.cos (ang64 s l)) (Fin.ext (by dsimp only; omega)))))
      (congrArg₂ (fun u v : EReal => u * v) ((v68_apply W b s _ _).trans (H_row W b s 5 _ _ (by show _ = 5632 + _; dsimp only; omega))) ((v67_apply W s _).trans (congrArg (fun l => Ideal.sin (ang64 s l)) (Fin.ext (by dsimp only; omega)))))
theorem act_6 (b : Fin 4) (s : Fin 2048) (q : Fin 1024) (n : Fin 10240) (h : (n : ℕ) = 1024 * 6 + q) :
    res_main_v126 W (ix3 b s n) = tile (rowW W b s 6) (gainW W) (shiftW W) s 6 q := by
  refine (v126_apply W b s n).trans ?_
  rw [dif_neg (by omega), dif_neg (by omega), dif_neg (by omega), dif_neg (by omega), dif_neg (by omega), dif_neg (by omega), dif_pos (by omega)]
  exact congrArg lgs ((H_apply W b s _).trans (H_row W b s 6 _ _ (by show _ = 6736 + _; dsimp only; omega)))
theorem act_7 (b : Fin 4) (s : Fin 2048) (q : Fin 1024) (n : Fin 10240) (h : (n : ℕ) = 1024 * 7 + q) :
    res_main_v126 W (ix3 b s n) = tile (rowW W b s 7) (gainW W) (shiftW W) s 7 q := by
  refine (v126_apply W b s n).trans ?_
  rw [dif_neg (by omega), dif_neg (by omega), dif_neg (by omega), dif_neg (by omega), dif_neg (by omega), dif_neg (by omega), dif_pos (by omega)]
  exact congrArg lgs ((H_apply W b s _).trans (H_row W b s 7 _ _ (by show _ = 7760 + _; dsimp only; omega)))
theorem act_8 (b : Fin 4) (s : Fin 2048) (q : Fin 1024) (n : Fin 10240) (h : (n : ℕ) = 1024 * 8 + q) :
    res_main_v126 W (ix3 b s n) = tile (rowW W b s 8) (gainW W) (shiftW W) s 8 q := by
  refine (v126_apply W b s n).trans ?_
  rw [dif_neg (by omega), dif_neg (by omega), dif_neg (by omega), dif_neg (by omega), dif_neg (by omega), dif_neg (by omega), dif_neg (by omega)]
  exact congrArg lgs ((H_apply W b s _).trans (H_row W b s 8 _ _ (by show _ = 8784 + _; dsimp only; omega)))
theorem act_9 (b : Fin 4) (s : Fin 2048) (q : Fin 1024) (n : Fin 10240) (h : (n : ℕ) = 1024 * 9 + q) :
    res_main_v126 W (ix3 b s n) = tile (rowW W b s 9) (gainW W) (shiftW W) s 9 q := by
  refine (v126_apply W b s n).trans ?_
  rw [dif_neg (by omega), dif_neg (by omega), dif_neg (by omega), dif_neg (by omega), dif_neg (by omega), dif_neg (by omega), dif_neg (by omega)]
  exact congrArg lgs ((H_apply W b s _).trans (H_row W b s 9 _ _ (by show _ = 9808 + _; dsimp only; omega)))
theorem act_tile (b : Fin 4) (s : Fin 2048) (j : Fin 10) (q : Fin 1024) (n : Fin 10240) (h : (n : ℕ) = 1024 * j + q) :
    res_main_v126 W (ix3 b s n) = tile (rowW W b s j) (gainW W) (shiftW W) s j q :=
  match j, h with
  | ⟨0, _⟩, h => act_0 W b s q n h
  | ⟨1, _⟩, h => act_1 W b s q n h
  | ⟨2, _⟩, h => act_2 W b s q n h
  | ⟨3, _⟩, h => act_3 W b s q n h
  | ⟨4, _⟩, h => act_4 W b s q n h
  | ⟨5, _⟩, h => act_5 W b s q n h
  | ⟨6, _⟩, h => act_6 W b s q n h
  | ⟨7, _⟩, h => act_7 W b s q n h
  | ⟨8, _⟩, h => act_8 W b s q n h
  | ⟨9, _⟩, h => act_9 W b s q n h

end Cert.Proof.Ref

end
-- ==== Proof.RefOut.lean ====
module

public import proofs.«01_k».proof.Proof.RefTile

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.Tactic
open Idealize.SL Idealize.SL.Sem

variable (W : Valuation τ sig (Elt Ideal))

/-! The three results, entry by entry. -/

/-- Row `P`, column `n` of the finished activations. -/
def outH (X : FVec Ideal S4x2048x2048 .bf16) (Y : FVec Ideal S1x2048x10832 .f32) (g b : FVec Ideal S1x1024 .f32) (P : Fin 8192) (n : Fin 10240) : EReal :=
  tile (tileRow X Y ⟨P / 2048, by omega⟩ ⟨P % 2048, by omega⟩ ⟨n / 1024, by omega⟩) (fun q => g (ix2 0 q)) (fun q => b (ix2 0 q)) ⟨P % 2048, by omega⟩ (n / 1024) ⟨n % 1024, by omega⟩
/-- Row `P`, column `q` of the late rows of the normalised gate: 128 rows of each sequence. -/
def outG (X : FVec Ideal S4x2048x2048 .bf16) (Y : FVec Ideal S1x2048x10832 .f32) (g b : FVec Ideal S1x1024 .f32) (P : Fin 512) (q : Fin 1024) : EReal :=
  Main.norm (tileRow X Y ⟨P / 128, by omega⟩ ⟨1920 + P % 128, by omega⟩ 1) q (g (ix2 0 q)) (b (ix2 0 q))
/-- Row `n`, column `d` of the kept weights, transposed. -/
def outW (Y : FVec Ideal S1x2048x10832 .f32) (n : Fin 10240) (d : Fin 2048) : EReal :=
  Y (ix3 0 d ⟨off (n / 1024) + n % 1024, by have := off_le (n / 1024) (by omega); omega⟩)

theorem v170_apply (P : Fin 8192) (n : Fin 10240) :
    truncf (F := Ideal) .bf16 (shapeCast S8192x10240 (res_main_v126 W) shapeCasts_S4x2048x10240_S8192x10240) bitsLt_bf16_f32 (ix2 P n)
      = outH (W (Proc.devRef .tc main_arg0)) (W (Proc.devRef .tc main_arg1)) (W (Proc.devRef .tc main_arg2)) (W (Proc.devRef .tc main_arg3)) P n := by
  pointwise
  exact act_tile W _ _ ⟨n / 1024, by omega⟩ ⟨n % 1024, by omega⟩ n (by dsimp only; omega)
theorem v171_apply (P : Fin 512) (q : Fin 1024) :
    shapeCast S512x1024 (extractStridedSlice S4x128x1024 ![0, 1920, 0] (res_main_v111 W) slices_S4x2048x1024_S4x128x1024_0_1920_0) shapeCasts_S4x128x1024_S512x1024 (ix2 P q)
      = outG (W (Proc.devRef .tc main_arg0)) (W (Proc.devRef .tc main_arg1)) (W (Proc.devRef .tc main_arg2)) (W (Proc.devRef .tc main_arg3)) P q := by
  pointwise
  refine (v111_apply W _ _ q).trans (congrArg (fun r => Main.norm r q (gainW W q) (shiftW W q)) (funext fun k => H_row W _ _ 1 _ _ (by show _ = 1024 + _; dsimp only)))
theorem v172_apply (n : Fin 10240) (d : Fin 2048) :
    truncf (F := Ideal) .bf16 (transpose S10240x2048 [1, 0] ((concatenate S2048x10240 1 [⟨S2048x1024, ((extractStridedSlice S2048x1024 ![0, 0] (res_main_v128 W) slices_S2048x10832_S2048x1024_0_0) : (⟨S2048x1024, .f32⟩ : BufTy).Contents (Elt Ideal))⟩, ⟨S2048x1024, ((extractStridedSlice S2048x1024 ![0, 1024] (res_main_v128 W) slices_S2048x10832_S2048x1024_0_1024) : (⟨S2048x1024, .f32⟩ : BufTy).Contents (Elt Ideal))⟩, ⟨S2048x1024, ((extractStridedSlice S2048x1024 ![0, 2048] (res_main_v128 W) slices_S2048x10832_S2048x1024_0_2048) : (⟨S2048x1024, .f32⟩ : BufTy).Contents (Elt Ideal))⟩, ⟨S2048x1024, ((extractStridedSlice S2048x1024 ![0, 3072] (res_main_v128 W) slices_S2048x10832_S2048x1024_0_3072) : (⟨S2048x1024, .f32⟩ : BufTy).Contents (Elt Ideal))⟩, ⟨S2048x1024, ((extractStridedSlice S2048x1024 ![0, 4608] (res_main_v141 W) slices_S2048x10832_S2048x1024_0_4608) : (⟨S2048x1024, .f32⟩ : BufTy).Contents (Elt Ideal))⟩, ⟨S2048x1024, ((extractStridedSlice S2048x1024 ![0, 5632] (res_main_v141 W) slices_S2048x10832_S2048x1024_0_5632) : (⟨S2048x1024, .f32⟩ : BufTy).Contents (Elt Ideal))⟩, ⟨S2048x2048, ((extractStridedSlice S2048x2048 ![0, 6736] (res_main_v154 W) slices_S2048x10832_S2048x2048_0_6736) : (⟨S2048x2048, .f32⟩ : BufTy).Contents (Elt Ideal))⟩, ⟨S2048x2048, ((extractStridedSlice S2048x2048 ![0, 8784] (res_main_v154 W) slices_S2048x10832_S2048x2048_0_8784) : (⟨S2048x2048, .f32⟩ : BufTy).Contents (Elt Ideal))⟩] concatenates_S2048x1024_S2048x1024_S2048x1024_S2048x1024_S2048x1024_S2048x1024_S2048x2048_S2048x2048_S2048x10240_d1 : (⟨S2048x10240, .f32⟩ : BufTy).Contents (Elt Ideal))) transposes_S2048x10240_S10240x2048_1_0) bitsLt_bf16_f32 (ix2 n d)
      = outW (W (Proc.devRef .tc main_arg1)) n d := by
  unfold outW
  pointwise [res_main_v128, res_main_v141, res_main_v154]
  split_ifs <;> exact congrArg (fun k => (show FVec Ideal S1x2048x10832 .f32 from W (Proc.devRef .tc main_arg1)) (ix3 0 d k)) (Fin.ext (by dsimp only; unfold off; split_ifs <;> omega))

/-- What the reference ends with. -/
theorem ends (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c : Thread nD τ).loc main_v170) = (fun i => outH (m ((c : Thread nD τ).loc main_arg0)) (m ((c : Thread nD τ).loc main_arg1)) (m ((c : Thread nD τ).loc main_arg2)) (m ((c : Thread nD τ).loc main_arg3)) (i 0) (i 1))
      ∧ r.2.mem ((c : Thread nD τ).loc main_v171) = (fun i => outG (m ((c : Thread nD τ).loc main_arg0)) (m ((c : Thread nD τ).loc main_arg1)) (m ((c : Thread nD τ).loc main_arg2)) (m ((c : Thread nD τ).loc main_arg3)) (i 0) (i 1))
      ∧ r.2.mem ((c : Thread nD τ).loc main_v172) = (fun i => outW (m ((c : Thread nD τ).loc main_arg1)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) := by
  refine (θ_run defs _ _).mono (fun r h c => ⟨(h c).1.trans (funext fun i => ?_), (h c).2.1.trans (funext fun i => ?_), (h c).2.2.1.trans (funext fun i => ?_), (h c).2.2.2⟩) (run (F := Ideal) m ρ)
  all_goals idx_vars i
  · exact v170_apply (StableHlo.launchContents m c) i0 i1
  · exact v171_apply (StableHlo.launchContents m c) i0 i1
  · exact v172_apply (StableHlo.launchContents m c) i0 i1

end Cert.Proof.Ref

end
-- ==== Proof.Out.lean ====
module

public import proofs.«01_k».proof.Proof.Blocks
public import proofs.«01_k».proof.Proof.RefOut

@[expose] public section

set_option maxRecDepth 16384

noncomputable section

namespace Cert.Proof.Main

open Cert.KernelIdeal Cert.KernelIdeal.Gen
open Idealize.ShloMosaic Idealize.ShloMosaic.TcCoe Idealize.SL.Sem
open Idealize.ShloMosaic.Pipeline (Dat)

open Cert.Proof.Ref (outH outG outW off off_le)

variable (m : (ℓ : Loc nD τ sig) → Buf (Elt Ideal) ℓ)

/-! The three results the launch leaves, entry by entry. -/

theorem flush11 : ∀ t : Fin cfg0.N, (cfg0.win 11).flush t = true → t.val % 17 ≠ 0 := (by decide +kernel : ∀ t : Fin grid0.N, _)
theorem flush12 : ∀ t : Fin cfg0.N, (cfg0.win 12).flush t = true → win0_12.index t 1 = 0 ∧ (win0_12.index t 0 < 4 → t.val / 17 = 1 ∧ t.val % 17 = 4 * win0_12.index t 0 + 4) := (by decide +kernel : ∀ t : Fin grid0.N, _)

theorem outH_at (X : FVec Ideal S4x2048x2048 .bf16) (Y : FVec Ideal S1x2048x10832 .f32) (g b : FVec Ideal S1x1024 .f32) (P : Fin 8192) (n : Fin 10240) (s : ℕ) (hs : s < 8192) (j : Fin 10) (q : Fin 1024)
    (hP : (P : ℕ) = s) (hn : (n : ℕ) = 1024 * j + q) :
    Ref.tile (Ref.tileRow X Y ⟨s / 2048, by omega⟩ ⟨s % 2048, by omega⟩ j) (fun q => g (ix2 0 q)) (fun q => b (ix2 0 q)) ⟨s % 2048, by omega⟩ j q = outH X Y g b P n := by
  subst hP
  have ej : (⟨(n : ℕ) / 1024, by omega⟩ : Fin 10) = j := Fin.ext (by dsimp only; omega)
  have eq : (⟨(n : ℕ) % 1024, by omega⟩ : Fin 1024) = q := Fin.ext (by dsimp only; omega)
  have en : (n : ℕ) / 1024 = j := by omega
  unfold outH
  rw [ej, eq, en]
theorem outW_at (Y : FVec Ideal S1x2048x10832 .f32) (n : Fin 10240) (d e : Fin 2048) (j : Fin 10) (q : Fin 1024) (hn : (n : ℕ) = 1024 * j + q) (hd : (d : ℕ) = e) :
    Y (ix3 0 e ⟨off j + q, by have := off_le j j.isLt; omega⟩) = outW Y n d := by
  obtain rfl : d = e := Fin.ext hd
  unfold outW
  refine congrArg (fun k => Y (ix3 0 d k)) (Fin.ext ?_)
  dsimp only
  rw [show (n : ℕ) / 1024 = j by omega]
  omega
theorem outG_at (X : FVec Ideal S4x2048x2048 .bf16) (Y : FVec Ideal S1x2048x10832 .f32) (g b : FVec Ideal S1x1024 .f32) (P : Fin 512) (q q' : Fin 1024) (s : ℕ) (hs : s < 8192)
    (h1 : s / 2048 = P / 128) (h2 : s % 2048 = 1920 + P % 128) (hq : (q' : ℕ) = q) :
    norm (Ref.tileRow X Y ⟨s / 2048, by omega⟩ ⟨s % 2048, by omega⟩ 1) q (g (ix2 0 q)) (b (ix2 0 q)) = outG X Y g b P q' := by
  obtain rfl : q' = q := Fin.ext hq
  unfold outG
  rw [show (⟨s / 2048, by omega⟩ : Fin 4) = ⟨P / 128, by omega⟩ from Fin.ext h1, show (⟨s % 2048, by omega⟩ : Fin 2048) = ⟨1920 + P % 128, by omega⟩ from Fin.ext h2]

/-- The finished activations. -/
theorem array_h (c : Dev nD) : (dats m 0 c).arrAt 11 cfg0.N = fun i => outH (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 11 _ (by decide +kernel) fun t hf y => ?_
  have hr := flush11 t hf
  have hN := lt_N t
  have hi := (idxT t hr).2.2.2.2
  blk_simp
  rw [after_11]
  idx_vars y
  have h0 : ((((win0_11.blk t).view.emb (ix2 y0 y1)) 0 : Fin _) : ℕ) = win0_11.index t 0 * 512 + 1 * y0 := rfl
  have h1 : ((((win0_11.blk t).view.emb (ix2 y0 y1)) 1 : Fin _) : ℕ) = win0_11.index t 1 * 1024 + 1 * y1 := rfl
  rw [hi] at h0 h1
  refine (hAt_apply m c t hr y0 y1).trans ?_
  exact outH_at _ _ _ _ _ _ _ (by omega) (jAt t) y1 (h0.trans (by dsimp; omega)) (h1.trans (by dsimp [jAt]; omega))
/-- The kept weights, transposed. -/
theorem array_w (c : Dev nD) : (dats m 0 c).arrAt 13 cfg0.N = fun i => outW (m ((c : Thread nD τ).loc main_arg1)) (i 0) (i 1) := by
  refine (dats m 0 c).arrAt_eq_of_covers 13 _ (by decide +kernel) fun t hf y => ?_
  have hN := lt_N t
  have hi := (idxG t).2.2
  blk_simp
  rw [after_13]
  idx_vars y
  have h0 : ((((win0_13.blk t).view.emb (ix2 y0 y1)) 0 : Fin _) : ℕ) = win0_13.index t 0 * 1024 + 1 * y0 := rfl
  have h1 : ((((win0_13.blk t).view.emb (ix2 y0 y1)) 1 : Fin _) : ℕ) = win0_13.index t 1 * 2048 + 1 * y1 := rfl
  rw [hi] at h0 h1
  refine (wAt_apply m c t y0 y1).trans ?_
  exact outW_at _ _ _ _ (jAt t) y0 (h0.trans (by dsimp [jAt]; omega)) (h1.trans (by dsimp; omega))
/-- The late rows of the normalised gate: the first 512 rows of their array. -/
theorem array_g (c : Dev nD) (i : (⟨2, ![768, 1024]⟩ : Shape).Idx) (h : (i 0 : ℕ) < 512) :
    (dats m 0 c).arrAt 12 cfg0.N i = outG (m ((c : Thread nD τ).loc main_arg0)) (m ((c : Thread nD τ).loc main_arg1)) (m ((c : Thread nD τ).loc main_arg2)) (m ((c : Thread nD τ).loc main_arg3)) ⟨i 0, h⟩ (i 1) := by
  revert h
  refine (dats m 0 c).arrAt_forall_of_covers 12 (fun i v => ∀ h : (i 0 : ℕ) < 512, v = outG (m ((c : Thread nD τ).loc main_arg0)) (m ((c : Thread nD τ).loc main_arg1)) (m ((c : Thread nD τ).loc main_arg2)) (m ((c : Thread nD τ).loc main_arg3)) ⟨i 0, h⟩ (i 1)) (by decide +kernel) (fun t hf y h => ?_) i
  have hi := flush12 t hf
  have hN := lt_N t
  blk_simp at h ⊢
  rw [after_12]
  idx_vars y
  have h1 : ((((win0_12.blk t).view.emb (ix2 y0 y1)) 1 : Fin _) : ℕ) = win0_12.index t 1 * 1024 + 1 * y1 := rfl
  rw [hi.1] at h1
  obtain ⟨k, hk⟩ : ∃ k, win0_12.index t 0 = k := ⟨_, rfl⟩
  have h' : k * 128 + (y0 : ℕ) < 512 := hk ▸ h
  obtain ⟨hj, hr⟩ := hi.2 (by rw [hk]; omega)
  have hr' : t.val % 17 = 4 * k + 4 := hk ▸ hr
  clear hi hr
  have hy : (y0 : ℕ) < 128 := y0.isLt
  have hs : 512 * (t.val % 17 - 1) + (384 + (y0 : ℕ)) = 2048 * k + (1920 + y0) := by omega
  have e1 : (512 * (t.val % 17 - 1) + (384 + (y0 : ℕ))) / 2048 = (win0_12.index t 0 * 128 + (y0 : ℕ)) / 128 := by rw [hk, hs]; omega
  have e2 : (512 * (t.val % 17 - 1) + (384 + (y0 : ℕ))) % 2048 = 1920 + (win0_12.index t 0 * 128 + (y0 : ℕ)) % 128 := by rw [hk, hs]; omega
  have e3 : 512 * (t.val % 17 - 1) + (384 + (y0 : ℕ)) < 8192 := by omega
  have e4 : ((((win0_12.blk t).view.emb (ix2 y0 y1)) 1 : Fin _) : ℕ) = y1 := h1.trans (by omega)
  refine (gAt_apply m c t (by omega) hj y0 y1).trans ?_
  exact outG_at _ _ _ _ _ y1 _ _ e3 e1 e2 e4
theorem kept_g (c : Dev nD) (p : Fin 512) (q : Fin 1024) : Pipeline.afterTail₀ cfgs (dats m) 0 (V0 m) [hostOps1] c main_v55 (ix2 p q)
    = outG (m ((c : Thread nD τ).loc main_arg0)) (m ((c : Thread nD τ).loc main_arg1)) (m ((c : Thread nD τ).loc main_arg2)) (m ((c : Thread nD τ).loc main_arg3)) p q := by
  unfold Pipeline.afterTail₀
  simp only [List.flatten_cons, List.flatten_nil, List.append_nil]
  after_results
  have e : Pipeline.withArrays (cfgs 0).spec c (V0 m c) (fun w => (dats m 0 c).arrAt w (cfgs 0).N) (Proc.devRef .tc main_v54_1) = (dats m 0 c).arrAt 12 cfg0.N :=
    (dats m 0 c).withArrays_arrAt sharedIn0 (V0 m c) (A_eq m c) 12
  rw [e]
  generalize hz : (dats m 0 c).arrAt 12 cfg0.N = z
  pointwise
  exact (congrFun hz.symm _).trans (array_g m c _ p.isLt)

/-- What the kernel ends with. -/
theorem ends (ρ : Dev nD → PrngReg) : θ_run defs (onTc (τ := τ) (main (F := Ideal))) ⟨m, fun _ => 0, ρ⟩ (fun r => ∀ c : Dev nD,
      r.2.mem ((c : Thread nD τ).loc main_v54_0) = (fun i => outH (m ((c : Thread nD τ).loc main_arg0)) (m ((c : Thread nD τ).loc main_arg1)) (m ((c : Thread nD τ).loc main_arg2)) (m ((c : Thread nD τ).loc main_arg3)) (i 0) (i 1))
      ∧ r.2.mem ((c : Thread nD τ).loc main_v55) = (fun i => outG (m ((c : Thread nD τ).loc main_arg0)) (m ((c : Thread nD τ).loc main_arg1)) (m ((c : Thread nD τ).loc main_arg2)) (m ((c : Thread nD τ).loc main_arg3)) (i 0) (i 1))
      ∧ r.2.mem ((c : Thread nD τ).loc main_v54_2) = (fun i => outW (m ((c : Thread nD τ).loc main_arg1)) (i 0) (i 1))) := by
  refine (θ_run defs _ _).mono (fun r h c => ⟨(h.out_eq c 11).trans (array_h m c), ?_, (h.out_eq c 13).trans (array_w m c)⟩) (run_main (F := Ideal) m ρ)
  refine (h.rest_eq c main_v55 (by decide)).trans (funext fun i => ?_)
  idx_vars i
  exact kept_g m c i0 i1

end Cert.Proof.Main

end
-- ==== Proof.Value.lean ====
module

public import proofs.«01_k».proof.Proof.Frames
public import proofs.«01_k».proof.Proof.Out

@[expose] public section

set_option maxRecDepth 16384

noncomputable section

namespace Cert.Proof

open Idealize.ShloMosaic Idealize.ShloMosaic.TcCoe Idealize.SL.Sem

/-- The idealised kernel and the reference end with equal results. -/
theorem equal_results : Cert.algebraic_KernelIdeal_ReferenceIdeal := fun m g m' g' _ hag => by
  refine ⟨fun c => fun i => Ref.outH (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (i 0) (i 1), fun c => fun i => Ref.outG (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (i 0) (i 1), fun c => fun i => Ref.outW (m ((c : Thread Cert.KernelIdeal.nD Cert.KernelIdeal.τ).loc Cert.KernelIdeal.main_arg1)) (i 0) (i 1), ?_, ?_⟩
  · exact (θ_run Cert.KernelIdeal.defs _ _).mono (fun r h c => ⟨(h.1 c).1, (h.1 c).2.1, (h.1 c).2.2, h.2.1 c⟩) (θ_run_and (Main.ends m g) (Main.args_kept (F := Ideal) m g))
  · refine (θ_run Cert.ReferenceIdeal.defs _ _).mono (fun r h c => ⟨(h c).1.trans ?_, (h c).2.1.trans ?_, (h c).2.2.1.trans ?_, (h c).2.2.2⟩) (Ref.ends m' g')
    · rw [(hag c).1, (hag c).2.1, (hag c).2.2.1, (hag c).2.2.2]; rfl
    · rw [(hag c).1, (hag c).2.1, (hag c).2.2.1, (hag c).2.2.2]; rfl
    · rw [(hag c).2.1]; rfl

end Cert.Proof

end
-- ==== Proof.MergeRef.lean ====
module

public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Proof.Mix

open Cert.Reference2Ideal Cert.Reference2Ideal.Gen Cert.Reference2Ideal.Value
open Idealize.ShloMosaic Idealize.ShloMosaic.TcCoe Idealize.ShloMosaic.Tactic
open Idealize.SL Idealize.SL.Sem

section Formula

variable (x : FVec Ideal S4x2048x2048 .f32) (h : FVec Ideal S8192x10240 .bf16) (o : FVec Ideal S8192x1024 .bf16)
  (w : FVec Ideal S1x8x128x128 .f32) (b : FVec Ideal S1x8x128 .f32)
  (wa wb : FVec Ideal S1x1024x2048 .f32) (wo : FVec Ideal S1x2048x2048 .f32) (g : FVec Ideal S1x2048 .f32)

/-- A mixing weight: position `t` of a chunk takes from position `s` of the same chunk, never from a later one. -/
def weight (n : Fin 8) (t s : Fin 128) : EReal := if (s : ℕ) ≤ t then w (ix4 0 n t s) else 0

/-- What the spatial mixing takes from the chunk of row `p`, at column `q`. -/
def spatial (p : Fin 8192) (q : Fin 1024) : EReal :=
  (∑ s : Fin 128, weight w ⟨q / 128, by omega⟩ ⟨p % 128, by omega⟩ s * h (ix2 ⟨p / 128 * 128 + s, by omega⟩ ⟨1024 + q, by omega⟩))
    + b (ix3 0 ⟨q / 128, by omega⟩ ⟨p % 128, by omega⟩)

/-- The spatially gated row `p` at column `q`. -/
def gated (p : Fin 8192) (q : Fin 1024) : EReal :=
  h (ix2 p ⟨q, by omega⟩) * spatial h w b p q * h (ix2 p ⟨2048 + q, by omega⟩)

/-- The two branches, each under its gate, added. -/
def blend (p : Fin 8192) (d : Fin 2048) : EReal :=
  h (ix2 p ⟨6144 + d, by omega⟩) * (∑ k : Fin 1024, gated h w b p k * wa (ix3 0 k d))
    + h (ix2 p ⟨8192 + d, by omega⟩) * (∑ k : Fin 1024, o (ix2 p k) * wb (ix3 0 k d))

/-- The blend projected back to the layer's width. -/
def back (p : Fin 8192) (j : Fin 2048) : EReal := ∑ d : Fin 2048, blend h o w b wa wb p d * wo (ix3 0 d j)

/-- A row scaled to unit mean square, its gain applied. -/
def scaled (r : Fin 2048 → EReal) (g : EReal) (j : Fin 2048) : EReal :=
  r j * Ideal.rsqrt (Ideal.div (∑ k : Fin 2048, r k * r k) (Ideal.ofBits FTy.f32 0x45000000#32) + Ideal.ofBits FTy.f32 0x358637BD#32) * g

/-- The layer's output at row `p` and column `j`. -/
def outY (p : Fin 8192) (j : Fin 2048) : EReal :=
  x (ix3 ⟨p / 2048, by omega⟩ ⟨p % 2048, by omega⟩ j) + scaled (back h o w b wa wb wo p) (g (ix2 0 j)) j

end Formula

/-! The reference's stages, entry by entry. -/

/-- The comparison of two positions of a chunk, as a word. -/
theorem word_ge : ∀ t s : Fin 128, IntOp.cmpi CmpIPredicate.sge (IntOp.addi (BitVec.ofNat 32 t) 0#32) (BitVec.ofNat 32 s) = if (s : ℕ) ≤ t then 1#1 else 0#1 := by decide +kernel

theorem select_one {α : Type} (u v : α) : Scalar.select 1#1 u v = u := rfl
theorem select_zero {α : Type} (u v : α) : Scalar.select 0#1 u v = v := rfl

variable (x : FVec Ideal S4x2048x2048 .f32) (h : FVec Ideal S8192x10240 .bf16) (o : FVec Ideal S8192x1024 .bf16)
  (w : FVec Ideal S1x8x128x128 .f32) (b : FVec Ideal S1x8x128 .f32)
  (wa wb : FVec Ideal S1x1024x2048 .f32) (wo : FVec Ideal S1x2048x2048 .f32) (g : FVec Ideal S1x2048 .f32)

/-- The activations by sequence. -/
def acts : FVec Ideal S4x2048x10240 .f32 := shapeCast _ (extf .f32 h bitsLt_bf16_f32) shapeCasts_S8192x10240_S4x2048x10240

theorem acts_apply (i : Fin 4) (s : Fin 2048) (k : Fin 10240) : acts h (ix3 i s k) = h (ix2 ⟨i * 2048 + s, by omega⟩ k) := by
  pointwise [acts]

/-- The weights of the spatial mixing, a position's later ones at zero. -/
def kept : FVec Ideal S8x128x128 .f32 := select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (shapeCast _ w shapeCasts_S1x8x128x128_S8x128x128) (broadcastInDim S8x128x128 ![] bcast_S_S8x128x128 (id (constant S_ .f32 0x00000000#32)))

theorem kept_apply (n : Fin 8) (t s : Fin 128) : kept w (ix3 n t s) = weight w n t s := by
  unfold weight
  pointwise [kept]
  rw [word_ge]
  split
  · rfl
  · show Ideal.ofBits FTy.f32 0#32 = 0
    exact Ideal.ofBits_zero FTy.f32

/-- What the spatial mixing takes from a chunk, its bias added. -/
def mixed : FVec Ideal S4x16x128x8x128 .f32 := addf (transpose S4x16x128x8x128 [1, 2, 4, 0, 3] (Host.dotGeneral (F := Ideal) dot_S4x16x128x8x128_S8x128x128_S8x4x16x128x128_2_2_014_1_3_0 none (shapeCast _ (extractStridedSlice S4x2048x1024 ![0, 0, 1024] (acts h) slices_S4x2048x10240_S4x2048x1024_0_0_1024) shapeCasts_S4x2048x1024_S4x16x128x8x128) (kept w)) transposes_S8x4x16x128x128_S4x16x128x8x128_1_2_4_0_3) (broadcastInDim S4x16x128x8x128 ![0, 1, 2, 3, 4] bcast_S1x1x128x8x1_S4x16x128x8x128_0_1_2_3_4 (broadcastInDim S1x1x128x8x1 ![2, 3] bcast_S128x8_S1x1x128x8x1_2_3 (transpose S128x8 [1, 0] (shapeCast _ b shapeCasts_S1x8x128_S8x128) transposes_S8x128_S128x8_1_0)))

theorem mixed_apply (i : Fin 4) (c : Fin 16) (t : Fin 128) (n : Fin 8) (d : Fin 128) :
    mixed h w b (ix5 i c t n d) = (∑ s : Fin 128, acts h (ix3 i ⟨c * 128 + s, by omega⟩ ⟨1024 + (n * 128 + d), by omega⟩) * kept w (ix3 n t s)) + b (ix3 0 n t) := by
  pointwise [mixed]

/-- The gated rows. -/
def rows : FVec Ideal S4x2048x1024 .f32 := mulf (mulf (extractStridedSlice S4x2048x1024 ![0, 0, 0] (acts h) slices_S4x2048x10240_S4x2048x1024_0_0_0) (shapeCast _ (mixed h w b) shapeCasts_S4x16x128x8x128_S4x2048x1024)) (extractStridedSlice S4x2048x1024 ![0, 0, 2048] (acts h) slices_S4x2048x10240_S4x2048x1024_0_0_2048)

theorem rows_apply (i : Fin 4) (s : Fin 2048) (q : Fin 1024) : rows h w b (ix3 i s q) = gated h w b ⟨i * 2048 + s, by omega⟩ q := by
  pointwise [rows]
  unfold gated spatial
  refine congrArg₂ (fun u v : EReal => u * v) (congrArg₂ (fun u v : EReal => u * v) (acts_apply h i s _) ((mixed_apply h w b i _ _ _ _).trans (congrArg₂ (fun u v : EReal => u + v) (Finset.sum_congr rfl fun k _ => ?_) ?_))) (acts_apply h i s _)
  · rw [mul_comm]
    refine congrArg₂ (fun u v : EReal => u * v) ((kept_apply w _ _ _).trans ?_) ((acts_apply h i _ _).trans ?_)
    · exact congrArg (fun t => weight w _ t k) (Fin.ext (by dsimp only; omega))
    · exact congrArg₂ (fun p q => h (ix2 p q)) (Fin.ext (by dsimp only; omega)) (Fin.ext (by dsimp only; omega))
  · exact congrArg (fun t => b (ix3 0 _ t)) (Fin.ext (by dsimp only; omega))

/-- The gated branch projected. -/
def branchA : FVec Ideal S4x2048x2048 .f32 := Host.dotGeneral (F := Ideal) dot_S4x2048x1024_S1024x2048_S4x2048x2048_2_0_01_1_n_n none (rows h w b) (shapeCast _ wa shapeCasts_S1x1024x2048_S1024x2048)
/-- The other branch projected. -/
def branchB : FVec Ideal S4x2048x2048 .f32 := Host.dotGeneral (F := Ideal) dot_S4x2048x1024_S1024x2048_S4x2048x2048_2_0_01_1_n_n none (shapeCast _ (extf .f32 o bitsLt_bf16_f32) shapeCasts_S8192x1024_S4x2048x1024) (shapeCast _ wb shapeCasts_S1x1024x2048_S1024x2048)
/-- The two under their gates, added. -/
def both : FVec Ideal S4x2048x2048 .f32 := addf (mulf (extractStridedSlice S4x2048x2048 ![0, 0, 6144] (acts h) slices_S4x2048x10240_S4x2048x2048_0_0_6144) (branchA h w b wa)) (mulf (extractStridedSlice S4x2048x2048 ![0, 0, 8192] (acts h) slices_S4x2048x10240_S4x2048x2048_0_0_8192) (branchB o wb))
/-- The blend projected back. -/
def projected : FVec Ideal S4x2048x2048 .f32 := Host.dotGeneral (F := Ideal) dot_S4x2048x2048_S2048x2048_S4x2048x2048_2_0_01_1_n_n none (both h o w b wa wb) (shapeCast _ wo shapeCasts_S1x2048x2048_S2048x2048)
/-- The layer's output. -/
def result : FVec Ideal S8192x2048 .f32 := shapeCast _ (addf x (mulf (mulf (projected h o w b wa wb wo) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (projected h o w b wa wb wo) (projected h o w b wa wb wo)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ g shapeCasts_S1x2048_S2048))))) shapeCasts_S4x2048x2048_S8192x2048

theorem branchA_apply (i : Fin 4) (s : Fin 2048) (d : Fin 2048) : branchA h w b wa (ix3 i s d) = ∑ k : Fin 1024, gated h w b ⟨i * 2048 + s, by omega⟩ k * wa (ix3 0 k d) := by
  pointwise [branchA]
  exact Finset.sum_congr rfl fun k _ => congrArg (fun u : EReal => u * wa (ix3 0 k d)) (rows_apply h w b i s k)
theorem branchB_apply (i : Fin 4) (s : Fin 2048) (d : Fin 2048) : branchB o wb (ix3 i s d) = ∑ k : Fin 1024, o (ix2 ⟨i * 2048 + s, by omega⟩ k) * wb (ix3 0 k d) := by
  pointwise [branchB]
theorem both_apply (i : Fin 4) (s : Fin 2048) (d : Fin 2048) : both h o w b wa wb (ix3 i s d) = blend h o w b wa wb ⟨i * 2048 + s, by omega⟩ d := by
  pointwise [both]
  unfold blend
  exact congrArg₂ (fun u v : EReal => u + v) (congrArg₂ (fun u v : EReal => u * v) (acts_apply h i s _) (branchA_apply h w b wa i s d)) (congrArg₂ (fun u v : EReal => u * v) (acts_apply h i s _) (branchB_apply o wb i s d))
theorem projected_apply (i : Fin 4) (s : Fin 2048) (j : Fin 2048) : projected h o w b wa wb wo (ix3 i s j) = back h o w b wa wb wo ⟨i * 2048 + s, by omega⟩ j := by
  pointwise [projected]
  unfold back
  exact Finset.sum_congr rfl fun k _ => congrArg (fun u : EReal => u * wo (ix3 0 k j)) (both_apply h o w b wa wb i s k)
theorem result_apply (p : Fin 8192) (j : Fin 2048) : result x h o w b wa wb wo g (ix2 p j) = outY x h o w b wa wb wo g p j := by
  have e : (⟨(p : ℕ) / 2048 * 2048 + (p : ℕ) % 2048, by omega⟩ : Fin 8192) = p := Fin.ext (by dsimp only; omega)
  have hb : ∀ k, projected h o w b wa wb wo (ix3 ⟨p / 2048, by omega⟩ ⟨p % 2048, by omega⟩ k) = back h o w b wa wb wo p k := fun k => (projected_apply h o w b wa wb wo _ _ k).trans (congrArg (fun p => back h o w b wa wb wo p k) e)
  pointwise [result]
  unfold outY scaled
  simp only [hb]

/-- The reference ends with the layer's output, its arguments unchanged. -/
theorem ends (m : (ℓ : Loc nD τ sig) → Buf (Elt Ideal) ℓ) (c : Dev nD) : res_out0 m c = fun i => outY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1) := by
  have e : res_out0 m c = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := rfl
  rw [e]
  funext j
  idx_vars j
  exact result_apply _ _ _ _ _ _ _ _ _ _ _

end Cert.Proof.Mix

end
-- ==== Proof.MergeBlocks.lean ====
module

public import proofs.«01_k».proof.Proof.MergeRef
public import proofs.«01_k».proof.Proof.Gen.Kernel2Ideal.Value

@[expose] public section

set_option maxRecDepth 16384

noncomputable section

namespace Cert.Proof.Mix

open Cert.Kernel2Ideal Cert.Kernel2Ideal.Gen
open Idealize.ShloMosaic Idealize.ShloMosaic.TcCoe Idealize.ShloMosaic.Tactic
open Idealize.SL Idealize.SL.Sem

variable (m : (ℓ : Loc nD τ sig) → Buf (Elt Ideal) ℓ)

/-! The arguments, and what each window's block holds of them at a point. -/

abbrev argX (c : Dev nD) : FVec Ideal S4x2048x2048 .f32 := m ((c : Thread nD τ).loc main_arg0)
abbrev argH (c : Dev nD) : FVec Ideal S8192x10240 .bf16 := m ((c : Thread nD τ).loc main_arg1)
abbrev argO (c : Dev nD) : FVec Ideal S8192x1024 .bf16 := m ((c : Thread nD τ).loc main_arg2)
abbrev argWs (c : Dev nD) : FVec Ideal S1x8x128x128 .f32 := m ((c : Thread nD τ).loc main_arg3)
abbrev argBs (c : Dev nD) : FVec Ideal S1x8x128 .f32 := m ((c : Thread nD τ).loc main_arg4)
abbrev argWa (c : Dev nD) : FVec Ideal S1x1024x2048 .f32 := m ((c : Thread nD τ).loc main_arg5)
abbrev argWb (c : Dev nD) : FVec Ideal S1x1024x2048 .f32 := m ((c : Thread nD τ).loc main_arg6)
abbrev argWo (c : Dev nD) : FVec Ideal S1x2048x2048 .f32 := m ((c : Thread nD τ).loc main_arg7)
abbrev argG (c : Dev nD) : FVec Ideal S1x2048 .f32 := m ((c : Thread nD τ).loc main_arg8)

theorem lt_N (t : Fin cfg0.N) : t.val < 32 := t.isLt

/-- Where each moving window's block lies at point `t`. -/
theorem idx : ∀ t : Fin cfg0.N, win0_0.index t = ![t.val, 0] ∧ win0_1.index t = ![t.val, 0] ∧ win0_2.index t = ![t.val, 1] ∧ win0_3.index t = ![t.val, 2] ∧ win0_6.index t = ![t.val, 0] ∧ win0_7.index t = ![t.val, 3] ∧ win0_8.index t = ![t.val, 4] ∧ win0_13.index t = ![t.val, 0] := (by decide +kernel : ∀ t : Fin grid0.N, _)
/-- The other windows stage their whole array at every point. -/
theorem idxC : ∀ t : Fin cfg0.N, win0_4.index t = ![0, 0, 0] ∧ win0_5.index t = ![0, 0] ∧ win0_9.index t = ![0, 0] ∧ win0_10.index t = ![0, 0] ∧ win0_11.index t = ![0, 0] ∧ win0_12.index t = ![0, 0] := (by decide +kernel : ∀ t : Fin grid0.N, _)

theorem host_x (c : Dev nD) (p : Fin 8192) (j : Fin 2048) : V m c main_v8 (ix2 p j) = argX m c (ix3 ⟨p / 2048, by omega⟩ ⟨p % 2048, by omega⟩ j) := by
  unfold V; after_results; pointwise
theorem host_ws (c : Dev nD) (n : Fin 8) (t s : Fin 128) : V m c main_v9 (ix3 n t s) = argWs m c (ix4 0 n t s) := by
  unfold V; after_results; pointwise
theorem host_bs (c : Dev nD) (t : Fin 128) (n : Fin 8) : V m c main_v11 (ix2 t n) = argBs m c (ix3 0 n t) := by
  unfold V; after_results; pointwise
theorem host_wa (c : Dev nD) (k : Fin 1024) (j : Fin 2048) : V m c main_v1 (ix2 k j) = argWa m c (ix3 0 k j) := by
  unfold V; after_results; pointwise
theorem host_wb (c : Dev nD) (k : Fin 1024) (j : Fin 2048) : V m c main_v3 (ix2 k j) = argWb m c (ix3 0 k j) := by
  unfold V; after_results; pointwise
theorem host_wo (c : Dev nD) (k : Fin 2048) (j : Fin 2048) : V m c main_v5 (ix2 k j) = argWo m c (ix3 0 k j) := by
  unfold V; after_results; pointwise
theorem host_g (c : Dev nD) (j : Fin 2048) : V m c main_v7 (ix2 0 j) = argG m c (ix2 0 j) := by
  unfold V; after_results; pointwise

/-- The array's row under row `p` of point `t`'s block. -/
abbrev rowAt (t : Fin cfg0.N) (p : Fin 256) : Fin 8192 := ⟨256 * t.val + p, by have := lt_N t; omega⟩

theorem x_read (c : Dev nD) (t : Fin cfg0.N) (p : Fin 256) (j : Fin 2048) :
    iblk m c 0 t (ix2 p j) = argX m c (ix3 ⟨rowAt t p / 2048, by have := lt_N t; dsimp only; omega⟩ ⟨rowAt t p % 2048, by omega⟩ j) := by
  have e : iblk m c 0 t (ix2 p j) = V m c main_v8 (ix2 (rowAt t p) j) := by blk_ext [iblk, idx t]
  exact e.trans (host_x m c _ j)
theorem u_read (c : Dev nD) (t : Fin cfg0.N) (p : Fin 256) (q : Fin 1024) : iblk m c 1 t (ix2 p q) = argH m c (ix2 (rowAt t p) ⟨q, by omega⟩) := by
  blk_ext [iblk, V_main_arg1, idx t]
theorem v_read (c : Dev nD) (t : Fin cfg0.N) (p : Fin 256) (q : Fin 1024) : iblk m c 2 t (ix2 p q) = argH m c (ix2 (rowAt t p) ⟨1024 + q, by omega⟩) := by
  blk_ext [iblk, V_main_arg1, idx t]
theorem z_read (c : Dev nD) (t : Fin cfg0.N) (p : Fin 256) (q : Fin 1024) : iblk m c 3 t (ix2 p q) = argH m c (ix2 (rowAt t p) ⟨2048 + q, by omega⟩) := by
  blk_ext [iblk, V_main_arg1, idx t]
theorem ws_read (c : Dev nD) (t : Fin cfg0.N) (n : Fin 8) (r s : Fin 128) : iblk m c 4 t (ix3 n r s) = argWs m c (ix4 0 n r s) := by
  have e : iblk m c 4 t (ix3 n r s) = V m c main_v9 (ix3 n r s) := by blk_ext [iblk, idxC t]
  exact e.trans (host_ws m c n r s)
theorem bs_read (c : Dev nD) (t : Fin cfg0.N) (r : Fin 128) (n : Fin 8) : iblk m c 5 t (ix2 r n) = argBs m c (ix3 0 n r) := by
  have e : iblk m c 5 t (ix2 r n) = V m c main_v11 (ix2 r n) := by blk_ext [iblk, idxC t]
  exact e.trans (host_bs m c r n)
theorem o_read (c : Dev nD) (t : Fin cfg0.N) (p : Fin 256) (q : Fin 1024) : iblk m c 6 t (ix2 p q) = argO m c (ix2 (rowAt t p) q) := by
  blk_ext [iblk, V_main_arg2, idx t]
theorem ga_read (c : Dev nD) (t : Fin cfg0.N) (p : Fin 256) (d : Fin 2048) : iblk m c 7 t (ix2 p d) = argH m c (ix2 (rowAt t p) ⟨6144 + d, by omega⟩) := by
  blk_ext [iblk, V_main_arg1, idx t]
theorem gb_read (c : Dev nD) (t : Fin cfg0.N) (p : Fin 256) (d : Fin 2048) : iblk m c 8 t (ix2 p d) = argH m c (ix2 (rowAt t p) ⟨8192 + d, by omega⟩) := by
  blk_ext [iblk, V_main_arg1, idx t]
theorem wa_read (c : Dev nD) (t : Fin cfg0.N) (k : Fin 1024) (j : Fin 2048) : iblk m c 9 t (ix2 k j) = argWa m c (ix3 0 k j) := by
  have e : iblk m c 9 t (ix2 k j) = V m c main_v1 (ix2 k j) := by blk_ext [iblk, idxC t]
  exact e.trans (host_wa m c k j)
theorem wb_read (c : Dev nD) (t : Fin cfg0.N) (k : Fin 1024) (j : Fin 2048) : iblk m c 10 t (ix2 k j) = argWb m c (ix3 0 k j) := by
  have e : iblk m c 10 t (ix2 k j) = V m c main_v3 (ix2 k j) := by blk_ext [iblk, idxC t]
  exact e.trans (host_wb m c k j)
theorem wo_read (c : Dev nD) (t : Fin cfg0.N) (k : Fin 2048) (j : Fin 2048) : iblk m c 11 t (ix2 k j) = argWo m c (ix3 0 k j) := by
  have e : iblk m c 11 t (ix2 k j) = V m c main_v5 (ix2 k j) := by blk_ext [iblk, idxC t]
  exact e.trans (host_wo m c k j)
theorem g_read (c : Dev nD) (t : Fin cfg0.N) (j : Fin 2048) : iblk m c 12 t (ix2 0 j) = argG m c (ix2 0 j) := by
  have e : iblk m c 12 t (ix2 0 j) = V m c main_v7 (ix2 0 j) := by blk_ext [iblk, idxC t]
  exact e.trans (host_g m c j)

end Cert.Proof.Mix

end
-- ==== Proof.Merge.lean ====
module

public import proofs.«01_k».proof.Defs
public import proofs.«01_k».proof.Proof.MergeBlocks
public import proofs.«01_k».proof.Proof.Gen.Kernel2.Frame

@[expose] public section

set_option maxRecDepth 16384

noncomputable section

namespace Cert.Proof.Mix

open Cert.Kernel2Ideal Cert.Kernel2Ideal.Gen
open Idealize.ShloMosaic Idealize.ShloMosaic.TcCoe Idealize.ShloMosaic.Tactic
open Idealize.SL Idealize.SL.Sem

variable (m : (ℓ : Loc nD τ sig) → Buf (Elt Ideal) ℓ)

/-- The kernel's comparison of two positions of a chunk, as a word. -/
theorem word_le : ∀ t s : Fin 128, IntOp.cmpi CmpIPredicate.sle (BitVec.ofNat 32 s) (BitVec.ofNat 32 t) = if (s : ℕ) ≤ t then 1#1 else 0#1 := by decide +kernel

/-- One tile of the gated rows, as the kernel makes it: chunk by chunk and head by head. -/
theorem tile_gated (H : FVec Ideal S8192x10240 .bf16) (W : FVec Ideal S1x8x128x128 .f32) (B : FVec Ideal S1x8x128 .f32)
    (U Y Z : S256x1024.Idx → EReal) (Ws : S8x128x128.Idx → EReal) (Bs : S128x8.Idx → EReal) (r : Fin 256 → Fin 8192)
    (hU : ∀ p q, U (ix2 p q) = H (ix2 (r p) ⟨q, by omega⟩)) (hY : ∀ p q, Y (ix2 p q) = H (ix2 (r p) ⟨1024 + q, by omega⟩))
    (hZ : ∀ p q, Z (ix2 p q) = H (ix2 (r p) ⟨2048 + q, by omega⟩)) (hW : ∀ n a s, Ws (ix3 n a s) = W (ix4 0 n a s)) (hB : ∀ a n, Bs (ix2 a n) = B (ix3 0 n a))
    (hr : ∃ k : ℕ, ∀ p, (r p).val = 256 * k + p.val)
    (p : Fin 256) (q : Fin 1024) (n : Fin 8) (x0 : Fin 128) (P : Fin 256) (Q : Fin 1024) (R : Fin 128 → Fin 256)
    (hP : P.val = p.val) (hQ : Q.val = q.val) (hn : q.val / 128 = n.val) (hx : p.val % 128 = x0.val) (hR : ∀ s, (R s).val = p.val / 128 * 128 + s.val) :
    U (ix2 P Q) * ((∑ s : Fin 128, Scalar.select (IntOp.cmpi CmpIPredicate.sle (BitVec.ofNat 32 s) (BitVec.ofNat 32 x0)) (Ws (ix3 n x0 s) * Y (ix2 (R s) Q)) 0) + Bs (ix2 x0 n)) * Z (ix2 P Q)
      = gated H W B (r p) q := by
  obtain rfl : P = p := Fin.ext hP
  obtain rfl : Q = q := Fin.ext hQ
  obtain ⟨k, hk⟩ := hr
  have hp := hk P
  have e1 : (⟨Q / 128, by omega⟩ : Fin 8) = n := Fin.ext hn
  have e2 : (⟨r P % 128, by omega⟩ : Fin 128) = x0 := Fin.ext (by dsimp only; omega)
  unfold gated spatial
  rw [e1, e2, hU, hZ, hB]
  refine congrArg₂ (fun u v : EReal => u * v) (congrArg₂ (fun u v : EReal => u * v) rfl (congrArg₂ (fun u v : EReal => u + v) (Finset.sum_congr rfl fun s _ => ?_) rfl)) rfl
  have e3 : (⟨r P / 128 * 128 + s, by omega⟩ : Fin 8192) = r (R s) := Fin.ext (by have := hR s; have := hk (R s); dsimp only; omega)
  rw [word_le, hW, hY, e3]
  unfold weight
  split
  · rfl
  · exact (zero_mul _).symm

set_option maxHeartbeats 2000000 in
/-- What a point writes back: the layer's output at its rows. -/
theorem after_out (c : Dev nD) (t : Fin cfg0.N) (p : Fin 256) (j : Fin 2048) :
    (dats m 0 c).after 13 t (ix2 p j) = (outY (argX m c) (argH m c) (argO m c) (argWs m c) (argBs m c) (argWa m c) (argWb m c) (argWo m c) (argG m c) (rowAt t p) j : EReal) := by
  rw [after0_13]
  unfold outsAt0
  frame_out
  generalize hY : (View.whole cc0_scratch0).readCov (Val := Elt Ideal) _ (Rect.unit (s := S256x1024) ![0, 0] ![256, 1024] inb_S256x1024_S256x1024_0_0).toLoadRect = Y
  have hy : ∀ p q, Y (ix2 p q) = (gated (argH m c) (argWs m c) (argBs m c) (rowAt t p) q : EReal) := by
    intro p q
    rw [← hY, View.readCov_eq_canon']
    clear hY Y
    pointwise
    canon_tiles x h
    case piece0 =>
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43]
      exact tile_gated (argH m c) (argWs m c) (argBs m c) (iblk m c 1 t) (iblk m c 2 t) (iblk m c 3 t) (iblk m c 4 t) (iblk m c 5 t) (rowAt t) (u_read m c t) (v_read m c t) (z_read m c t) (ws_read m c t) (bs_read m c t) ⟨t.val, fun _ => rfl⟩ p q 7 (x 0) _ _ (fun s => ⟨128 + s, by omega⟩) (by dsimp at h0 h1 ⊢ <;> omega) (by dsimp at h0 h1 ⊢ <;> omega) (by dsimp at h0 h1 ⊢ <;> omega) (by dsimp at h0 h1 ⊢ <;> omega) (fun s => by dsimp at h0 h1 ⊢ <;> omega)
    case piece1 =>
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43]
      exact tile_gated (argH m c) (argWs m c) (argBs m c) (iblk m c 1 t) (iblk m c 2 t) (iblk m c 3 t) (iblk m c 4 t) (iblk m c 5 t) (rowAt t) (u_read m c t) (v_read m c t) (z_read m c t) (ws_read m c t) (bs_read m c t) ⟨t.val, fun _ => rfl⟩ p q 7 (x 0) _ _ (fun s => ⟨s, by omega⟩) (by dsimp at h0 h1 ⊢ <;> omega) (by dsimp at h0 h1 ⊢ <;> omega) (by dsimp at h0 h1 ⊢ <;> omega) (by dsimp at h0 h1 ⊢ <;> omega) (fun s => by dsimp at h0 h1 ⊢ <;> omega)
    case piece2 =>
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43]
      exact tile_gated (argH m c) (argWs m c) (argBs m c) (iblk m c 1 t) (iblk m c 2 t) (iblk m c 3 t) (iblk m c 4 t) (iblk m c 5 t) (rowAt t) (u_read m c t) (v_read m c t) (z_read m c t) (ws_read m c t) (bs_read m c t) ⟨t.val, fun _ => rfl⟩ p q 6 (x 0) _ _ (fun s => ⟨128 + s, by omega⟩) (by dsimp at h0 h1 ⊢ <;> omega) (by dsimp at h0 h1 ⊢ <;> omega) (by dsimp at h0 h1 ⊢ <;> omega) (by dsimp at h0 h1 ⊢ <;> omega) (fun s => by dsimp at h0 h1 ⊢ <;> omega)
    case piece3 =>
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43]
      exact tile_gated (argH m c) (argWs m c) (argBs m c) (iblk m c 1 t) (iblk m c 2 t) (iblk m c 3 t) (iblk m c 4 t) (iblk m c 5 t) (rowAt t) (u_read m c t) (v_read m c t) (z_read m c t) (ws_read m c t) (bs_read m c t) ⟨t.val, fun _ => rfl⟩ p q 6 (x 0) _ _ (fun s => ⟨s, by omega⟩) (by dsimp at h0 h1 ⊢ <;> omega) (by dsimp at h0 h1 ⊢ <;> omega) (by dsimp at h0 h1 ⊢ <;> omega) (by dsimp at h0 h1 ⊢ <;> omega) (fun s => by dsimp at h0 h1 ⊢ <;> omega)
    case piece4 =>
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43]
      exact tile_gated (argH m c) (argWs m c) (argBs m c) (iblk m c 1 t) (iblk m c 2 t) (iblk m c 3 t) (iblk m c 4 t) (iblk m c 5 t) (rowAt t) (u_read m c t) (v_read m c t) (z_read m c t) (ws_read m c t) (bs_read m c t) ⟨t.val, fun _ => rfl⟩ p q 5 (x 0) _ _ (fun s => ⟨128 + s, by omega⟩) (by dsimp at h0 h1 ⊢ <;> omega) (by dsimp at h0 h1 ⊢ <;> omega) (by dsimp at h0 h1 ⊢ <;> omega) (by dsimp at h0 h1 ⊢ <;> omega) (fun s => by dsimp at h0 h1 ⊢ <;> omega)
    case piece5 =>
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43]
      exact tile_gated (argH m c) (argWs m c) (argBs m c) (iblk m c 1 t) (iblk m c 2 t) (iblk m c 3 t) (iblk m c 4 t) (iblk m c 5 t) (rowAt t) (u_read m c t) (v_read m c t) (z_read m c t) (ws_read m c t) (bs_read m c t) ⟨t.val, fun _ => rfl⟩ p q 5 (x 0) _ _ (fun s => ⟨s, by omega⟩) (by dsimp at h0 h1 ⊢ <;> omega) (by dsimp at h0 h1 ⊢ <;> omega) (by dsimp at h0 h1 ⊢ <;> omega) (by dsimp at h0 h1 ⊢ <;> omega) (fun s => by dsimp at h0 h1 ⊢ <;> omega)
    case piece6 =>
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43]
      exact tile_gated (argH m c) (argWs m c) (argBs m c) (iblk m c 1 t) (iblk m c 2 t) (iblk m c 3 t) (iblk m c 4 t) (iblk m c 5 t) (rowAt t) (u_read m c t) (v_read m c t) (z_read m c t) (ws_read m c t) (bs_read m c t) ⟨t.val, fun _ => rfl⟩ p q 4 (x 0) _ _ (fun s => ⟨128 + s, by omega⟩) (by dsimp at h0 h1 ⊢ <;> omega) (by dsimp at h0 h1 ⊢ <;> omega) (by dsimp at h0 h1 ⊢ <;> omega) (by dsimp at h0 h1 ⊢ <;> omega) (fun s => by dsimp at h0 h1 ⊢ <;> omega)
    case piece7 =>
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43]
      exact tile_gated (argH m c) (argWs m c) (argBs m c) (iblk m c 1 t) (iblk m c 2 t) (iblk m c 3 t) (iblk m c 4 t) (iblk m c 5 t) (rowAt t) (u_read m c t) (v_read m c t) (z_read m c t) (ws_read m c t) (bs_read m c t) ⟨t.val, fun _ => rfl⟩ p q 4 (x 0) _ _ (fun s => ⟨s, by omega⟩) (by dsimp at h0 h1 ⊢ <;> omega) (by dsimp at h0 h1 ⊢ <;> omega) (by dsimp at h0 h1 ⊢ <;> omega) (by dsimp at h0 h1 ⊢ <;> omega) (fun s => by dsimp at h0 h1 ⊢ <;> omega)
    case piece8 =>
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43]
      exact tile_gated (argH m c) (argWs m c) (argBs m c) (iblk m c 1 t) (iblk m c 2 t) (iblk m c 3 t) (iblk m c 4 t) (iblk m c 5 t) (rowAt t) (u_read m c t) (v_read m c t) (z_read m c t) (ws_read m c t) (bs_read m c t) ⟨t.val, fun _ => rfl⟩ p q 3 (x 0) _ _ (fun s => ⟨128 + s, by omega⟩) (by dsimp at h0 h1 ⊢ <;> omega) (by dsimp at h0 h1 ⊢ <;> omega) (by dsimp at h0 h1 ⊢ <;> omega) (by dsimp at h0 h1 ⊢ <;> omega) (fun s => by dsimp at h0 h1 ⊢ <;> omega)
    case piece9 =>
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43]
      exact tile_gated (argH m c) (argWs m c) (argBs m c) (iblk m c 1 t) (iblk m c 2 t) (iblk m c 3 t) (iblk m c 4 t) (iblk m c 5 t) (rowAt t) (u_read m c t) (v_read m c t) (z_read m c t) (ws_read m c t) (bs_read m c t) ⟨t.val, fun _ => rfl⟩ p q 3 (x 0) _ _ (fun s => ⟨s, by omega⟩) (by dsimp at h0 h1 ⊢ <;> omega) (by dsimp at h0 h1 ⊢ <;> omega) (by dsimp at h0 h1 ⊢ <;> omega) (by dsimp at h0 h1 ⊢ <;> omega) (fun s => by dsimp at h0 h1 ⊢ <;> omega)
    case piece10 =>
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43]
      exact tile_gated (argH m c) (argWs m c) (argBs m c) (iblk m c 1 t) (iblk m c 2 t) (iblk m c 3 t) (iblk m c 4 t) (iblk m c 5 t) (rowAt t) (u_read m c t) (v_read m c t) (z_read m c t) (ws_read m c t) (bs_read m c t) ⟨t.val, fun _ => rfl⟩ p q 2 (x 0) _ _ (fun s => ⟨128 + s, by omega⟩) (by dsimp at h0 h1 ⊢ <;> omega) (by dsimp at h0 h1 ⊢ <;> omega) (by dsimp at h0 h1 ⊢ <;> omega) (by dsimp at h0 h1 ⊢ <;> omega) (fun s => by dsimp at h0 h1 ⊢ <;> omega)
    case piece11 =>
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43]
      exact tile_gated (argH m c) (argWs m c) (argBs m c) (iblk m c 1 t) (iblk m c 2 t) (iblk m c 3 t) (iblk m c 4 t) (iblk m c 5 t) (rowAt t) (u_read m c t) (v_read m c t) (z_read m c t) (ws_read m c t) (bs_read m c t) ⟨t.val, fun _ => rfl⟩ p q 2 (x 0) _ _ (fun s => ⟨s, by omega⟩) (by dsimp at h0 h1 ⊢ <;> omega) (by dsimp at h0 h1 ⊢ <;> omega) (by dsimp at h0 h1 ⊢ <;> omega) (by dsimp at h0 h1 ⊢ <;> omega) (fun s => by dsimp at h0 h1 ⊢ <;> omega)
    case piece12 =>
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43]
      exact tile_gated (argH m c) (argWs m c) (argBs m c) (iblk m c 1 t) (iblk m c 2 t) (iblk m c 3 t) (iblk m c 4 t) (iblk m c 5 t) (rowAt t) (u_read m c t) (v_read m c t) (z_read m c t) (ws_read m c t) (bs_read m c t) ⟨t.val, fun _ => rfl⟩ p q 1 (x 0) _ _ (fun s => ⟨128 + s, by omega⟩) (by dsimp at h0 h1 ⊢ <;> omega) (by dsimp at h0 h1 ⊢ <;> omega) (by dsimp at h0 h1 ⊢ <;> omega) (by dsimp at h0 h1 ⊢ <;> omega) (fun s => by dsimp at h0 h1 ⊢ <;> omega)
    case piece13 =>
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43]
      exact tile_gated (argH m c) (argWs m c) (argBs m c) (iblk m c 1 t) (iblk m c 2 t) (iblk m c 3 t) (iblk m c 4 t) (iblk m c 5 t) (rowAt t) (u_read m c t) (v_read m c t) (z_read m c t) (ws_read m c t) (bs_read m c t) ⟨t.val, fun _ => rfl⟩ p q 1 (x 0) _ _ (fun s => ⟨s, by omega⟩) (by dsimp at h0 h1 ⊢ <;> omega) (by dsimp at h0 h1 ⊢ <;> omega) (by dsimp at h0 h1 ⊢ <;> omega) (by dsimp at h0 h1 ⊢ <;> omega) (fun s => by dsimp at h0 h1 ⊢ <;> omega)
    case piece14 =>
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43]
      exact tile_gated (argH m c) (argWs m c) (argBs m c) (iblk m c 1 t) (iblk m c 2 t) (iblk m c 3 t) (iblk m c 4 t) (iblk m c 5 t) (rowAt t) (u_read m c t) (v_read m c t) (z_read m c t) (ws_read m c t) (bs_read m c t) ⟨t.val, fun _ => rfl⟩ p q 0 (x 0) _ _ (fun s => ⟨128 + s, by omega⟩) (by dsimp at h0 h1 ⊢ <;> omega) (by dsimp at h0 h1 ⊢ <;> omega) (by dsimp at h0 h1 ⊢ <;> omega) (by dsimp at h0 h1 ⊢ <;> omega) (fun s => by dsimp at h0 h1 ⊢ <;> omega)
    case piece15 =>
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43]
      exact tile_gated (argH m c) (argWs m c) (argBs m c) (iblk m c 1 t) (iblk m c 2 t) (iblk m c 3 t) (iblk m c 4 t) (iblk m c 5 t) (rowAt t) (u_read m c t) (v_read m c t) (z_read m c t) (ws_read m c t) (bs_read m c t) ⟨t.val, fun _ => rfl⟩ p q 0 (x 0) _ _ (fun s => ⟨s, by omega⟩) (by dsimp at h0 h1 ⊢ <;> omega) (by dsimp at h0 h1 ⊢ <;> omega) (by dsimp at h0 h1 ⊢ <;> omega) (by dsimp at h0 h1 ⊢ <;> omega) (fun s => by dsimp at h0 h1 ⊢ <;> omega)
  clear hY
  pointwise [k0_pay1, k0_pay44, k0_pay45, k0_pay46, k0_pay47]
  simp only [hy, x_read, ga_read, gb_read, wa_read, wb_read, wo_read, o_read, g_read]
  rfl

/-- The result array: the layer's output. -/
theorem array_out (c : Dev nD) : (dats m 0 c).arrAt 13 cfg0.N = fun i => outY (argX m c) (argH m c) (argO m c) (argWs m c) (argBs m c) (argWa m c) (argWb m c) (argWo m c) (argG m c) (i 0) (i 1) := by
  refine (dats m 0 c).arrAt_eq_of_covers 13 _ (by decide +kernel) fun t hf y => ?_
  have hN := lt_N t
  have hi := (idx t).2.2.2.2.2.2.2
  blk_simp
  idx_vars y
  have h0 : ((((win0_13.blk t).view.emb (ix2 y0 y1)) 0 : Fin _) : ℕ) = win0_13.index t 0 * 256 + 1 * y0 := rfl
  have h1 : ((((win0_13.blk t).view.emb (ix2 y0 y1)) 1 : Fin _) : ℕ) = win0_13.index t 1 * 2048 + 1 * y1 := rfl
  rw [hi] at h0 h1
  refine (after_out m c t y0 y1).trans ?_
  exact congrArg₂ (outY (argX m c) (argH m c) (argO m c) (argWs m c) (argBs m c) (argWa m c) (argWb m c) (argWo m c) (argG m c)) (Fin.ext (by refine Eq.trans ?_ h0.symm; dsimp; omega)) (Fin.ext (by refine Eq.trans ?_ h1.symm; dsimp; omega))

end Cert.Proof.Mix

namespace Cert.Proof

open Idealize.ShloMosaic Idealize.ShloMosaic.TcCoe Idealize.SL.Sem

instance mergeReferenceFacts : Cert.Reference2Ideal.Facts := Cert.Reference2Ideal.Gen.facts

/-- The merge: the idealised kernel and the reference end with equal results. -/
theorem equal_results2 : Cert.algebraic_Kernel2Ideal_Reference2Ideal := fun m g m' g' _ hag => by
  refine ⟨fun c => fun i => Mix.outY (Mix.argX m c) (Mix.argH m c) (Mix.argO m c) (Mix.argWs m c) (Mix.argBs m c) (Mix.argWa m c) (Mix.argWb m c) (Mix.argWo m c) (Mix.argG m c) (i 0) (i 1), ?_, ?_⟩
  · exact (θ_run Cert.Kernel2Ideal.defs _ _).mono (fun r h c => ⟨(h c).1.trans (Mix.array_out m c), (h c).2⟩) (Cert.Kernel2Ideal.Value.run_blocks m g)
  · refine (θ_run Cert.Reference2Ideal.defs _ _).mono (fun r h c => ⟨((h c).1.trans (Mix.ends m' c)).trans ?_, (h c).2⟩) (Cert.Reference2Ideal.Value.run (F := Ideal) m' g')
    rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2]
    rfl

/-- The merge's frames: the kernel's are the generated one at the two kinds of floats; the reference declares no semaphore. -/
theorem frame_kernel2 : Cert.quiescent_Kernel2 (hKernel2 := Cert.Kernel2.Gen.facts) := fun m ρ _ => Cert.Kernel2.Gen.frame m ρ
theorem frame_kernel2Ideal : Cert.quiescent_Kernel2Ideal := fun m ρ _ => Cert.Kernel2Ideal.Gen.frame m ρ
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Proof

end
-- ==== Proof.TailRef.lean ====
module

public import proofs.«01_k».proof.Proof.Ref
public import proofs.«01_k».proof.Proof.Gen.Reference3Ideal.Run

@[expose] public section

set_option maxRecDepth 16384

noncomputable section

namespace Cert.Proof.Tail

open Cert.Reference3Ideal Cert.Reference3Ideal.Gen Cert.Reference3Ideal.Value
open Idealize.ShloMosaic Idealize.ShloMosaic.TcCoe Idealize.ShloMosaic.Tactic
open Idealize.SL Idealize.SL.Sem

section Formula

variable (X : FVec Ideal S4x2048x2048 .f32) (g : FVec Ideal S1x2048 .f32) (Y : FVec Ideal S1x2048x10832 .f32)

/-- The layer's input scaled to unit mean square, its gain applied. -/
def unit (i : Fin 4) (s : Fin 2048) (d : Fin 2048) : EReal :=
  X (ix3 i s d) * Ideal.rsqrt (Ideal.div (∑ k : Fin 2048, X (ix3 i s k) * X (ix3 i s k)) (Ideal.ofBits FTy.f32 0x45000000#32) + Ideal.ofBits FTy.f32 0x358637BD#32) * g (ix2 0 d)

/-- Its projection: position `s` of sequence `i` at column `n` of the weights. -/
def col (i : Fin 4) (s : Fin 2048) (n : Fin 10832) : EReal := ∑ d : Fin 2048, unit X g i s d * Y (ix3 0 d n)

/-- The keys of head `h`, rotated by position. -/
def key (i : Fin 4) (s : Fin 2048) (h : Fin 2) (l : Fin 128) : EReal :=
  col X g Y i s ⟨4096 + (h * 128 + l), by omega⟩ * Ideal.cos (Ref.ang128 s ⟨l % 64, by omega⟩)
    + col X g Y i s ⟨4096 + (h * 128 + (l + 64) % 128), by omega⟩ * Ref.sgn128 s l

/-- The index keys, rotated by position. -/
def ikey (i : Fin 4) (s : Fin 2048) (l : Fin 64) : EReal :=
  col X g Y i s ⟨6656 + l, by omega⟩ * Ideal.cos (Ref.ang64 s ⟨l % 32, by omega⟩)
    + col X g Y i s ⟨6656 + (l + 32) % 64, by omega⟩ * Ref.sgn64 s l

/-- The index heads' weights. -/
def headw (i : Fin 4) (s : Fin 2048) (n : Fin 16) : EReal :=
  col X g Y i s ⟨6720 + n, by omega⟩ * Ideal.ofBits FTy.f32 0x3E800000#32 * Ideal.ofBits FTy.f32 0x3E000000#32

/-! The results, by row. -/

/-- The normalised input. By row. -/
def rXn (p : Fin 8192) (d : Fin 2048) : EReal := unit X g ⟨p / 2048, by omega⟩ ⟨p % 2048, by omega⟩ d
/-- The keys. By row. -/
def rK (p : Fin 8192) (h : Fin 2) (l : Fin 128) : EReal := key X g Y ⟨p / 2048, by omega⟩ ⟨p % 2048, by omega⟩ h l
/-- The values. By row. -/
def rV (p : Fin 8192) (h : Fin 2) (l : Fin 128) : EReal := col X g Y ⟨p / 2048, by omega⟩ ⟨p % 2048, by omega⟩ ⟨4352 + (h * 128 + l), by omega⟩
/-- The index keys. By row. -/
def rI (p : Fin 8192) (l : Fin 64) : EReal := ikey X g Y ⟨p / 2048, by omega⟩ ⟨p % 2048, by omega⟩ l
/-- The keys, both heads in one row. By row. -/
def rKb (p : Fin 8192) (q : Fin 256) : EReal := key X g Y ⟨p / 2048, by omega⟩ ⟨p % 2048, by omega⟩ ⟨q / 128, by omega⟩ ⟨q % 128, by omega⟩
/-- The index keys in the first half of a row. By row. -/
def rIe (p : Fin 8192) (q : Fin 128) : EReal := (if h : (q : ℕ) < 64 then ikey X g Y ⟨p / 2048, by omega⟩ ⟨p % 2048, by omega⟩ ⟨q, h⟩ else 0)
/-- The index keys in the second half of a row. By row. -/
def rIo (p : Fin 8192) (q : Fin 128) : EReal := (if h : (q : ℕ) < 64 then 0 else ikey X g Y ⟨p / 2048, by omega⟩ ⟨p % 2048, by omega⟩ ⟨q - 64, by omega⟩)
/-- The values, one column per position. By row. -/
def rVb (q : Fin 256) (p : Fin 8192) : EReal := col X g Y ⟨p / 2048, by omega⟩ ⟨p % 2048, by omega⟩ ⟨4352 + q, by omega⟩
/-- The index heads' weights, one column per position. By row. -/
def rWs (n : Fin 16) (p : Fin 8192) : EReal := headw X g Y ⟨p / 2048, by omega⟩ ⟨p % 2048, by omega⟩ n

end Formula

/-! The reference's stages, entry by entry. -/

/-- The angles of the keys' rotation. -/
def angK : FVec Ideal S2048x64 .f32 := mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))
/-- The angles of the index keys' rotation. -/
def angI : FVec Ideal S2048x32 .f32 := mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))
/-- Their cosines, for every head. -/
def cosK : FVec Ideal S4x2048x2x64 .f32 := broadcastInDim S4x2048x2x64 ![0, 1, 2, 3] bcast_S1x2048x1x64_S4x2048x2x64_0_1_2_3 (broadcastInDim S1x2048x1x64 ![1, 2, 3] bcast_S2048x1x64_S1x2048x1x64_1_2_3 (broadcastInDim S2048x1x64 ![0, 2] bcast_S2048x64_S2048x1x64_0_2 (Host.cos angK)))
/-- Their sines. -/
def sinK : FVec Ideal S4x2048x2x64 .f32 := broadcastInDim S4x2048x2x64 ![0, 1, 2, 3] bcast_S1x2048x1x64_S4x2048x2x64_0_1_2_3 (broadcastInDim S1x2048x1x64 ![1, 2, 3] bcast_S2048x1x64_S1x2048x1x64_1_2_3 (broadcastInDim S2048x1x64 ![0, 2] bcast_S2048x64_S2048x1x64_0_2 (Host.sin angK)))
/-- The cosines of the index keys' angles. -/
def cosI : FVec Ideal S4x2048x1x32 .f32 := broadcastInDim S4x2048x1x32 ![0, 1, 2, 3] bcast_S1x2048x1x32_S4x2048x1x32_0_1_2_3 (broadcastInDim S1x2048x1x32 ![1, 2, 3] bcast_S2048x1x32_S1x2048x1x32_1_2_3 (broadcastInDim S2048x1x32 ![0, 2] bcast_S2048x32_S2048x1x32_0_2 (Host.cos angI)))
/-- Their sines. -/
def sinI : FVec Ideal S4x2048x1x32 .f32 := broadcastInDim S4x2048x1x32 ![0, 1, 2, 3] bcast_S1x2048x1x32_S4x2048x1x32_0_1_2_3 (broadcastInDim S1x2048x1x32 ![1, 2, 3] bcast_S2048x1x32_S1x2048x1x32_1_2_3 (broadcastInDim S2048x1x32 ![0, 2] bcast_S2048x32_S2048x1x32_0_2 (Host.sin angI)))

theorem angK_apply (s : Fin 2048) (l : Fin 64) : angK (ix2 s l) = Ref.ang128 s l := by
  pointwise [angK]
  rfl
theorem angI_apply (s : Fin 2048) (l : Fin 32) : angI (ix2 s l) = Ref.ang64 s l := by
  pointwise [angI]
  rfl
theorem cosK_apply (i : Fin 4) (s : Fin 2048) (h : Fin 2) (l : Fin 64) : cosK (ix4 i s h l) = Ideal.cos (Ref.ang128 s l) := by
  pointwise [cosK]
  exact congrArg Ideal.cos (angK_apply s l)
theorem sinK_apply (i : Fin 4) (s : Fin 2048) (h : Fin 2) (l : Fin 64) : sinK (ix4 i s h l) = Ideal.sin (Ref.ang128 s l) := by
  pointwise [sinK]
  exact congrArg Ideal.sin (angK_apply s l)
theorem cosI_apply (i : Fin 4) (s : Fin 2048) (h : Fin 1) (l : Fin 32) : cosI (ix4 i s h l) = Ideal.cos (Ref.ang64 s l) := by
  pointwise [cosI]
  exact congrArg Ideal.cos (angI_apply s l)
theorem sinI_apply (i : Fin 4) (s : Fin 2048) (h : Fin 1) (l : Fin 32) : sinI (ix4 i s h l) = Ideal.sin (Ref.ang64 s l) := by
  pointwise [sinI]
  exact congrArg Ideal.sin (angI_apply s l)

variable (X : FVec Ideal S4x2048x2048 .f32) (g : FVec Ideal S1x2048 .f32) (Y : FVec Ideal S1x2048x10832 .f32)

/-- The normalised input. -/
def normed : FVec Ideal S4x2048x2048 .f32 := mulf (mulf X (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf X X) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ g shapeCasts_S1x2048_S2048)))
/-- Its projection. -/
def prod : FVec Ideal S4x2048x10832 .f32 := Host.dotGeneral (F := Ideal) dot_S4x2048x2048_S2048x10832_S4x2048x10832_2_0_01_1_n_n none (normed X g) (shapeCast _ Y shapeCasts_S1x2048x10832_S2048x10832)
/-- The rotated keys. -/
def keys : FVec Ideal S4x2048x2x128 .f32 := concatenate S4x2048x2x128 3 [⟨S4x2048x2x64, (subf (mulf (extractStridedSlice S4x2048x2x64 ![0, 0, 0, 0] (shapeCast _ (extractStridedSlice S4x2048x256 ![0, 0, 4096] (prod X g Y) slices_S4x2048x10832_S4x2048x256_0_0_4096) shapeCasts_S4x2048x256_S4x2048x2x128) slices_S4x2048x2x128_S4x2048x2x64_0_0_0_0) cosK) (mulf (extractStridedSlice S4x2048x2x64 ![0, 0, 0, 64] (shapeCast _ (extractStridedSlice S4x2048x256 ![0, 0, 4096] (prod X g Y) slices_S4x2048x10832_S4x2048x256_0_0_4096) shapeCasts_S4x2048x256_S4x2048x2x128) slices_S4x2048x2x128_S4x2048x2x64_0_0_0_64) sinK))⟩, ⟨S4x2048x2x64, (addf (mulf (extractStridedSlice S4x2048x2x64 ![0, 0, 0, 64] (shapeCast _ (extractStridedSlice S4x2048x256 ![0, 0, 4096] (prod X g Y) slices_S4x2048x10832_S4x2048x256_0_0_4096) shapeCasts_S4x2048x256_S4x2048x2x128) slices_S4x2048x2x128_S4x2048x2x64_0_0_0_64) cosK) (mulf (extractStridedSlice S4x2048x2x64 ![0, 0, 0, 0] (shapeCast _ (extractStridedSlice S4x2048x256 ![0, 0, 4096] (prod X g Y) slices_S4x2048x10832_S4x2048x256_0_0_4096) shapeCasts_S4x2048x256_S4x2048x2x128) slices_S4x2048x2x128_S4x2048x2x64_0_0_0_0) sinK))⟩] concatenates_S4x2048x2x64_S4x2048x2x64_S4x2048x2x128_d3
/-- The rotated index keys. -/
def ikeys : FVec Ideal S4x2048x1x64 .f32 := concatenate S4x2048x1x64 3 [⟨S4x2048x1x32, (subf (mulf (extractStridedSlice S4x2048x1x32 ![0, 0, 0, 0] (shapeCast _ (extractStridedSlice S4x2048x64 ![0, 0, 6656] (prod X g Y) slices_S4x2048x10832_S4x2048x64_0_0_6656) shapeCasts_S4x2048x64_S4x2048x1x64) slices_S4x2048x1x64_S4x2048x1x32_0_0_0_0) cosI) (mulf (extractStridedSlice S4x2048x1x32 ![0, 0, 0, 32] (shapeCast _ (extractStridedSlice S4x2048x64 ![0, 0, 6656] (prod X g Y) slices_S4x2048x10832_S4x2048x64_0_0_6656) shapeCasts_S4x2048x64_S4x2048x1x64) slices_S4x2048x1x64_S4x2048x1x32_0_0_0_32) sinI))⟩, ⟨S4x2048x1x32, (addf (mulf (extractStridedSlice S4x2048x1x32 ![0, 0, 0, 32] (shapeCast _ (extractStridedSlice S4x2048x64 ![0, 0, 6656] (prod X g Y) slices_S4x2048x10832_S4x2048x64_0_0_6656) shapeCasts_S4x2048x64_S4x2048x1x64) slices_S4x2048x1x64_S4x2048x1x32_0_0_0_32) cosI) (mulf (extractStridedSlice S4x2048x1x32 ![0, 0, 0, 0] (shapeCast _ (extractStridedSlice S4x2048x64 ![0, 0, 6656] (prod X g Y) slices_S4x2048x10832_S4x2048x64_0_0_6656) shapeCasts_S4x2048x64_S4x2048x1x64) slices_S4x2048x1x64_S4x2048x1x32_0_0_0_0) sinI))⟩] concatenates_S4x2048x1x32_S4x2048x1x32_S4x2048x1x64_d3

theorem normed_apply (i : Fin 4) (s : Fin 2048) (d : Fin 2048) : normed X g (ix3 i s d) = unit X g i s d := by
  pointwise [normed]
  rfl
theorem prod_apply (i : Fin 4) (s : Fin 2048) (n : Fin 10832) : prod X g Y (ix3 i s n) = col X g Y i s n := by
  pointwise [prod]
  exact Finset.sum_congr rfl fun d _ => congrArg (fun u : EReal => u * Y (ix3 0 d n)) (normed_apply X g i s d)
theorem key_lo (i : Fin 4) (s : Fin 2048) (h : Fin 2) (l : Fin 128) (hl : (l : ℕ) < 64) : key X g Y i s h l = col X g Y i s ⟨4096 + (h * 128 + l), by omega⟩ * Ideal.cos (Ref.ang128 s ⟨l % 64, by omega⟩) - col X g Y i s ⟨4096 + (h * 128 + (l + 64) % 128), by omega⟩ * Ideal.sin (Ref.ang128 s ⟨l % 64, by omega⟩) := by
  unfold key Ref.sgn128
  rw [if_pos (by omega), mul_neg, ← sub_eq_add_neg]
theorem key_hi (i : Fin 4) (s : Fin 2048) (h : Fin 2) (l : Fin 128) (hl : ¬ (l : ℕ) < 64) : key X g Y i s h l = col X g Y i s ⟨4096 + (h * 128 + l), by omega⟩ * Ideal.cos (Ref.ang128 s ⟨l % 64, by omega⟩) + col X g Y i s ⟨4096 + (h * 128 + (l + 64) % 128), by omega⟩ * Ideal.sin (Ref.ang128 s ⟨l % 64, by omega⟩) := by
  unfold key Ref.sgn128
  rw [if_neg (by omega)]
theorem keys_apply (i : Fin 4) (s : Fin 2048) (h : Fin 2) (l : Fin 128) : keys X g Y (ix4 i s h l) = key X g Y i s h l := by
  pointwise [keys]
  split
  · rename_i hl
    have hl : (l : ℕ) < 64 := hl
    refine Eq.trans ?_ (key_lo X g Y i s h l hl).symm
    exact congrArg₂ (fun u v : EReal => u - v)
      (congrArg₂ (fun u v : EReal => u * v) ((prod_apply X g Y i s _).trans (congrArg (col X g Y i s) (Fin.ext (by dsimp only <;> omega)))) (((cosK_apply i s _ _).trans (congrArg (fun l => Ideal.cos (Ref.ang128 s l)) (Fin.ext (by dsimp only <;> omega))))))
      (congrArg₂ (fun u v : EReal => u * v) ((prod_apply X g Y i s _).trans (congrArg (col X g Y i s) (Fin.ext (by dsimp only <;> omega)))) (((sinK_apply i s _ _).trans (congrArg (fun l => Ideal.sin (Ref.ang128 s l)) (Fin.ext (by dsimp only <;> omega))))))
  · rename_i hl
    have hl : ¬ (l : ℕ) < 64 := hl
    refine Eq.trans ?_ (key_hi X g Y i s h l hl).symm
    exact congrArg₂ (fun u v : EReal => u + v)
      (congrArg₂ (fun u v : EReal => u * v) ((prod_apply X g Y i s _).trans (congrArg (col X g Y i s) (Fin.ext (by dsimp only <;> omega)))) (((cosK_apply i s _ _).trans (congrArg (fun l => Ideal.cos (Ref.ang128 s l)) (Fin.ext (by dsimp only <;> omega))))))
      (congrArg₂ (fun u v : EReal => u * v) ((prod_apply X g Y i s _).trans (congrArg (col X g Y i s) (Fin.ext (by dsimp only <;> omega)))) (((sinK_apply i s _ _).trans (congrArg (fun l => Ideal.sin (Ref.ang128 s l)) (Fin.ext (by dsimp only <;> omega))))))
theorem ikey_lo (i : Fin 4) (s : Fin 2048) (l : Fin 64) (hl : (l : ℕ) < 32) : ikey X g Y i s l = col X g Y i s ⟨6656 + l, by omega⟩ * Ideal.cos (Ref.ang64 s ⟨l % 32, by omega⟩) - col X g Y i s ⟨6656 + (l + 32) % 64, by omega⟩ * Ideal.sin (Ref.ang64 s ⟨l % 32, by omega⟩) := by
  unfold ikey Ref.sgn64
  rw [if_pos (by omega), mul_neg, ← sub_eq_add_neg]
theorem ikey_hi (i : Fin 4) (s : Fin 2048) (l : Fin 64) (hl : ¬ (l : ℕ) < 32) : ikey X g Y i s l = col X g Y i s ⟨6656 + l, by omega⟩ * Ideal.cos (Ref.ang64 s ⟨l % 32, by omega⟩) + col X g Y i s ⟨6656 + (l + 32) % 64, by omega⟩ * Ideal.sin (Ref.ang64 s ⟨l % 32, by omega⟩) := by
  unfold ikey Ref.sgn64
  rw [if_neg (by omega)]
theorem ikeys_apply (i : Fin 4) (s : Fin 2048) (h : Fin 1) (l : Fin 64) : ikeys X g Y (ix4 i s h l) = ikey X g Y i s l := by
  pointwise [ikeys]
  split
  · rename_i hl
    have hl : (l : ℕ) < 32 := hl
    refine Eq.trans ?_ (ikey_lo X g Y i s l hl).symm
    exact congrArg₂ (fun u v : EReal => u - v)
      (congrArg₂ (fun u v : EReal => u * v) ((prod_apply X g Y i s _).trans (congrArg (col X g Y i s) (Fin.ext (by dsimp only <;> omega)))) (((cosI_apply i s _ _).trans (congrArg (fun l => Ideal.cos (Ref.ang64 s l)) (Fin.ext (by dsimp only <;> omega))))))
      (congrArg₂ (fun u v : EReal => u * v) ((prod_apply X g Y i s _).trans (congrArg (col X g Y i s) (Fin.ext (by dsimp only <;> omega)))) (((sinI_apply i s _ _).trans (congrArg (fun l => Ideal.sin (Ref.ang64 s l)) (Fin.ext (by dsimp only <;> omega))))))
  · rename_i hl
    have hl : ¬ (l : ℕ) < 32 := hl
    refine Eq.trans ?_ (ikey_hi X g Y i s l hl).symm
    exact congrArg₂ (fun u v : EReal => u + v)
      (congrArg₂ (fun u v : EReal => u * v) ((prod_apply X g Y i s _).trans (congrArg (col X g Y i s) (Fin.ext (by dsimp only <;> omega)))) (((cosI_apply i s _ _).trans (congrArg (fun l => Ideal.cos (Ref.ang64 s l)) (Fin.ext (by dsimp only <;> omega))))))
      (congrArg₂ (fun u v : EReal => u * v) ((prod_apply X g Y i s _).trans (congrArg (col X g Y i s) (Fin.ext (by dsimp only <;> omega)))) (((sinI_apply i s _ _).trans (congrArg (fun l => Ideal.sin (Ref.ang64 s l)) (Fin.ext (by dsimp only <;> omega))))))

/-- The normalised input. -/
def outXn : FVec Ideal S8192x2048 .bf16 := truncf .bf16 (shapeCast _ (normed X g) shapeCasts_S4x2048x2048_S8192x2048) bitsLt_bf16_f32
theorem outXn_apply (p : Fin 8192) (d : Fin 2048) : outXn X g (ix2 p d) = unit X g ⟨p / 2048, by omega⟩ ⟨p % 2048, by omega⟩ d := by
  pointwise [outXn]
  exact normed_apply X g _ _ _

/-- The keys. -/
def outK : FVec Ideal S8192x2x128 .f32 := shapeCast _ (keys X g Y) shapeCasts_S4x2048x2x128_S8192x2x128
theorem outK_apply (p : Fin 8192) (h : Fin 2) (l : Fin 128) : outK X g Y (ix3 p h l) = key X g Y ⟨p / 2048, by omega⟩ ⟨p % 2048, by omega⟩ h l := by
  pointwise [outK]
  exact keys_apply X g Y _ _ _ _

/-- The values. -/
def outV : FVec Ideal S8192x2x128 .f32 := shapeCast _ (extractStridedSlice S4x2048x256 ![0, 0, 4352] (prod X g Y) slices_S4x2048x10832_S4x2048x256_0_0_4352) shapeCasts_S4x2048x256_S8192x2x128
theorem outV_apply (p : Fin 8192) (h : Fin 2) (l : Fin 128) : outV X g Y (ix3 p h l) = col X g Y ⟨p / 2048, by omega⟩ ⟨p % 2048, by omega⟩ ⟨4352 + (h * 128 + l), by omega⟩ := by
  pointwise [outV]
  exact prod_apply X g Y _ _ _

/-- The index keys. -/
def outI : FVec Ideal S8192x64 .f32 := shapeCast _ (shapeCast _ (ikeys X g Y) shapeCasts_S4x2048x1x64_S4x2048x64) shapeCasts_S4x2048x64_S8192x64
theorem outI_apply (p : Fin 8192) (l : Fin 64) : outI X g Y (ix2 p l) = ikey X g Y ⟨p / 2048, by omega⟩ ⟨p % 2048, by omega⟩ l := by
  pointwise [outI]
  exact ikeys_apply X g Y _ _ _ _

/-- The keys, both heads in one row. -/
def outKb : FVec Ideal S8192x256 .bf16 := truncf .bf16 (shapeCast _ (keys X g Y) shapeCasts_S4x2048x2x128_S8192x256) bitsLt_bf16_f32
theorem outKb_apply (p : Fin 8192) (q : Fin 256) : outKb X g Y (ix2 p q) = key X g Y ⟨p / 2048, by omega⟩ ⟨p % 2048, by omega⟩ ⟨q / 128, by omega⟩ ⟨q % 128, by omega⟩ := by
  pointwise [outKb]
  exact keys_apply X g Y _ _ _ _

/-- The index keys in the first half of a row. -/
def outIe : FVec Ideal S8192x128 .bf16 := truncf .bf16 (concatenate S8192x128 1 [⟨S8192x64, (shapeCast _ (shapeCast _ (ikeys X g Y) shapeCasts_S4x2048x1x64_S4x2048x64) shapeCasts_S4x2048x64_S8192x64)⟩, ⟨S8192x64, (broadcastInDim S8192x64 ![] bcast_S_S8192x64 (constant S_ .f32 0x00000000#32))⟩] concatenates_S8192x64_S8192x64_S8192x128_d1) bitsLt_bf16_f32
theorem outIe_apply (p : Fin 8192) (q : Fin 128) : outIe X g Y (ix2 p q) = (if h : (q : ℕ) < 64 then ikey X g Y ⟨p / 2048, by omega⟩ ⟨p % 2048, by omega⟩ ⟨q, h⟩ else 0) := by
  pointwise [outIe]
  split
  · exact ikeys_apply X g Y _ _ _ _
  · rfl

/-- The index keys in the second half of a row. -/
def outIo : FVec Ideal S8192x128 .bf16 := truncf .bf16 (concatenate S8192x128 1 [⟨S8192x64, (broadcastInDim S8192x64 ![] bcast_S_S8192x64 (constant S_ .f32 0x00000000#32))⟩, ⟨S8192x64, (shapeCast _ (shapeCast _ (ikeys X g Y) shapeCasts_S4x2048x1x64_S4x2048x64) shapeCasts_S4x2048x64_S8192x64)⟩] concatenates_S8192x64_S8192x64_S8192x128_d1) bitsLt_bf16_f32
theorem outIo_apply (p : Fin 8192) (q : Fin 128) : outIo X g Y (ix2 p q) = (if h : (q : ℕ) < 64 then 0 else ikey X g Y ⟨p / 2048, by omega⟩ ⟨p % 2048, by omega⟩ ⟨q - 64, by omega⟩) := by
  pointwise [outIo]
  split
  · rfl
  · exact ikeys_apply X g Y _ _ _ _

/-- The values, one column per position. -/
def outVb : FVec Ideal S256x8192 .bf16 := truncf .bf16 (transpose S256x8192 [1, 0] (shapeCast _ (extractStridedSlice S4x2048x256 ![0, 0, 4352] (prod X g Y) slices_S4x2048x10832_S4x2048x256_0_0_4352) shapeCasts_S4x2048x256_S8192x256) transposes_S8192x256_S256x8192_1_0) bitsLt_bf16_f32
theorem outVb_apply (q : Fin 256) (p : Fin 8192) : outVb X g Y (ix2 q p) = col X g Y ⟨p / 2048, by omega⟩ ⟨p % 2048, by omega⟩ ⟨4352 + q, by omega⟩ := by
  pointwise [outVb]
  exact prod_apply X g Y _ _ _

/-- The index heads' weights, one column per position. -/
def outW : FVec Ideal S16x8192 .f32 := transpose S16x8192 [1, 0] (shapeCast _ (mulf (mulf (extractStridedSlice S4x2048x16 ![0, 0, 6720] (prod X g Y) slices_S4x2048x10832_S4x2048x16_0_0_6720) (broadcastInDim S4x2048x16 ![] bcast_S_S4x2048x16 (constant S_ .f32 0x3E800000#32))) (broadcastInDim S4x2048x16 ![] bcast_S_S4x2048x16 (constant S_ .f32 0x3E000000#32))) shapeCasts_S4x2048x16_S8192x16) transposes_S8192x16_S16x8192_1_0
theorem outW_apply (n : Fin 16) (p : Fin 8192) : outW X g Y (ix2 n p) = headw X g Y ⟨p / 2048, by omega⟩ ⟨p % 2048, by omega⟩ n := by
  pointwise [outW]
  exact congrArg (fun u : EReal => u * Ideal.ofBits FTy.f32 0x3E800000#32 * Ideal.ofBits FTy.f32 0x3E000000#32) (prod_apply X g Y _ _ _)

theorem outXn_eq : outXn X g = fun i => rXn X g (i 0) (i 1) := by
  funext j
  idx_vars j
  exact outXn_apply X g j0 j1
theorem outK_eq : outK X g Y = fun i => rK X g Y (i 0) (i 1) (i 2) := by
  funext j
  idx_vars j
  exact outK_apply X g Y j0 j1 j2
theorem outV_eq : outV X g Y = fun i => rV X g Y (i 0) (i 1) (i 2) := by
  funext j
  idx_vars j
  exact outV_apply X g Y j0 j1 j2
theorem outI_eq : outI X g Y = fun i => rI X g Y (i 0) (i 1) := by
  funext j
  idx_vars j
  exact outI_apply X g Y j0 j1
theorem outKb_eq : outKb X g Y = fun i => rKb X g Y (i 0) (i 1) := by
  funext j
  idx_vars j
  exact outKb_apply X g Y j0 j1
theorem outIe_eq : outIe X g Y = fun i => rIe X g Y (i 0) (i 1) := by
  funext j
  idx_vars j
  exact outIe_apply X g Y j0 j1
theorem outIo_eq : outIo X g Y = fun i => rIo X g Y (i 0) (i 1) := by
  funext j
  idx_vars j
  exact outIo_apply X g Y j0 j1
theorem outVb_eq : outVb X g Y = fun i => rVb X g Y (i 0) (i 1) := by
  funext j
  idx_vars j
  exact outVb_apply X g Y j0 j1
theorem outW_eq : outW X g Y = fun i => rWs X g Y (i 0) (i 1) := by
  funext j
  idx_vars j
  exact outW_apply X g Y j0 j1

end Cert.Proof.Tail

end
-- ==== Proof.TailBlocks.lean ====
module

public import proofs.«01_k».proof.Proof.TailRef
public import proofs.«01_k».proof.Proof.Gen.Kernel3Ideal.Value

@[expose] public section

set_option maxRecDepth 16384

noncomputable section

namespace Cert.Proof.Tail

open Cert.Kernel3Ideal Cert.Kernel3Ideal.Gen
open Idealize.ShloMosaic Idealize.ShloMosaic.TcCoe Idealize.ShloMosaic.Tactic
open Idealize.SL Idealize.SL.Sem

variable (m : (ℓ : Loc nD τ sig) → Buf (Elt Ideal) ℓ)

/-! The arguments, and what each window's block holds of them at a point. -/

abbrev argX (c : Dev nD) : FVec Ideal S4x2048x2048 .f32 := m ((c : Thread nD τ).loc main_arg0)
abbrev argG (c : Dev nD) : FVec Ideal S1x2048 .f32 := m ((c : Thread nD τ).loc main_arg1)
abbrev argW (c : Dev nD) : FVec Ideal S1x2048x10832 .f32 := m ((c : Thread nD τ).loc main_arg2)

theorem lt_N (t : Fin cfg0.N) : t.val < 16 := t.isLt

/-- Where each moving window's block lies at point `t`. -/
theorem idx : ∀ t : Fin cfg0.N, win0_0.index t = ![t.val, 0] ∧ win0_1.index t = ![t.val, 1] ∧ win0_2.index t = ![t.val, 2] ∧ win0_3.index t = ![t.val, 3] ∧ win0_7.index t = ![t.val % 4, 0] ∧ win0_8.index t = ![t.val % 4, 0] ∧ win0_9.index t = ![t.val % 4, 0] ∧ win0_10.index t = ![t.val % 4, 0] := (by decide +kernel : ∀ t : Fin grid0.N, _)
/-- The other input windows stage the same block at every point. -/
theorem idxC : ∀ t : Fin cfg0.N, win0_4.index t = ![0, 0] ∧ win0_5.index t = ![8, 0] ∧ win0_6.index t = ![52, 0] := (by decide +kernel : ∀ t : Fin grid0.N, _)
/-- Where each result's block lies at point `t`. -/
theorem idxO : ∀ t : Fin cfg0.N, win0_11.index t = ![t.val, 0] ∧ win0_12.index t = ![t.val, 0, 0] ∧ win0_13.index t = ![t.val, 0, 0] ∧ win0_14.index t = ![t.val, 0] ∧ win0_15.index t = ![t.val, 0] ∧ win0_16.index t = ![t.val, 0] ∧ win0_17.index t = ![t.val, 0] ∧ win0_18.index t = ![0, t.val] ∧ win0_19.index t = ![0, t.val] := (by decide +kernel : ∀ t : Fin grid0.N, _)

theorem host_x (c : Dev nD) (p : Fin 8192) (d : Fin 2048) : V m c main_v47 (ix2 p d) = argX m c (ix3 ⟨p / 2048, by omega⟩ ⟨p % 2048, by omega⟩ d) := by
  unfold V; after_results; pointwise
theorem host_w (c : Dev nD) (n : Fin 10832) (d : Fin 2048) : V m c main_v49 (ix2 n d) = argW m c (ix3 0 d n) := by
  unfold V; after_results; pointwise
theorem host_g (c : Dev nD) (d : Fin 2048) : V m c main_v51 (ix2 0 d) = argG m c (ix2 0 d) := by
  unfold V; after_results; pointwise
/-- The table of cosines over 128 lanes. -/
theorem host_cos128 (c : Dev nD) (s : Fin 2048) (l : Fin 128) : V m c main_v18 (ix2 s l) = Ideal.cos (Ref.ang128 s ⟨l % 64, by omega⟩) := by
  unfold V; after_results; pointwise
  split
  · have e : (l : ℕ) % 64 = l := by omega
    simp only [Ref.ang128, e]
  · have e : (l : ℕ) % 64 = l - 64 := by omega
    simp only [Ref.ang128, e]
/-- The table of signed sines over 128 lanes. -/
theorem host_sin128 (c : Dev nD) (s : Fin 2048) (l : Fin 128) : V m c main_v23 (ix2 s l) = Ref.sgn128 s l := by
  unfold Ref.sgn128
  unfold V; after_results; pointwise
  split
  · have e : (l : ℕ) % 64 = l := by omega
    simp only [Ref.ang128, e]
  · have e : (l : ℕ) % 64 = l - 64 := by omega
    simp only [Ref.ang128, e]
/-- The table of cosines over 64 lanes, twice side by side. -/
theorem host_cos64 (c : Dev nD) (s : Fin 2048) (l : Fin 128) : V m c main_v41 (ix2 s l) = Ideal.cos (Ref.ang64 s ⟨l % 32, by omega⟩) := by
  unfold V; after_results; pointwise
  split
  · have e : (l : ℕ) % 32 = l % 64 := by omega
    simp only [Ref.ang64, e]
  · have e : (l : ℕ) % 32 = l % 64 - 32 := by omega
    simp only [Ref.ang64, e]
/-- The table of signed sines over 64 lanes, twice side by side. -/
theorem host_sin64 (c : Dev nD) (s : Fin 2048) (l : Fin 128) : V m c main_v46 (ix2 s l) = Ref.sgn64 s l := by
  unfold Ref.sgn64
  unfold V; after_results; pointwise
  split
  · have e : (l : ℕ) % 32 = l % 64 := by omega
    simp only [Ref.ang64, e]
  · have e : (l : ℕ) % 32 = l % 64 - 32 := by omega
    simp only [Ref.ang64, e]

/-- The sequence under row `p` of point `t`'s block. -/
abbrev seqAt (t : Fin cfg0.N) (p : Fin 512) : Fin 4 := ⟨(512 * t.val + p) / 2048, by have := lt_N t; omega⟩
/-- The position under row `p` of point `t`'s block. -/
abbrev posAt (t : Fin cfg0.N) (p : Fin 512) : Fin 2048 := ⟨(512 * t.val + p) % 2048, by omega⟩

theorem x0_read (c : Dev nD) (t : Fin cfg0.N) (p q : Fin 512) : iblk m c 0 t (ix2 p q) = argX m c (ix3 (seqAt t p) (posAt t p) ⟨q, by omega⟩) := by
  have e : iblk m c 0 t (ix2 p q) = V m c main_v47 (ix2 ⟨512 * t.val + p, by have := lt_N t; omega⟩ ⟨q, by omega⟩) := by blk_ext [iblk, idx t]
  exact e.trans (host_x m c _ _)
theorem x1_read (c : Dev nD) (t : Fin cfg0.N) (p q : Fin 512) : iblk m c 1 t (ix2 p q) = argX m c (ix3 (seqAt t p) (posAt t p) ⟨512 + q, by omega⟩) := by
  have e : iblk m c 1 t (ix2 p q) = V m c main_v47 (ix2 ⟨512 * t.val + p, by have := lt_N t; omega⟩ ⟨512 + q, by omega⟩) := by blk_ext [iblk, idx t]
  exact e.trans (host_x m c _ _)
theorem x2_read (c : Dev nD) (t : Fin cfg0.N) (p q : Fin 512) : iblk m c 2 t (ix2 p q) = argX m c (ix3 (seqAt t p) (posAt t p) ⟨1024 + q, by omega⟩) := by
  have e : iblk m c 2 t (ix2 p q) = V m c main_v47 (ix2 ⟨512 * t.val + p, by have := lt_N t; omega⟩ ⟨1024 + q, by omega⟩) := by blk_ext [iblk, idx t]
  exact e.trans (host_x m c _ _)
theorem x3_read (c : Dev nD) (t : Fin cfg0.N) (p q : Fin 512) : iblk m c 3 t (ix2 p q) = argX m c (ix3 (seqAt t p) (posAt t p) ⟨1536 + q, by omega⟩) := by
  have e : iblk m c 3 t (ix2 p q) = V m c main_v47 (ix2 ⟨512 * t.val + p, by have := lt_N t; omega⟩ ⟨1536 + q, by omega⟩) := by blk_ext [iblk, idx t]
  exact e.trans (host_x m c _ _)
theorem g_read (c : Dev nD) (t : Fin cfg0.N) (d : Fin 2048) : iblk m c 4 t (ix2 0 d) = argG m c (ix2 0 d) := by
  have e : iblk m c 4 t (ix2 0 d) = V m c main_v51 (ix2 0 d) := by blk_ext [iblk, idxC t]
  exact e.trans (host_g m c d)
theorem w_read (c : Dev nD) (t : Fin cfg0.N) (n : Fin 512) (d : Fin 2048) : X0_5 m c t (ix2 n d) = argW m c (ix3 0 d ⟨4096 + n, by omega⟩) := by
  have e : X0_5 m c t (ix2 n d) = V m c main_v49 (ix2 ⟨4096 + n, by omega⟩ d) := by
    unfold X0_5 Pipeline.Window.fill
    rw [dif_pos (moved0_5 t _)]
    blk_ext [iblk, idxC t]
  exact e.trans (host_w m c _ d)
theorem wi_read (c : Dev nD) (t : Fin cfg0.N) (n : Fin 128) (d : Fin 2048) : X0_6 m c t (ix2 n d) = argW m c (ix3 0 d ⟨6656 + n, by omega⟩) := by
  have e : X0_6 m c t (ix2 n d) = V m c main_v49 (ix2 ⟨6656 + n, by omega⟩ d) := by
    unfold X0_6 Pipeline.Window.fill
    rw [dif_pos (moved0_6 t _)]
    blk_ext [iblk, idxC t]
  exact e.trans (host_w m c _ d)
theorem tab_row (t : Fin cfg0.N) (p : Fin 512) (h : 512 * (t.val % 4) + p < 2048) : (⟨512 * (t.val % 4) + p, h⟩ : Fin 2048) = posAt t p := Fin.ext (by dsimp only; omega)
theorem c128_read (c : Dev nD) (t : Fin cfg0.N) (p : Fin 512) (l : Fin 128) : iblk m c 7 t (ix2 p l) = Ideal.cos (Ref.ang128 (posAt t p) ⟨l % 64, by omega⟩) := by
  have e : iblk m c 7 t (ix2 p l) = V m c main_v18 (ix2 ⟨512 * (t.val % 4) + p, by omega⟩ l) := by blk_ext [iblk, idx t]
  rw [tab_row] at e
  exact e.trans (host_cos128 m c _ l)
theorem s128_read (c : Dev nD) (t : Fin cfg0.N) (p : Fin 512) (l : Fin 128) : iblk m c 8 t (ix2 p l) = Ref.sgn128 (posAt t p) l := by
  have e : iblk m c 8 t (ix2 p l) = V m c main_v23 (ix2 ⟨512 * (t.val % 4) + p, by omega⟩ l) := by blk_ext [iblk, idx t]
  rw [tab_row] at e
  exact e.trans (host_sin128 m c _ l)
theorem c64_read (c : Dev nD) (t : Fin cfg0.N) (p : Fin 512) (l : Fin 128) : iblk m c 9 t (ix2 p l) = Ideal.cos (Ref.ang64 (posAt t p) ⟨l % 32, by omega⟩) := by
  have e : iblk m c 9 t (ix2 p l) = V m c main_v41 (ix2 ⟨512 * (t.val % 4) + p, by omega⟩ l) := by blk_ext [iblk, idx t]
  rw [tab_row] at e
  exact e.trans (host_cos64 m c _ l)
theorem s64_read (c : Dev nD) (t : Fin cfg0.N) (p : Fin 512) (l : Fin 128) : iblk m c 10 t (ix2 p l) = Ref.sgn64 (posAt t p) l := by
  have e : iblk m c 10 t (ix2 p l) = V m c main_v46 (ix2 ⟨512 * (t.val % 4) + p, by omega⟩ l) := by blk_ext [iblk, idx t]
  rw [tab_row] at e
  exact e.trans (host_sin64 m c _ l)

end Cert.Proof.Tail

end
-- ==== Proof.TailPay.lean ====
module

public import proofs.«01_k».proof.Proof.TailBlocks

@[expose] public section

set_option maxRecDepth 16384

noncomputable section

namespace Cert.Proof.Tail

open Cert.Kernel3Ideal Cert.Kernel3Ideal.Gen
open Idealize.ShloMosaic Idealize.ShloMosaic.TcCoe Idealize.ShloMosaic.Tactic
open Idealize.SL Idealize.SL.Sem

/-! The arithmetic on which kernel and reference differ: the order of a row's sum, and constants combined. -/

theorem c2048 : Ideal.ofBits FTy.f32 0x45000000#32 = ((2048 : ℝ) : EReal) := by
  simp [Ideal.ofBits, Ideal.ieee]
  norm_num [← EReal.coe_mul]
theorem c2048_inv : Ideal.ofBits FTy.f32 0x3A000000#32 = ((1 / 2048 : ℝ) : EReal) := by
  simp [Ideal.ofBits, Ideal.ieee]
  norm_num [← EReal.coe_mul]
theorem quarter : Ideal.ofBits FTy.f32 0x3E800000#32 = ((1 / 4 : ℝ) : EReal) := by
  simp [Ideal.ofBits, Ideal.ieee]
  norm_num [← EReal.coe_mul]
theorem eighth : Ideal.ofBits FTy.f32 0x3E000000#32 = ((1 / 8 : ℝ) : EReal) := by
  simp [Ideal.ofBits, Ideal.ieee]
  norm_num [← EReal.coe_mul]
theorem c32_inv : Ideal.ofBits FTy.f32 0x3D000000#32 = ((1 / 32 : ℝ) : EReal) := by
  simp [Ideal.ofBits, Ideal.ieee]
  norm_num [← EReal.coe_mul]

/-- The mean over 2048 entries, by a product with the reciprocal. -/
theorem mean_eq (s : EReal) : s * Ideal.ofBits FTy.f32 0x3A000000#32 = Ideal.div s (Ideal.ofBits FTy.f32 0x45000000#32) := by
  rw [c2048, c2048_inv, Ideal.div_coe (by norm_num)]

/-- The index heads' two factors as one. -/
theorem factors_eq (u : EReal) : u * Ideal.ofBits FTy.f32 0x3D000000#32 = u * Ideal.ofBits FTy.f32 0x3E800000#32 * Ideal.ofBits FTy.f32 0x3E000000#32 := by
  rw [mul_assoc, quarter, eighth, c32_inv, ← EReal.coe_mul]
  norm_num

/-- A sum over 2048 columns, 512 at a time. -/
theorem sum_quarters (f : Fin 2048 → EReal) :
    (∑ k : Fin 512, f ⟨k, by omega⟩) + (∑ k : Fin 512, f ⟨512 + k, by omega⟩) + (∑ k : Fin 512, f ⟨1024 + k, by omega⟩) + (∑ k : Fin 512, f ⟨1536 + k, by omega⟩) = ∑ k : Fin 2048, f k := by
  have e1 := Fin.sum_univ_add (a := 1536) (b := 512) f
  have e2 := Fin.sum_univ_add (a := 1024) (b := 512) fun k => f (Fin.castAdd 512 k)
  have e3 := Fin.sum_univ_add (a := 512) (b := 512) fun k => f (Fin.castAdd 512 (Fin.castAdd 512 k))
  exact ((e1.trans (congrArg (fun u => u + _) (e2.trans (congrArg (fun u => u + _) e3))))).symm

/-! The body's values, entry by entry. -/

/-- A row's scale, from the row `r` staged in four blocks. -/
theorem scale_apply (U0 U1 U2 U3 : FVec Ideal S512x512 .f32) (r : Fin 2048 → EReal) (p : Fin 512)
    (h0 : ∀ k : Fin 512, U0 (ix2 p k) = r ⟨k, by omega⟩) (h1 : ∀ k : Fin 512, U1 (ix2 p k) = r ⟨512 + k, by omega⟩)
    (h2 : ∀ k : Fin 512, U2 (ix2 p k) = r ⟨1024 + k, by omega⟩) (h3 : ∀ k : Fin 512, U3 (ix2 p k) = r ⟨1536 + k, by omega⟩) :
    k0_pay7 (F := Ideal) U0 U1 U2 U3 (ix2 p 0) = (Ideal.rsqrt (Ideal.div (∑ k : Fin 2048, r k * r k) (Ideal.ofBits FTy.f32 0x45000000#32) + Ideal.ofBits FTy.f32 0x358637BD#32) : EReal) := by
  pointwise [k0_pay3, k0_pay4, k0_pay5, k0_pay6, k0_pay7]
  simp only [h0, h1, h2, h3]
  refine congrArg (fun u : EReal => Ideal.rsqrt (u + Ideal.ofBits FTy.f32 0x358637BD#32)) ?_
  refine (mean_eq _).trans ?_
  exact congrArg (fun u : EReal => Ideal.div u (Ideal.ofBits FTy.f32 0x45000000#32)) (sum_quarters fun k => r k * r k)

theorem acc_apply (A : FVec Ideal S512x2048 .bf16) (B : FVec Ideal S512x2048 .f32) (p q : Fin 512) : k0_pay14 (F := Ideal) A B (ix2 p q) = (∑ d : Fin 2048, A (ix2 p d) * B (ix2 q d) : EReal) := by
  pointwise [k0_pay13, k0_pay14]
theorem acci_apply (A : FVec Ideal S512x2048 .bf16) (B : FVec Ideal S128x2048 .f32) (p : Fin 512) (q : Fin 128) : k0_pay27 (F := Ideal) (k0_pay13 (F := Ideal) A) B (ix2 p q) = (∑ d : Fin 2048, A (ix2 p d) * B (ix2 q d) : EReal) := by
  pointwise [k0_pay13, k0_pay27]

/-- The first head's rotation. -/
theorem rot0_apply (A : FVec Ideal S512x2048 .bf16) (B : FVec Ideal S512x2048 .f32) (co si : FVec Ideal S512x128 .f32) (p : Fin 512) (l : Fin 128) :
    k0_pay19 (F := Ideal) (k0_pay16 (F := Ideal) si) (k0_pay17 (F := Ideal) A B) (k0_pay18 (F := Ideal) A B co) 64#32 (ix2 p l)
      = (k0_pay14 (F := Ideal) A B (ix2 p ⟨l, by omega⟩) * co (ix2 p l) + k0_pay14 (F := Ideal) A B (ix2 p ⟨(l + 64) % 128, by omega⟩) * si (ix2 p l) : EReal) := by
  have e : ∀ h, (⟨((l : ℕ) + 128 - 64) % 128, h⟩ : Fin 512) = ⟨(l + 64) % 128, by omega⟩ := fun h => Fin.ext (by dsimp only; omega)
  pointwise [k0_pay15, k0_pay16, k0_pay17, k0_pay18, k0_pay19]
  rw [e]
/-- The second head's rotation. -/
theorem rot1_apply (a : FVec Ideal S512x512 .f32) (co si : FVec Ideal S512x128 .f32) (p : Fin 512) (l : Fin 128) :
    k0_pay23 (F := Ideal) a (k0_pay15 (F := Ideal) co) (k0_pay16 (F := Ideal) si) (ix2 p l) = (a (ix2 p ⟨128 + l, by omega⟩) * co (ix2 p l) + a (ix2 p ⟨128 + (l + 64) % 128, by omega⟩) * si (ix2 p l) : EReal) := by
  have e : ∀ h, (⟨128 + ((l : ℕ) + 128 - 64) % 128, h⟩ : Fin 512) = ⟨128 + (l + 64) % 128, by omega⟩ := fun h => Fin.ext (by dsimp only; omega)
  pointwise [k0_pay15, k0_pay16, k0_pay23]
  rw [e]
/-- The index keys' rotation, on the lanes that hold them. -/
theorem roti_apply (a co si : FVec Ideal S512x128 .f32) (p : Fin 512) (l : Fin 64) :
    k0_pay29 (F := Ideal) a (k0_pay28 (F := Ideal) co) si (ix2 p ⟨l, by omega⟩) = (a (ix2 p ⟨l, by omega⟩) * co (ix2 p ⟨l, by omega⟩) + a (ix2 p ⟨(l + 32) % 64, by omega⟩) * si (ix2 p ⟨l, by omega⟩) : EReal) := by
  pointwise [k0_pay28, k0_pay29]
  refine (congrArg₂ (fun u v : EReal => u + v * _) rfl (Main.select_lane ⟨l, by omega⟩ _ _)).trans ?_
  split
  · rename_i hl
    have hl : (l : ℕ) % 64 < 32 := hl
    exact congrArg (fun q => (a (ix2 p ⟨l, by omega⟩) * co (ix2 p ⟨l, by omega⟩) + a (ix2 p q) * si (ix2 p ⟨l, by omega⟩) : EReal)) (Fin.ext (by dsimp only; omega))
  · rename_i hl
    have hl : ¬ (l : ℕ) % 64 < 32 := hl
    exact congrArg (fun q => (a (ix2 p ⟨l, by omega⟩) * co (ix2 p ⟨l, by omega⟩) + a (ix2 p q) * si (ix2 p ⟨l, by omega⟩) : EReal)) (Fin.ext (by dsimp only; omega))

theorem low_lane : ∀ l : Fin 128, IntOp.cmpi CmpIPredicate.slt (BitVec.ofNat 32 l.val) 64#32 = if l.val < 64 then 1#1 else 0#1 := by decide +kernel
theorem select_low (l : Fin 128) (u v : EReal) : Scalar.select (IntOp.cmpi CmpIPredicate.slt (BitVec.ofNat 32 l.val) 64#32) u v = if l.val < 64 then u else v := by
  rw [low_lane]; split <;> rfl

/-- The index keys in the first half of a row. -/
theorem first_apply (a co si : FVec Ideal S512x128 .f32) (p : Fin 512) (l : Fin 128) :
    k0_pay32 (F := Ideal) a co si (ix2 p l) = (if (l : ℕ) < 64 then k0_pay29 (F := Ideal) a co si (ix2 p l) else 0 : EReal) := by
  pointwise [k0_pay32, k0_pay31]
  exact select_low l _ _
/-- The index keys in the second half of a row. -/
theorem second_apply (a co si : FVec Ideal S512x128 .f32) (p : Fin 512) (l : Fin 128) :
    k0_pay33 (F := Ideal) a co si (ix2 p l) = (if (l : ℕ) < 64 then 0 else k0_pay29 (F := Ideal) a co si (ix2 p ⟨l - 64, by omega⟩) : EReal) := by
  pointwise [k0_pay33, k0_pay31]
  refine (select_low ⟨(l + 128 - 64) % 128, by omega⟩ _ _).trans ?_
  by_cases hl : (l : ℕ) < 64
  · rw [if_pos hl, if_neg (by dsimp only; omega)]
  · rw [if_neg hl, if_pos (by dsimp only; omega)]
    exact congrArg (fun q => (k0_pay29 (F := Ideal) a co si (ix2 p q) : EReal)) (Fin.ext (by dsimp only; omega))

end Cert.Proof.Tail

end
-- ==== Proof.Tail.lean ====
module

public import proofs.«01_k».proof.Defs
public import proofs.«01_k».proof.Proof.TailPay
public import proofs.«01_k».proof.Proof.Gen.Kernel3.Frame

@[expose] public section

set_option maxRecDepth 16384

noncomputable section

namespace Cert.Proof.Tail

open Cert.Kernel3Ideal Cert.Kernel3Ideal.Gen
open Idealize.ShloMosaic Idealize.ShloMosaic.TcCoe Idealize.ShloMosaic.Tactic
open Idealize.SL Idealize.SL.Sem

variable (m : (ℓ : Loc nD τ sig) → Buf (Elt Ideal) ℓ)

/-! What a point's body makes of its blocks. -/

/-- The normalised input at row `p` of point `t`'s block. -/
abbrev unitAt (c : Dev nD) (t : Fin cfg0.N) (p : Fin 512) (d : Fin 2048) : EReal := unit (argX m c) (argG m c) (seqAt t p) (posAt t p) d
/-- Its projection. -/
abbrev colAt (c : Dev nD) (t : Fin cfg0.N) (p : Fin 512) (n : Fin 10832) : EReal := col (argX m c) (argG m c) (argW m c) (seqAt t p) (posAt t p) n

theorem scale_read (c : Dev nD) (t : Fin cfg0.N) (p : Fin 512) :
    k0_pay7 (F := Ideal) (iblk m c 0 t) (iblk m c 1 t) (iblk m c 2 t) (iblk m c 3 t) (ix2 p 0) = (Ideal.rsqrt (Ideal.div (∑ k : Fin 2048, argX m c (ix3 (seqAt t p) (posAt t p) k) * argX m c (ix3 (seqAt t p) (posAt t p) k)) (Ideal.ofBits FTy.f32 0x45000000#32) + Ideal.ofBits FTy.f32 0x358637BD#32) : EReal) :=
  scale_apply _ _ _ _ (fun k => argX m c (ix3 (seqAt t p) (posAt t p) k)) p (x0_read m c t p) (x1_read m c t p) (x2_read m c t p) (x3_read m c t p)

section Product

variable (c : Dev nD) (t : Fin cfg0.N) (Y : FVec Ideal S512x2048 .bf16) (hy : ∀ p d, Y (ix2 p d) = unitAt m c t p d)
include hy

theorem acc_read (p q : Fin 512) (n : Fin 10832) (hn : n.val = 4096 + q.val) : k0_pay14 (F := Ideal) Y (X0_5 m c t) (ix2 p q) = colAt m c t p n := by
  have e : n = ⟨4096 + q, by omega⟩ := Fin.ext hn
  rw [e]
  exact (acc_apply Y _ p q).trans (Finset.sum_congr rfl fun d _ => congrArg₂ (fun u v : EReal => u * v) (hy p d) (w_read m c t q d))
theorem acci_read (p : Fin 512) (q : Fin 128) (n : Fin 10832) (hn : n.val = 6656 + q.val) : k0_pay27 (F := Ideal) (k0_pay13 (F := Ideal) Y) (X0_6 m c t) (ix2 p q) = colAt m c t p n := by
  have e : n = ⟨6656 + q, by omega⟩ := Fin.ext hn
  rw [e]
  exact (acci_apply Y _ p q).trans (Finset.sum_congr rfl fun d _ => congrArg₂ (fun u v : EReal => u * v) (hy p d) (wi_read m c t q d))

theorem key0_read (p : Fin 512) (l : Fin 128) :
    k0_pay19 (F := Ideal) (k0_pay16 (F := Ideal) (iblk m c 8 t)) (k0_pay17 (F := Ideal) Y (X0_5 m c t)) (k0_pay18 (F := Ideal) Y (X0_5 m c t) (iblk m c 7 t)) 64#32 (ix2 p l)
      = key (argX m c) (argG m c) (argW m c) (seqAt t p) (posAt t p) 0 l :=
  (rot0_apply Y _ _ _ p l).trans (congrArg₂ (fun u v : EReal => u + v)
    (congrArg₂ (fun u v : EReal => u * v) (acc_read m c t Y hy p _ _ (by dsimp only; omega)) (c128_read m c t p l))
    (congrArg₂ (fun u v : EReal => u * v) (acc_read m c t Y hy p _ _ (by dsimp only; omega)) (s128_read m c t p l)))
theorem key1_read (p : Fin 512) (l : Fin 128) :
    k0_pay23 (F := Ideal) (k0_pay14 (F := Ideal) Y (X0_5 m c t)) (k0_pay15 (F := Ideal) (iblk m c 7 t)) (k0_pay16 (F := Ideal) (iblk m c 8 t)) (ix2 p l)
      = key (argX m c) (argG m c) (argW m c) (seqAt t p) (posAt t p) 1 l :=
  (rot1_apply _ _ _ p l).trans (congrArg₂ (fun u v : EReal => u + v)
    (congrArg₂ (fun u v : EReal => u * v) (acc_read m c t Y hy p _ _ (by dsimp only; omega)) (c128_read m c t p l))
    (congrArg₂ (fun u v : EReal => u * v) (acc_read m c t Y hy p _ _ (by dsimp only; omega)) (s128_read m c t p l)))
theorem ikey_read (p : Fin 512) (l : Fin 64) :
    k0_pay29 (F := Ideal) (k0_pay27 (F := Ideal) (k0_pay13 (F := Ideal) Y) (X0_6 m c t)) (k0_pay28 (F := Ideal) (iblk m c 9 t)) (iblk m c 10 t) (ix2 p ⟨l, by omega⟩)
      = ikey (argX m c) (argG m c) (argW m c) (seqAt t p) (posAt t p) l :=
  (roti_apply _ _ _ p l).trans (congrArg₂ (fun u v : EReal => u + v)
    (congrArg₂ (fun u v : EReal => u * v) (acci_read m c t Y hy p _ _ rfl) (c64_read m c t p _))
    (congrArg₂ (fun u v : EReal => u * v) (acci_read m c t Y hy p _ _ rfl) (s64_read m c t p _)))

end Product

/-! What a point writes back, result by result. -/

set_option maxHeartbeats 2000000 in
theorem after_xn (c : Dev nD) (t : Fin cfg0.N) (p : Fin 512) (d : Fin 2048) : (dats m 0 c).after 11 t (ix2 p d) = unitAt m c t p d := by
  rw [after0_11]
  unfold outsAt0
  frame_out
  unfold unitAt unit
  canon_tiles x h
  case piece0 =>
    idx_vars x
    pointwise [k0_pay6, k0_pay12] at h0 h1 ⊢
    obtain rfl : p = x0 := Fin.ext h0
    rw [show d = ⟨1536 + x1.val, by omega⟩ from Fin.ext h1]
    exact congrArg₂ (fun u v : EReal => u * v) (congrArg₂ (fun u v : EReal => u * v) (x3_read m c t p x1) (scale_read m c t p)) (g_read m c t _)
  case piece1 =>
    idx_vars x
    pointwise [k0_pay5, k0_pay11] at h0 h1 ⊢
    obtain rfl : p = x0 := Fin.ext h0
    rw [show d = ⟨1024 + x1.val, by omega⟩ from Fin.ext h1]
    exact congrArg₂ (fun u v : EReal => u * v) (congrArg₂ (fun u v : EReal => u * v) (x2_read m c t p x1) (scale_read m c t p)) (g_read m c t _)
  case piece2 =>
    idx_vars x
    pointwise [k0_pay4, k0_pay9, k0_pay10] at h0 h1 ⊢
    obtain rfl : p = x0 := Fin.ext h0
    rw [show d = ⟨512 + x1.val, by omega⟩ from Fin.ext h1]
    exact congrArg₂ (fun u v : EReal => u * v) (congrArg₂ (fun u v : EReal => u * v) (x1_read m c t p x1) (scale_read m c t p)) (g_read m c t _)
  case piece3 =>
    idx_vars x
    pointwise [k0_pay3, k0_pay8] at h0 h1 ⊢
    obtain rfl : p = x0 := Fin.ext h0
    rw [show d = ⟨x1.val, by omega⟩ from Fin.ext h1]
    exact congrArg₂ (fun u v : EReal => u * v) (congrArg₂ (fun u v : EReal => u * v) (x0_read m c t p x1) (scale_read m c t p)) (g_read m c t _)
set_option maxHeartbeats 2000000 in
theorem after_k (c : Dev nD) (t : Fin cfg0.N) (p : Fin 512) (n : Fin 2) (l : Fin 128) : (dats m 0 c).after 12 t (ix3 p n l) = key (argX m c) (argG m c) (argW m c) (seqAt t p) (posAt t p) n l := by
  rw [after0_12]
  unfold outsAt0
  frame_out
  generalize hY : (ms0_11 t).view.readCov (Val := Elt Ideal) _ (Rect.unit (s := S512x2048) ![0, 0] ![512, 2048] inb_S512x2048_S512x2048_0_0).toLoadRect = Y
  have hy : ∀ p d, Y (ix2 p d) = unitAt m c t p d := by
    intro p d
    rw [← hY, View.readCov_eq_canon']
    refine Eq.trans ?_ (after_xn m c t p d)
    rw [after0_11]
    unfold outsAt0
    frame_out
    pointwise
  clear hY
  canon_tiles x h
  case piece0 =>
    idx_vars x
    pointwise [k0_pay24] at h0 h1 h2 ⊢
    obtain rfl : p = x0 := Fin.ext h0
    obtain rfl : n = 1 := Fin.ext (by omega)
    obtain rfl : l = x2 := Fin.ext h2
    exact key1_read m c t Y hy p l
  case piece1 =>
    idx_vars x
    pointwise [k0_pay20] at h0 h1 h2 ⊢
    obtain rfl : p = x0 := Fin.ext h0
    obtain rfl : n = 0 := Fin.ext (by omega)
    obtain rfl : l = x2 := Fin.ext h2
    exact key0_read m c t Y hy p l
set_option maxHeartbeats 2000000 in
theorem after_v (c : Dev nD) (t : Fin cfg0.N) (p : Fin 512) (n : Fin 2) (l : Fin 128) : (dats m 0 c).after 13 t (ix3 p n l) = colAt m c t p ⟨4352 + (n * 128 + l), by omega⟩ := by
  rw [after0_13]
  unfold outsAt0
  frame_out
  generalize hY : (ms0_11 t).view.readCov (Val := Elt Ideal) _ (Rect.unit (s := S512x2048) ![0, 0] ![512, 2048] inb_S512x2048_S512x2048_0_0).toLoadRect = Y
  have hy : ∀ p d, Y (ix2 p d) = unitAt m c t p d := by
    intro p d
    rw [← hY, View.readCov_eq_canon']
    refine Eq.trans ?_ (after_xn m c t p d)
    rw [after0_11]
    unfold outsAt0
    frame_out
    pointwise
  clear hY
  canon_tiles x h
  case piece0 =>
    idx_vars x
    pointwise [k0_pay26] at h0 h1 h2 ⊢
    obtain rfl : p = x0 := Fin.ext h0
    obtain rfl : n = 1 := Fin.ext (by omega)
    obtain rfl : l = x2 := Fin.ext h2
    exact acc_read m c t Y hy p _ _ (by dsimp <;> omega)
  case piece1 =>
    idx_vars x
    pointwise [k0_pay22] at h0 h1 h2 ⊢
    obtain rfl : p = x0 := Fin.ext h0
    obtain rfl : n = 0 := Fin.ext (by omega)
    obtain rfl : l = x2 := Fin.ext h2
    exact acc_read m c t Y hy p _ _ (by dsimp <;> omega)
set_option maxHeartbeats 2000000 in
theorem after_ki (c : Dev nD) (t : Fin cfg0.N) (p : Fin 512) (l : Fin 64) : (dats m 0 c).after 14 t (ix2 p l) = ikey (argX m c) (argG m c) (argW m c) (seqAt t p) (posAt t p) l := by
  rw [after0_14]
  unfold outsAt0
  frame_out
  generalize hY : (ms0_11 t).view.readCov (Val := Elt Ideal) _ (Rect.unit (s := S512x2048) ![0, 0] ![512, 2048] inb_S512x2048_S512x2048_0_0).toLoadRect = Y
  have hy : ∀ p d, Y (ix2 p d) = unitAt m c t p d := by
    intro p d
    rw [← hY, View.readCov_eq_canon']
    refine Eq.trans ?_ (after_xn m c t p d)
    rw [after0_11]
    unfold outsAt0
    frame_out
    pointwise
  clear hY
  pointwise [k0_pay30]
  exact ikey_read m c t Y hy p l
set_option maxHeartbeats 2000000 in
theorem after_kb (c : Dev nD) (t : Fin cfg0.N) (p : Fin 512) (q : Fin 256) : (dats m 0 c).after 15 t (ix2 p q) = key (argX m c) (argG m c) (argW m c) (seqAt t p) (posAt t p) ⟨q / 128, by omega⟩ ⟨q % 128, by omega⟩ := by
  rw [after0_15]
  unfold outsAt0
  frame_out
  generalize hY : (ms0_11 t).view.readCov (Val := Elt Ideal) _ (Rect.unit (s := S512x2048) ![0, 0] ![512, 2048] inb_S512x2048_S512x2048_0_0).toLoadRect = Y
  have hy : ∀ p d, Y (ix2 p d) = unitAt m c t p d := by
    intro p d
    rw [← hY, View.readCov_eq_canon']
    refine Eq.trans ?_ (after_xn m c t p d)
    rw [after0_11]
    unfold outsAt0
    frame_out
    pointwise
  clear hY
  canon_tiles x h
  case piece0 =>
    idx_vars x
    pointwise [k0_pay25] at h0 h1 ⊢
    obtain rfl : p = x0 := Fin.ext h0
    exact (key1_read m c t Y hy p x1).trans (congrArg₂ (key (argX m c) (argG m c) (argW m c) (seqAt t p) (posAt t p)) (Fin.ext (by dsimp <;> omega)) (Fin.ext (by dsimp <;> omega)))
  case piece1 =>
    idx_vars x
    pointwise [k0_pay21] at h0 h1 ⊢
    obtain rfl : p = x0 := Fin.ext h0
    exact (key0_read m c t Y hy p x1).trans (congrArg₂ (key (argX m c) (argG m c) (argW m c) (seqAt t p) (posAt t p)) (Fin.ext (by dsimp <;> omega)) (Fin.ext (by dsimp <;> omega)))
set_option maxHeartbeats 2000000 in
theorem after_ke (c : Dev nD) (t : Fin cfg0.N) (p : Fin 512) (q : Fin 128) : (dats m 0 c).after 16 t (ix2 p q) = (if h : (q : ℕ) < 64 then ikey (argX m c) (argG m c) (argW m c) (seqAt t p) (posAt t p) ⟨q, h⟩ else 0 : EReal) := by
  rw [after0_16]
  unfold outsAt0
  frame_out
  generalize hY : (ms0_11 t).view.readCov (Val := Elt Ideal) _ (Rect.unit (s := S512x2048) ![0, 0] ![512, 2048] inb_S512x2048_S512x2048_0_0).toLoadRect = Y
  have hy : ∀ p d, Y (ix2 p d) = unitAt m c t p d := by
    intro p d
    rw [← hY, View.readCov_eq_canon']
    refine Eq.trans ?_ (after_xn m c t p d)
    rw [after0_11]
    unfold outsAt0
    frame_out
    pointwise
  clear hY
  refine (first_apply _ _ _ p q).trans ?_
  split
  · rename_i hq
    exact ikey_read m c t Y hy p ⟨q, hq⟩
  · rfl
set_option maxHeartbeats 2000000 in
theorem after_ko (c : Dev nD) (t : Fin cfg0.N) (p : Fin 512) (q : Fin 128) : (dats m 0 c).after 17 t (ix2 p q) = (if h : (q : ℕ) < 64 then 0 else ikey (argX m c) (argG m c) (argW m c) (seqAt t p) (posAt t p) ⟨q - 64, by omega⟩ : EReal) := by
  rw [after0_17]
  unfold outsAt0
  frame_out
  generalize hY : (ms0_11 t).view.readCov (Val := Elt Ideal) _ (Rect.unit (s := S512x2048) ![0, 0] ![512, 2048] inb_S512x2048_S512x2048_0_0).toLoadRect = Y
  have hy : ∀ p d, Y (ix2 p d) = unitAt m c t p d := by
    intro p d
    rw [← hY, View.readCov_eq_canon']
    refine Eq.trans ?_ (after_xn m c t p d)
    rw [after0_11]
    unfold outsAt0
    frame_out
    pointwise
  clear hY
  refine (second_apply _ _ _ p q).trans ?_
  split
  · rfl
  · rename_i hq
    exact ikey_read m c t Y hy p ⟨q - 64, by omega⟩
set_option maxHeartbeats 2000000 in
theorem after_vb (c : Dev nD) (t : Fin cfg0.N) (q : Fin 256) (p : Fin 512) : (dats m 0 c).after 18 t (ix2 q p) = colAt m c t p ⟨4352 + q, by omega⟩ := by
  rw [after0_18]
  unfold outsAt0
  frame_out
  generalize hY : (ms0_11 t).view.readCov (Val := Elt Ideal) _ (Rect.unit (s := S512x2048) ![0, 0] ![512, 2048] inb_S512x2048_S512x2048_0_0).toLoadRect = Y
  have hy : ∀ p d, Y (ix2 p d) = unitAt m c t p d := by
    intro p d
    rw [← hY, View.readCov_eq_canon']
    refine Eq.trans ?_ (after_xn m c t p d)
    rw [after0_11]
    unfold outsAt0
    frame_out
    pointwise
  clear hY
  pointwise [k0_pay1]
  exact acc_read m c t Y hy p _ _ (by dsimp <;> omega)
set_option maxHeartbeats 2000000 in
theorem after_ws (c : Dev nD) (t : Fin cfg0.N) (n : Fin 16) (p : Fin 512) : (dats m 0 c).after 19 t (ix2 n p) = headw (argX m c) (argG m c) (argW m c) (seqAt t p) (posAt t p) n := by
  rw [after0_19]
  unfold outsAt0
  frame_out
  generalize hY : (ms0_11 t).view.readCov (Val := Elt Ideal) _ (Rect.unit (s := S512x2048) ![0, 0] ![512, 2048] inb_S512x2048_S512x2048_0_0).toLoadRect = Y
  have hy : ∀ p d, Y (ix2 p d) = unitAt m c t p d := by
    intro p d
    rw [← hY, View.readCov_eq_canon']
    refine Eq.trans ?_ (after_xn m c t p d)
    rw [after0_11]
    unfold outsAt0
    frame_out
    pointwise
  clear hY
  pointwise [k0_pay2]
  exact (congrArg (fun u : EReal => u * Ideal.ofBits FTy.f32 0x3D000000#32) (acci_read m c t Y hy p _ _ (by dsimp <;> omega))).trans (factors_eq _)

/-! The result arrays. -/

theorem array_xn (c : Dev nD) : (dats m 0 c).arrAt 11 cfg0.N = fun i => rXn (argX m c) (argG m c) (i 0) (i 1) := by
  refine (dats m 0 c).arrAt_eq_of_covers 11 _ (by decide +kernel) fun t hf y => ?_
  have hN := lt_N t
  have hi := (idxO t).1
  blk_simp
  idx_vars y
  have h0 : ((((win0_11.blk t).view.emb (ix2 y0 y1)) 0 : Fin _) : ℕ) = win0_11.index t 0 * 512 + 1 * y0 := rfl
  have h1 : ((((win0_11.blk t).view.emb (ix2 y0 y1)) 1 : Fin _) : ℕ) = win0_11.index t 1 * 2048 + 1 * y1 := rfl
  rw [hi] at h0 h1
  refine (after_xn m c t y0 y1).trans ?_
  refine Eq.trans (b := rXn (argX m c) (argG m c) ⟨512 * t.val + y0, by omega⟩ y1) rfl ?_
  exact congrArg₂ (rXn (argX m c) (argG m c)) (Fin.ext (by refine Eq.trans ?_ h0.symm; dsimp <;> omega)) (Fin.ext (by refine Eq.trans ?_ h1.symm; dsimp <;> omega))
theorem array_k (c : Dev nD) : (dats m 0 c).arrAt 12 cfg0.N = fun i => rK (argX m c) (argG m c) (argW m c) (i 0) (i 1) (i 2) := by
  refine (dats m 0 c).arrAt_eq_of_covers 12 _ (by decide +kernel) fun t hf y => ?_
  have hN := lt_N t
  have hi := (idxO t).2.1
  blk_simp
  idx_vars y
  have h0 : ((((win0_12.blk t).view.emb (ix3 y0 y1 y2)) 0 : Fin _) : ℕ) = win0_12.index t 0 * 512 + 1 * y0 := rfl
  have h1 : ((((win0_12.blk t).view.emb (ix3 y0 y1 y2)) 1 : Fin _) : ℕ) = win0_12.index t 1 * 2 + 1 * y1 := rfl
  have h2 : ((((win0_12.blk t).view.emb (ix3 y0 y1 y2)) 2 : Fin _) : ℕ) = win0_12.index t 2 * 128 + 1 * y2 := rfl
  rw [hi] at h0 h1 h2
  refine (after_k m c t y0 y1 y2).trans ?_
  refine Eq.trans (b := rK (argX m c) (argG m c) (argW m c) ⟨512 * t.val + y0, by omega⟩ y1 y2) rfl ?_
  exact (congrArg₂ (fun p n => rK (argX m c) (argG m c) (argW m c) p n y2) (Fin.ext (by refine Eq.trans ?_ h0.symm; dsimp <;> omega)) (Fin.ext (by refine Eq.trans ?_ h1.symm; dsimp <;> omega))).trans (congrArg (rK (argX m c) (argG m c) (argW m c) _ _) (Fin.ext (by refine Eq.trans ?_ h2.symm; dsimp <;> omega)))
theorem array_v (c : Dev nD) : (dats m 0 c).arrAt 13 cfg0.N = fun i => rV (argX m c) (argG m c) (argW m c) (i 0) (i 1) (i 2) := by
  refine (dats m 0 c).arrAt_eq_of_covers 13 _ (by decide +kernel) fun t hf y => ?_
  have hN := lt_N t
  have hi := (idxO t).2.2.1
  blk_simp
  idx_vars y
  have h0 : ((((win0_13.blk t).view.emb (ix3 y0 y1 y2)) 0 : Fin _) : ℕ) = win0_13.index t 0 * 512 + 1 * y0 := rfl
  have h1 : ((((win0_13.blk t).view.emb (ix3 y0 y1 y2)) 1 : Fin _) : ℕ) = win0_13.index t 1 * 2 + 1 * y1 := rfl
  have h2 : ((((win0_13.blk t).view.emb (ix3 y0 y1 y2)) 2 : Fin _) : ℕ) = win0_13.index t 2 * 128 + 1 * y2 := rfl
  rw [hi] at h0 h1 h2
  refine (after_v m c t y0 y1 y2).trans ?_
  refine Eq.trans (b := rV (argX m c) (argG m c) (argW m c) ⟨512 * t.val + y0, by omega⟩ y1 y2) rfl ?_
  exact (congrArg₂ (fun p n => rV (argX m c) (argG m c) (argW m c) p n y2) (Fin.ext (by refine Eq.trans ?_ h0.symm; dsimp <;> omega)) (Fin.ext (by refine Eq.trans ?_ h1.symm; dsimp <;> omega))).trans (congrArg (rV (argX m c) (argG m c) (argW m c) _ _) (Fin.ext (by refine Eq.trans ?_ h2.symm; dsimp <;> omega)))
theorem array_ki (c : Dev nD) : (dats m 0 c).arrAt 14 cfg0.N = fun i => rI (argX m c) (argG m c) (argW m c) (i 0) (i 1) := by
  refine (dats m 0 c).arrAt_eq_of_covers 14 _ (by decide +kernel) fun t hf y => ?_
  have hN := lt_N t
  have hi := (idxO t).2.2.2.1
  blk_simp
  idx_vars y
  have h0 : ((((win0_14.blk t).view.emb (ix2 y0 y1)) 0 : Fin _) : ℕ) = win0_14.index t 0 * 512 + 1 * y0 := rfl
  have h1 : ((((win0_14.blk t).view.emb (ix2 y0 y1)) 1 : Fin _) : ℕ) = win0_14.index t 1 * 64 + 1 * y1 := rfl
  rw [hi] at h0 h1
  refine (after_ki m c t y0 y1).trans ?_
  refine Eq.trans (b := rI (argX m c) (argG m c) (argW m c) ⟨512 * t.val + y0, by omega⟩ y1) rfl ?_
  exact congrArg₂ (rI (argX m c) (argG m c) (argW m c)) (Fin.ext (by refine Eq.trans ?_ h0.symm; dsimp <;> omega)) (Fin.ext (by refine Eq.trans ?_ h1.symm; dsimp <;> omega))
theorem array_kb (c : Dev nD) : (dats m 0 c).arrAt 15 cfg0.N = fun i => rKb (argX m c) (argG m c) (argW m c) (i 0) (i 1) := by
  refine (dats m 0 c).arrAt_eq_of_covers 15 _ (by decide +kernel) fun t hf y => ?_
  have hN := lt_N t
  have hi := (idxO t).2.2.2.2.1
  blk_simp
  idx_vars y
  have h0 : ((((win0_15.blk t).view.emb (ix2 y0 y1)) 0 : Fin _) : ℕ) = win0_15.index t 0 * 512 + 1 * y0 := rfl
  have h1 : ((((win0_15.blk t).view.emb (ix2 y0 y1)) 1 : Fin _) : ℕ) = win0_15.index t 1 * 256 + 1 * y1 := rfl
  rw [hi] at h0 h1
  refine (after_kb m c t y0 y1).trans ?_
  refine Eq.trans (b := rKb (argX m c) (argG m c) (argW m c) ⟨512 * t.val + y0, by omega⟩ y1) rfl ?_
  exact congrArg₂ (rKb (argX m c) (argG m c) (argW m c)) (Fin.ext (by refine Eq.trans ?_ h0.symm; dsimp <;> omega)) (Fin.ext (by refine Eq.trans ?_ h1.symm; dsimp <;> omega))
theorem array_ke (c : Dev nD) : (dats m 0 c).arrAt 16 cfg0.N = fun i => rIe (argX m c) (argG m c) (argW m c) (i 0) (i 1) := by
  refine (dats m 0 c).arrAt_eq_of_covers 16 _ (by decide +kernel) fun t hf y => ?_
  have hN := lt_N t
  have hi := (idxO t).2.2.2.2.2.1
  blk_simp
  idx_vars y
  have h0 : ((((win0_16.blk t).view.emb (ix2 y0 y1)) 0 : Fin _) : ℕ) = win0_16.index t 0 * 512 + 1 * y0 := rfl
  have h1 : ((((win0_16.blk t).view.emb (ix2 y0 y1)) 1 : Fin _) : ℕ) = win0_16.index t 1 * 128 + 1 * y1 := rfl
  rw [hi] at h0 h1
  refine (after_ke m c t y0 y1).trans ?_
  refine Eq.trans (b := rIe (argX m c) (argG m c) (argW m c) ⟨512 * t.val + y0, by omega⟩ y1) rfl ?_
  exact congrArg₂ (rIe (argX m c) (argG m c) (argW m c)) (Fin.ext (by refine Eq.trans ?_ h0.symm; dsimp <;> omega)) (Fin.ext (by refine Eq.trans ?_ h1.symm; dsimp <;> omega))
theorem array_ko (c : Dev nD) : (dats m 0 c).arrAt 17 cfg0.N = fun i => rIo (argX m c) (argG m c) (argW m c) (i 0) (i 1) := by
  refine (dats m 0 c).arrAt_eq_of_covers 17 _ (by decide +kernel) fun t hf y => ?_
  have hN := lt_N t
  have hi := (idxO t).2.2.2.2.2.2.1
  blk_simp
  idx_vars y
  have h0 : ((((win0_17.blk t).view.emb (ix2 y0 y1)) 0 : Fin _) : ℕ) = win0_17.index t 0 * 512 + 1 * y0 := rfl
  have h1 : ((((win0_17.blk t).view.emb (ix2 y0 y1)) 1 : Fin _) : ℕ) = win0_17.index t 1 * 128 + 1 * y1 := rfl
  rw [hi] at h0 h1
  refine (after_ko m c t y0 y1).trans ?_
  refine Eq.trans (b := rIo (argX m c) (argG m c) (argW m c) ⟨512 * t.val + y0, by omega⟩ y1) rfl ?_
  exact congrArg₂ (rIo (argX m c) (argG m c) (argW m c)) (Fin.ext (by refine Eq.trans ?_ h0.symm; dsimp <;> omega)) (Fin.ext (by refine Eq.trans ?_ h1.symm; dsimp <;> omega))
theorem array_vb (c : Dev nD) : (dats m 0 c).arrAt 18 cfg0.N = fun i => rVb (argX m c) (argG m c) (argW m c) (i 0) (i 1) := by
  refine (dats m 0 c).arrAt_eq_of_covers 18 _ (by decide +kernel) fun t hf y => ?_
  have hN := lt_N t
  have hi := (idxO t).2.2.2.2.2.2.2.1
  blk_simp
  idx_vars y
  have h0 : ((((win0_18.blk t).view.emb (ix2 y0 y1)) 0 : Fin _) : ℕ) = win0_18.index t 0 * 256 + 1 * y0 := rfl
  have h1 : ((((win0_18.blk t).view.emb (ix2 y0 y1)) 1 : Fin _) : ℕ) = win0_18.index t 1 * 512 + 1 * y1 := rfl
  rw [hi] at h0 h1
  refine (after_vb m c t y0 y1).trans ?_
  refine Eq.trans (b := rVb (argX m c) (argG m c) (argW m c) y0 ⟨512 * t.val + y1, by omega⟩) rfl ?_
  exact congrArg₂ (rVb (argX m c) (argG m c) (argW m c)) (Fin.ext (by refine Eq.trans ?_ h0.symm; dsimp <;> omega)) (Fin.ext (by refine Eq.trans ?_ h1.symm; dsimp <;> omega))
theorem array_ws (c : Dev nD) : (dats m 0 c).arrAt 19 cfg0.N = fun i => rWs (argX m c) (argG m c) (argW m c) (i 0) (i 1) := by
  refine (dats m 0 c).arrAt_eq_of_covers 19 _ (by decide +kernel) fun t hf y => ?_
  have hN := lt_N t
  have hi := (idxO t).2.2.2.2.2.2.2.2
  blk_simp
  idx_vars y
  have h0 : ((((win0_19.blk t).view.emb (ix2 y0 y1)) 0 : Fin _) : ℕ) = win0_19.index t 0 * 16 + 1 * y0 := rfl
  have h1 : ((((win0_19.blk t).view.emb (ix2 y0 y1)) 1 : Fin _) : ℕ) = win0_19.index t 1 * 512 + 1 * y1 := rfl
  rw [hi] at h0 h1
  refine (after_ws m c t y0 y1).trans ?_
  refine Eq.trans (b := rWs (argX m c) (argG m c) (argW m c) y0 ⟨512 * t.val + y1, by omega⟩) rfl ?_
  exact congrArg₂ (rWs (argX m c) (argG m c) (argW m c)) (Fin.ext (by refine Eq.trans ?_ h0.symm; dsimp <;> omega)) (Fin.ext (by refine Eq.trans ?_ h1.symm; dsimp <;> omega))

end Cert.Proof.Tail

namespace Cert.Proof

open Idealize.ShloMosaic Idealize.ShloMosaic.TcCoe Idealize.SL.Sem

namespace Tail

variable (m' : (ℓ : Loc Cert.Reference3Ideal.nD Cert.Reference3Ideal.τ Cert.Reference3Ideal.sig) → Buf (Elt Ideal) ℓ)

/-- The reference's arguments: the input, the gain and the weights. -/
abbrev refX (c : Dev Cert.Reference3Ideal.nD) : Cert.Reference3Ideal.S4x2048x2048.Idx → EReal := m' ((c.tc : Thread Cert.Reference3Ideal.nD Cert.Reference3Ideal.τ).loc Cert.Reference3Ideal.main_arg0)
abbrev refG (c : Dev Cert.Reference3Ideal.nD) : Cert.Reference3Ideal.S1x2048.Idx → EReal := m' ((c.tc : Thread Cert.Reference3Ideal.nD Cert.Reference3Ideal.τ).loc Cert.Reference3Ideal.main_arg1)
abbrev refW (c : Dev Cert.Reference3Ideal.nD) : Cert.Reference3Ideal.S1x2048x10832.Idx → EReal := m' ((c.tc : Thread Cert.Reference3Ideal.nD Cert.Reference3Ideal.τ).loc Cert.Reference3Ideal.main_arg2)

end Tail

instance tailReferenceFacts : Cert.Reference3Ideal.Facts := Cert.Reference3Ideal.Gen.facts

/-- The rest of the projection: the idealised kernel and the reference end with equal results, all nine. -/
theorem equal_results3 : Cert.algebraic_Kernel3Ideal_Reference3Ideal := fun m g m' g' _ hag => by
  refine ⟨fun c => fun i => Tail.rXn (Tail.argX m c) (Tail.argG m c) (i 0) (i 1),
    fun c => fun i => Tail.rK (Tail.argX m c) (Tail.argG m c) (Tail.argW m c) (i 0) (i 1) (i 2),
    fun c => fun i => Tail.rV (Tail.argX m c) (Tail.argG m c) (Tail.argW m c) (i 0) (i 1) (i 2),
    fun c => fun i => Tail.rI (Tail.argX m c) (Tail.argG m c) (Tail.argW m c) (i 0) (i 1),
    fun c => fun i => Tail.rKb (Tail.argX m c) (Tail.argG m c) (Tail.argW m c) (i 0) (i 1),
    fun c => fun i => Tail.rIe (Tail.argX m c) (Tail.argG m c) (Tail.argW m c) (i 0) (i 1),
    fun c => fun i => Tail.rIo (Tail.argX m c) (Tail.argG m c) (Tail.argW m c) (i 0) (i 1),
    fun c => fun i => Tail.rVb (Tail.argX m c) (Tail.argG m c) (Tail.argW m c) (i 0) (i 1),
    fun c => fun i => Tail.rWs (Tail.argX m c) (Tail.argG m c) (Tail.argW m c) (i 0) (i 1), ?_, ?_⟩
  · exact (θ_run Cert.Kernel3Ideal.defs _ _).mono (fun r h c => ⟨(h c).1.trans (Tail.array_xn m c), (h c).2.1.trans (Tail.array_k m c), (h c).2.2.1.trans (Tail.array_v m c), (h c).2.2.2.1.trans (Tail.array_ki m c), (h c).2.2.2.2.1.trans (Tail.array_kb m c), (h c).2.2.2.2.2.1.trans (Tail.array_ke m c), (h c).2.2.2.2.2.2.1.trans (Tail.array_ko m c), (h c).2.2.2.2.2.2.2.1.trans (Tail.array_vb m c), (h c).2.2.2.2.2.2.2.2.1.trans (Tail.array_ws m c), (h c).2.2.2.2.2.2.2.2.2⟩) (Cert.Kernel3Ideal.Value.run_blocks m g)
  · refine (θ_run Cert.Reference3Ideal.defs _ _).mono (fun r h c => ?_) (Cert.Reference3Ideal.Value.run (F := Ideal) m' g')
    have e0 : Tail.refX m' c = Tail.argX m c := (hag c).1
    have e1 : Tail.refG m' c = Tail.argG m c := (hag c).2.1
    have e2 : Tail.refW m' c = Tail.argW m c := (hag c).2.2
    exact ⟨((h c).1.trans (Tail.outXn_eq (Tail.refX m' c) (Tail.refG m' c))).trans (by rw [e0, e1]; rfl),
      ((h c).2.1.trans (Tail.outK_eq (Tail.refX m' c) (Tail.refG m' c) (Tail.refW m' c))).trans (by rw [e0, e1, e2]; rfl),
      ((h c).2.2.1.trans (Tail.outV_eq (Tail.refX m' c) (Tail.refG m' c) (Tail.refW m' c))).trans (by rw [e0, e1, e2]; rfl),
      ((h c).2.2.2.1.trans (Tail.outI_eq (Tail.refX m' c) (Tail.refG m' c) (Tail.refW m' c))).trans (by rw [e0, e1, e2]; rfl),
      ((h c).2.2.2.2.1.trans (Tail.outKb_eq (Tail.refX m' c) (Tail.refG m' c) (Tail.refW m' c))).trans (by rw [e0, e1, e2]; rfl),
      ((h c).2.2.2.2.2.1.trans (Tail.outIe_eq (Tail.refX m' c) (Tail.refG m' c) (Tail.refW m' c))).trans (by rw [e0, e1, e2]; rfl),
      ((h c).2.2.2.2.2.2.1.trans (Tail.outIo_eq (Tail.refX m' c) (Tail.refG m' c) (Tail.refW m' c))).trans (by rw [e0, e1, e2]; rfl),
      ((h c).2.2.2.2.2.2.2.1.trans (Tail.outVb_eq (Tail.refX m' c) (Tail.refG m' c) (Tail.refW m' c))).trans (by rw [e0, e1, e2]; rfl),
      ((h c).2.2.2.2.2.2.2.2.1.trans (Tail.outW_eq (Tail.refX m' c) (Tail.refG m' c) (Tail.refW m' c))).trans (by rw [e0, e1, e2]; rfl),
      (h c).2.2.2.2.2.2.2.2.2⟩

/-- Its frames: the kernel's are the generated one at the two kinds of floats; the reference declares no semaphore. -/
theorem frame_kernel3 : Cert.quiescent_Kernel3 (hKernel3 := Cert.Kernel3.Gen.facts) := fun m ρ _ => Cert.Kernel3.Gen.frame m ρ
theorem frame_kernel3Ideal : Cert.quiescent_Kernel3Ideal := fun m ρ _ => Cert.Kernel3Ideal.Gen.frame m ρ
theorem frame_reference3 : Cert.quiescent_Reference3Ideal := fun m ρ _ =>
  (θ_run Cert.Reference3Ideal.defs _ _).mono (fun r h => ⟨fun c => (h c).2.2.2.2.2.2.2.2.2, sem_eq_zero_of_no_sems (by decide) r.2⟩)
    (Cert.Reference3Ideal.Value.run (F := Ideal) m ρ)

end Cert.Proof

end
-- ==== Proof.SampleRef.lean ====
module

public import proofs.«01_k».proof.Proof.Ref
public import proofs.«01_k».proof.Proof.Gen.Reference4Ideal.Run

@[expose] public section

set_option maxRecDepth 16384

noncomputable section

namespace Cert.Proof.Sample

open Cert.Reference4Ideal Cert.Reference4Ideal.Gen Cert.Reference4Ideal.Value
open Idealize.ShloMosaic Idealize.ShloMosaic.TcCoe Idealize.ShloMosaic.Tactic
open Idealize.SL Idealize.SL.Sem

/-- The position of the new token, as a float: it comes after 128 pages of 128 tokens. -/
def place : EReal := FloatOps.sitofp (F := Ideal) FTy.f32 16384#32
/-- The angle of lane `l` of a rotation over 128 at that position. -/
def ang128 (l : Fin 64) : EReal :=
  place * Ideal.pow (Ideal.ofBits FTy.f32 1176256512#32) (Ideal.div (-FloatOps.sitofp (F := Ideal) FTy.f32 (BitVec.ofNat 32 l)) (Ideal.ofBits FTy.f32 1115684864#32))
/-- The angle of lane `l` of a rotation over 64 at that position. -/
def ang64 (l : Fin 32) : EReal :=
  place * Ideal.pow (Ideal.ofBits FTy.f32 1176256512#32) (Ideal.div (-FloatOps.sitofp (F := Ideal) FTy.f32 (BitVec.ofNat 32 l)) (Ideal.ofBits FTy.f32 1107296256#32))
/-- The sine of a rotation over 128 lanes, with the sign it enters with. -/
def sgn128 (l : ℕ) : EReal := if l < 64 then -Ideal.sin (ang128 ⟨l % 64, by omega⟩) else Ideal.sin (ang128 ⟨l % 64, by omega⟩)
/-- The sine of a rotation over 64 lanes, with the sign it enters with. -/
def sgn64 (l : ℕ) : EReal := if l % 64 < 32 then -Ideal.sin (ang64 ⟨l % 32, by omega⟩) else Ideal.sin (ang64 ⟨l % 32, by omega⟩)

section Formula

variable (X : FVec Ideal S32x1x2048 .f32) (g : FVec Ideal S1x2048 .f32) (Y : FVec Ideal S1x2048x10832 .f32)

/-- The new token of sequence `i` scaled to unit mean square, its gain applied. -/
def unit (i : Fin 32) (d : Fin 2048) : EReal :=
  X (ix3 i 0 d) * Ideal.rsqrt (Ideal.div (∑ k : Fin 2048, X (ix3 i 0 k) * X (ix3 i 0 k)) (Ideal.ofBits FTy.f32 0x45000000#32) + Ideal.ofBits FTy.f32 0x358637BD#32) * g (ix2 0 d)

/-- Its projection: sequence `i` at column `n` of the weights. -/
def col (i : Fin 32) (n : Fin 10832) : EReal := ∑ d : Fin 2048, unit X g i d * Y (ix3 0 d n)

/-- The keys of head `h`, rotated by the token's position. -/
def key (i : Fin 32) (h : Fin 2) (l : Fin 128) : EReal :=
  col X g Y i ⟨4096 + (h * 128 + l), by omega⟩ * Ideal.cos (ang128 ⟨l % 64, by omega⟩)
    + col X g Y i ⟨4096 + (h * 128 + (l + 64) % 128), by omega⟩ * sgn128 l

/-- The index keys, rotated by the token's position. -/
def ikey (i : Fin 32) (l : Fin 64) : EReal :=
  col X g Y i ⟨6656 + l, by omega⟩ * Ideal.cos (ang64 ⟨l % 32, by omega⟩)
    + col X g Y i ⟨6656 + (l + 32) % 64, by omega⟩ * sgn64 l

/-- The index heads' weights. -/
def headw (i : Fin 32) (n : Fin 16) : EReal :=
  col X g Y i ⟨6720 + n, by omega⟩ * Ideal.ofBits FTy.f32 0x3E800000#32 * Ideal.ofBits FTy.f32 0x3E000000#32

/-! The results, by row. -/

/-- The normalised input. By row. -/
def rXn (p : Fin 32) (d : Fin 2048) : EReal := unit X g p d
/-- The keys. By row. -/
def rK (p : Fin 32) (h : Fin 2) (l : Fin 128) : EReal := key X g Y p h l
/-- The values. By row. -/
def rV (p : Fin 32) (h : Fin 2) (l : Fin 128) : EReal := col X g Y p ⟨4352 + (h * 128 + l), by omega⟩
/-- The index keys. By row. -/
def rI (p : Fin 32) (l : Fin 64) : EReal := ikey X g Y p l
/-- The keys, both heads in one row. By row. -/
def rKb (p : Fin 32) (q : Fin 256) : EReal := key X g Y p ⟨q / 128, by omega⟩ ⟨q % 128, by omega⟩
/-- The index keys in the first half of a row. By row. -/
def rIe (p : Fin 32) (q : Fin 128) : EReal := (if h : (q : ℕ) < 64 then ikey X g Y p ⟨q, h⟩ else 0)
/-- The index keys in the second half of a row. By row. -/
def rIo (p : Fin 32) (q : Fin 128) : EReal := (if h : (q : ℕ) < 64 then 0 else ikey X g Y p ⟨q - 64, by omega⟩)
/-- The values, both heads in one row. By row. -/
def rVb (p : Fin 32) (q : Fin 256) : EReal := col X g Y p ⟨4352 + q, by omega⟩
/-- The index heads' weights. By row. -/
def rWs (p : Fin 32) (n : Fin 16) : EReal := headw X g Y p n

end Formula

/-! The reference's stages, entry by entry. -/

/-- The angles of the keys' rotation. -/
def angK : FVec Ideal S1x64 .f32 := mulf (broadcastInDim S1x64 ![0, 1] bcast_S1x1_S1x64_0_1 (broadcastInDim S1x1 ![0] bcast_S1_S1x1_0 (sitofp .f32 (addi (broadcastInDim S1 ![] bcast_S_S1 (constantI S_ 32 16384#32)) (iotaInDim S1 32 0))))) (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32)))))
/-- The angles of the index keys' rotation. -/
def angI : FVec Ideal S1x32 .f32 := mulf (broadcastInDim S1x32 ![0, 1] bcast_S1x1_S1x32_0_1 (broadcastInDim S1x1 ![0] bcast_S1_S1x1_0 (sitofp .f32 (addi (broadcastInDim S1 ![] bcast_S_S1 (constantI S_ 32 16384#32)) (iotaInDim S1 32 0))))) (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))
/-- Their cosines, for every head. -/
def cosK : FVec Ideal S32x1x2x64 .f32 := broadcastInDim S32x1x2x64 ![0, 1, 2, 3] bcast_S1x1x1x64_S32x1x2x64_0_1_2_3 (broadcastInDim S1x1x1x64 ![1, 2, 3] bcast_S1x1x64_S1x1x1x64_1_2_3 (broadcastInDim S1x1x64 ![0, 2] bcast_S1x64_S1x1x64_0_2 (Host.cos angK)))
/-- Their sines. -/
def sinK : FVec Ideal S32x1x2x64 .f32 := broadcastInDim S32x1x2x64 ![0, 1, 2, 3] bcast_S1x1x1x64_S32x1x2x64_0_1_2_3 (broadcastInDim S1x1x1x64 ![1, 2, 3] bcast_S1x1x64_S1x1x1x64_1_2_3 (broadcastInDim S1x1x64 ![0, 2] bcast_S1x64_S1x1x64_0_2 (Host.sin angK)))
/-- The cosines of the index keys' angles. -/
def cosI : FVec Ideal S32x1x1x32 .f32 := broadcastInDim S32x1x1x32 ![0, 1, 2, 3] bcast_S1x1x1x32_S32x1x1x32_0_1_2_3 (broadcastInDim S1x1x1x32 ![1, 2, 3] bcast_S1x1x32_S1x1x1x32_1_2_3 (broadcastInDim S1x1x32 ![0, 2] bcast_S1x32_S1x1x32_0_2 (Host.cos angI)))
/-- Their sines. -/
def sinI : FVec Ideal S32x1x1x32 .f32 := broadcastInDim S32x1x1x32 ![0, 1, 2, 3] bcast_S1x1x1x32_S32x1x1x32_0_1_2_3 (broadcastInDim S1x1x1x32 ![1, 2, 3] bcast_S1x1x32_S1x1x1x32_1_2_3 (broadcastInDim S1x1x32 ![0, 2] bcast_S1x32_S1x1x32_0_2 (Host.sin angI)))

theorem angK_apply (s : Fin 1) (l : Fin 64) : angK (ix2 s l) = ang128 l := by
  obtain rfl : s = 0 := Subsingleton.elim _ _
  pointwise [angK]
  rfl
theorem angI_apply (s : Fin 1) (l : Fin 32) : angI (ix2 s l) = ang64 l := by
  obtain rfl : s = 0 := Subsingleton.elim _ _
  pointwise [angI]
  rfl
theorem cosK_apply (i : Fin 32) (s : Fin 1) (h : Fin 2) (l : Fin 64) : cosK (ix4 i s h l) = Ideal.cos (ang128 l) := by
  pointwise [cosK]
  exact congrArg Ideal.cos (angK_apply s l)
theorem sinK_apply (i : Fin 32) (s : Fin 1) (h : Fin 2) (l : Fin 64) : sinK (ix4 i s h l) = Ideal.sin (ang128 l) := by
  pointwise [sinK]
  exact congrArg Ideal.sin (angK_apply s l)
theorem cosI_apply (i : Fin 32) (s : Fin 1) (h : Fin 1) (l : Fin 32) : cosI (ix4 i s h l) = Ideal.cos (ang64 l) := by
  pointwise [cosI]
  exact congrArg Ideal.cos (angI_apply s l)
theorem sinI_apply (i : Fin 32) (s : Fin 1) (h : Fin 1) (l : Fin 32) : sinI (ix4 i s h l) = Ideal.sin (ang64 l) := by
  pointwise [sinI]
  exact congrArg Ideal.sin (angI_apply s l)

variable (X : FVec Ideal S32x1x2048 .f32) (g : FVec Ideal S1x2048 .f32) (Y : FVec Ideal S1x2048x10832 .f32)

/-- The normalised input. -/
def normed : FVec Ideal S32x1x2048 .f32 := mulf (mulf X (broadcastInDim S32x1x2048 ![0, 1, 2] bcast_S32x1x1_S32x1x2048_0_1_2 (Host.rsqrt (addf (Host.divf (broadcastInDim S32x1x1 ![0, 1] bcast_S32x1_S32x1x1_0_1 (Host.reduceAdd (mulf X X) (constant S_ .f32 0x00000000#32) reducesTo_S32x1x2048_S32x1_d2 h_S_)) (broadcastInDim S32x1x1 ![] bcast_S_S32x1x1 (constant S_ .f32 0x45000000#32))) (broadcastInDim S32x1x1 ![] bcast_S_S32x1x1 (constant S_ .f32 0x358637BD#32)))))) (broadcastInDim S32x1x2048 ![0, 1, 2] bcast_S1x1x2048_S32x1x2048_0_1_2 (broadcastInDim S1x1x2048 ![2] bcast_S2048_S1x1x2048_2 (shapeCast _ g shapeCasts_S1x2048_S2048)))
/-- Its projection. -/
def prod : FVec Ideal S32x1x10832 .f32 := Host.dotGeneral (F := Ideal) dot_S32x1x2048_S2048x10832_S32x1x10832_2_0_01_1_n_n none (normed X g) (shapeCast _ Y shapeCasts_S1x2048x10832_S2048x10832)
/-- The rotated keys. -/
def keys : FVec Ideal S32x1x2x128 .f32 := concatenate S32x1x2x128 3 [⟨S32x1x2x64, (subf (mulf (extractStridedSlice S32x1x2x64 ![0, 0, 0, 0] (shapeCast _ (extractStridedSlice S32x1x256 ![0, 0, 4096] (prod X g Y) slices_S32x1x10832_S32x1x256_0_0_4096) shapeCasts_S32x1x256_S32x1x2x128) slices_S32x1x2x128_S32x1x2x64_0_0_0_0) cosK) (mulf (extractStridedSlice S32x1x2x64 ![0, 0, 0, 64] (shapeCast _ (extractStridedSlice S32x1x256 ![0, 0, 4096] (prod X g Y) slices_S32x1x10832_S32x1x256_0_0_4096) shapeCasts_S32x1x256_S32x1x2x128) slices_S32x1x2x128_S32x1x2x64_0_0_0_64) sinK))⟩, ⟨S32x1x2x64, (addf (mulf (extractStridedSlice S32x1x2x64 ![0, 0, 0, 64] (shapeCast _ (extractStridedSlice S32x1x256 ![0, 0, 4096] (prod X g Y) slices_S32x1x10832_S32x1x256_0_0_4096) shapeCasts_S32x1x256_S32x1x2x128) slices_S32x1x2x128_S32x1x2x64_0_0_0_64) cosK) (mulf (extractStridedSlice S32x1x2x64 ![0, 0, 0, 0] (shapeCast _ (extractStridedSlice S32x1x256 ![0, 0, 4096] (prod X g Y) slices_S32x1x10832_S32x1x256_0_0_4096) shapeCasts_S32x1x256_S32x1x2x128) slices_S32x1x2x128_S32x1x2x64_0_0_0_0) sinK))⟩] concatenates_S32x1x2x64_S32x1x2x64_S32x1x2x128_d3
/-- The rotated index keys. -/
def ikeys : FVec Ideal S32x1x1x64 .f32 := concatenate S32x1x1x64 3 [⟨S32x1x1x32, (subf (mulf (extractStridedSlice S32x1x1x32 ![0, 0, 0, 0] (shapeCast _ (extractStridedSlice S32x1x64 ![0, 0, 6656] (prod X g Y) slices_S32x1x10832_S32x1x64_0_0_6656) shapeCasts_S32x1x64_S32x1x1x64) slices_S32x1x1x64_S32x1x1x32_0_0_0_0) cosI) (mulf (extractStridedSlice S32x1x1x32 ![0, 0, 0, 32] (shapeCast _ (extractStridedSlice S32x1x64 ![0, 0, 6656] (prod X g Y) slices_S32x1x10832_S32x1x64_0_0_6656) shapeCasts_S32x1x64_S32x1x1x64) slices_S32x1x1x64_S32x1x1x32_0_0_0_32) sinI))⟩, ⟨S32x1x1x32, (addf (mulf (extractStridedSlice S32x1x1x32 ![0, 0, 0, 32] (shapeCast _ (extractStridedSlice S32x1x64 ![0, 0, 6656] (prod X g Y) slices_S32x1x10832_S32x1x64_0_0_6656) shapeCasts_S32x1x64_S32x1x1x64) slices_S32x1x1x64_S32x1x1x32_0_0_0_32) cosI) (mulf (extractStridedSlice S32x1x1x32 ![0, 0, 0, 0] (shapeCast _ (extractStridedSlice S32x1x64 ![0, 0, 6656] (prod X g Y) slices_S32x1x10832_S32x1x64_0_0_6656) shapeCasts_S32x1x64_S32x1x1x64) slices_S32x1x1x64_S32x1x1x32_0_0_0_0) sinI))⟩] concatenates_S32x1x1x32_S32x1x1x32_S32x1x1x64_d3

theorem normed_apply (i : Fin 32) (s : Fin 1) (d : Fin 2048) : normed X g (ix3 i s d) = unit X g i d := by
  obtain rfl : s = 0 := Subsingleton.elim _ _
  pointwise [normed]
  rfl
theorem prod_apply (i : Fin 32) (s : Fin 1) (n : Fin 10832) : prod X g Y (ix3 i s n) = col X g Y i n := by
  pointwise [prod]
  exact Finset.sum_congr rfl fun d _ => congrArg (fun u : EReal => u * Y (ix3 0 d n)) (normed_apply X g i s d)
theorem key_lo (i : Fin 32) (h : Fin 2) (l : Fin 128) (hl : (l : ℕ) < 64) : key X g Y i h l = col X g Y i ⟨4096 + (h * 128 + l), by omega⟩ * Ideal.cos (ang128 ⟨l % 64, by omega⟩) - col X g Y i ⟨4096 + (h * 128 + (l + 64) % 128), by omega⟩ * Ideal.sin (ang128 ⟨l % 64, by omega⟩) := by
  unfold key sgn128
  rw [if_pos (by omega), mul_neg, ← sub_eq_add_neg]
theorem key_hi (i : Fin 32) (h : Fin 2) (l : Fin 128) (hl : ¬ (l : ℕ) < 64) : key X g Y i h l = col X g Y i ⟨4096 + (h * 128 + l), by omega⟩ * Ideal.cos (ang128 ⟨l % 64, by omega⟩) + col X g Y i ⟨4096 + (h * 128 + (l + 64) % 128), by omega⟩ * Ideal.sin (ang128 ⟨l % 64, by omega⟩) := by
  unfold key sgn128
  rw [if_neg (by omega)]
theorem keys_apply (i : Fin 32) (s : Fin 1) (h : Fin 2) (l : Fin 128) : keys X g Y (ix4 i s h l) = key X g Y i h l := by
  obtain rfl : s = 0 := Subsingleton.elim _ _
  pointwise [keys]
  split
  · rename_i hl
    have hl : (l : ℕ) < 64 := hl
    refine Eq.trans ?_ (key_lo X g Y i h l hl).symm
    exact congrArg₂ (fun u v : EReal => u - v)
      (congrArg₂ (fun u v : EReal => u * v) ((prod_apply X g Y i 0 _).trans (congrArg (col X g Y i) (Fin.ext (by dsimp only <;> omega)))) (((cosK_apply i 0 _ _).trans (congrArg (fun l => Ideal.cos (ang128 l)) (Fin.ext (by dsimp only <;> omega))))))
      (congrArg₂ (fun u v : EReal => u * v) ((prod_apply X g Y i 0 _).trans (congrArg (col X g Y i) (Fin.ext (by dsimp only <;> omega)))) (((sinK_apply i 0 _ _).trans (congrArg (fun l => Ideal.sin (ang128 l)) (Fin.ext (by dsimp only <;> omega))))))
  · rename_i hl
    have hl : ¬ (l : ℕ) < 64 := hl
    refine Eq.trans ?_ (key_hi X g Y i h l hl).symm
    exact congrArg₂ (fun u v : EReal => u + v)
      (congrArg₂ (fun u v : EReal => u * v) ((prod_apply X g Y i 0 _).trans (congrArg (col X g Y i) (Fin.ext (by dsimp only <;> omega)))) (((cosK_apply i 0 _ _).trans (congrArg (fun l => Ideal.cos (ang128 l)) (Fin.ext (by dsimp only <;> omega))))))
      (congrArg₂ (fun u v : EReal => u * v) ((prod_apply X g Y i 0 _).trans (congrArg (col X g Y i) (Fin.ext (by dsimp only <;> omega)))) (((sinK_apply i 0 _ _).trans (congrArg (fun l => Ideal.sin (ang128 l)) (Fin.ext (by dsimp only <;> omega))))))
theorem ikey_lo (i : Fin 32) (l : Fin 64) (hl : (l : ℕ) < 32) : ikey X g Y i l = col X g Y i ⟨6656 + l, by omega⟩ * Ideal.cos (ang64 ⟨l % 32, by omega⟩) - col X g Y i ⟨6656 + (l + 32) % 64, by omega⟩ * Ideal.sin (ang64 ⟨l % 32, by omega⟩) := by
  unfold ikey sgn64
  rw [if_pos (by omega), mul_neg, ← sub_eq_add_neg]
theorem ikey_hi (i : Fin 32) (l : Fin 64) (hl : ¬ (l : ℕ) < 32) : ikey X g Y i l = col X g Y i ⟨6656 + l, by omega⟩ * Ideal.cos (ang64 ⟨l % 32, by omega⟩) + col X g Y i ⟨6656 + (l + 32) % 64, by omega⟩ * Ideal.sin (ang64 ⟨l % 32, by omega⟩) := by
  unfold ikey sgn64
  rw [if_neg (by omega)]
theorem ikeys_apply (i : Fin 32) (s : Fin 1) (h : Fin 1) (l : Fin 64) : ikeys X g Y (ix4 i s h l) = ikey X g Y i l := by
  obtain rfl : s = 0 := Subsingleton.elim _ _
  obtain rfl : h = 0 := Subsingleton.elim _ _
  pointwise [ikeys]
  split
  · rename_i hl
    have hl : (l : ℕ) < 32 := hl
    refine Eq.trans ?_ (ikey_lo X g Y i l hl).symm
    exact congrArg₂ (fun u v : EReal => u - v)
      (congrArg₂ (fun u v : EReal => u * v) ((prod_apply X g Y i 0 _).trans (congrArg (col X g Y i) (Fin.ext (by dsimp only <;> omega)))) (((cosI_apply i 0 _ _).trans (congrArg (fun l => Ideal.cos (ang64 l)) (Fin.ext (by dsimp only <;> omega))))))
      (congrArg₂ (fun u v : EReal => u * v) ((prod_apply X g Y i 0 _).trans (congrArg (col X g Y i) (Fin.ext (by dsimp only <;> omega)))) (((sinI_apply i 0 _ _).trans (congrArg (fun l => Ideal.sin (ang64 l)) (Fin.ext (by dsimp only <;> omega))))))
  · rename_i hl
    have hl : ¬ (l : ℕ) < 32 := hl
    refine Eq.trans ?_ (ikey_hi X g Y i l hl).symm
    exact congrArg₂ (fun u v : EReal => u + v)
      (congrArg₂ (fun u v : EReal => u * v) ((prod_apply X g Y i 0 _).trans (congrArg (col X g Y i) (Fin.ext (by dsimp only <;> omega)))) (((cosI_apply i 0 _ _).trans (congrArg (fun l => Ideal.cos (ang64 l)) (Fin.ext (by dsimp only <;> omega))))))
      (congrArg₂ (fun u v : EReal => u * v) ((prod_apply X g Y i 0 _).trans (congrArg (col X g Y i) (Fin.ext (by dsimp only <;> omega)))) (((sinI_apply i 0 _ _).trans (congrArg (fun l => Ideal.sin (ang64 l)) (Fin.ext (by dsimp only <;> omega))))))

/-- The normalised input. -/
def outXn : FVec Ideal S32x2048 .bf16 := truncf .bf16 (shapeCast _ (normed X g) shapeCasts_S32x1x2048_S32x2048) bitsLt_bf16_f32
theorem outXn_apply (p : Fin 32) (d : Fin 2048) : outXn X g (ix2 p d) = unit X g p d := by
  pointwise [outXn]
  exact normed_apply X g _ 0 _

/-- The keys. -/
def outK : FVec Ideal S32x2x128 .f32 := shapeCast _ (keys X g Y) shapeCasts_S32x1x2x128_S32x2x128
theorem outK_apply (p : Fin 32) (h : Fin 2) (l : Fin 128) : outK X g Y (ix3 p h l) = key X g Y p h l := by
  pointwise [outK]
  exact keys_apply X g Y _ 0 _ _

/-- The values. -/
def outV : FVec Ideal S32x2x128 .f32 := shapeCast _ (extractStridedSlice S32x1x256 ![0, 0, 4352] (prod X g Y) slices_S32x1x10832_S32x1x256_0_0_4352) shapeCasts_S32x1x256_S32x2x128
theorem outV_apply (p : Fin 32) (h : Fin 2) (l : Fin 128) : outV X g Y (ix3 p h l) = col X g Y p ⟨4352 + (h * 128 + l), by omega⟩ := by
  pointwise [outV]
  exact prod_apply X g Y _ 0 _

/-- The index keys. -/
def outI : FVec Ideal S32x64 .f32 := shapeCast _ (shapeCast _ (ikeys X g Y) shapeCasts_S32x1x1x64_S32x1x64) shapeCasts_S32x1x64_S32x64
theorem outI_apply (p : Fin 32) (l : Fin 64) : outI X g Y (ix2 p l) = ikey X g Y p l := by
  pointwise [outI]
  exact ikeys_apply X g Y _ 0 0 _

/-- The keys, both heads in one row. -/
def outKb : FVec Ideal S32x256 .bf16 := truncf .bf16 (shapeCast _ (keys X g Y) shapeCasts_S32x1x2x128_S32x256) bitsLt_bf16_f32
theorem outKb_apply (p : Fin 32) (q : Fin 256) : outKb X g Y (ix2 p q) = key X g Y p ⟨q / 128, by omega⟩ ⟨q % 128, by omega⟩ := by
  pointwise [outKb]
  exact keys_apply X g Y _ 0 _ _

/-- The index keys in the first half of a row. -/
def outIe : FVec Ideal S32x128 .bf16 := truncf .bf16 (concatenate S32x128 1 [⟨S32x64, (shapeCast _ (shapeCast _ (ikeys X g Y) shapeCasts_S32x1x1x64_S32x1x64) shapeCasts_S32x1x64_S32x64)⟩, ⟨S32x64, (broadcastInDim S32x64 ![] bcast_S_S32x64 (constant S_ .f32 0x00000000#32))⟩] concatenates_S32x64_S32x64_S32x128_d1) bitsLt_bf16_f32
theorem outIe_apply (p : Fin 32) (q : Fin 128) : outIe X g Y (ix2 p q) = (if h : (q : ℕ) < 64 then ikey X g Y p ⟨q, h⟩ else 0) := by
  pointwise [outIe]
  split
  · exact ikeys_apply X g Y _ 0 0 _
  · rfl

/-- The index keys in the second half of a row. -/
def outIo : FVec Ideal S32x128 .bf16 := truncf .bf16 (concatenate S32x128 1 [⟨S32x64, (broadcastInDim S32x64 ![] bcast_S_S32x64 (constant S_ .f32 0x00000000#32))⟩, ⟨S32x64, (shapeCast _ (shapeCast _ (ikeys X g Y) shapeCasts_S32x1x1x64_S32x1x64) shapeCasts_S32x1x64_S32x64)⟩] concatenates_S32x64_S32x64_S32x128_d1) bitsLt_bf16_f32
theorem outIo_apply (p : Fin 32) (q : Fin 128) : outIo X g Y (ix2 p q) = (if h : (q : ℕ) < 64 then 0 else ikey X g Y p ⟨q - 64, by omega⟩) := by
  pointwise [outIo]
  split
  · rfl
  · exact ikeys_apply X g Y _ 0 0 _

/-- The values, both heads in one row. -/
def outVb : FVec Ideal S32x256 .bf16 := truncf .bf16 (shapeCast _ (extractStridedSlice S32x1x256 ![0, 0, 4352] (prod X g Y) slices_S32x1x10832_S32x1x256_0_0_4352) shapeCasts_S32x1x256_S32x256) bitsLt_bf16_f32
theorem outVb_apply (p : Fin 32) (q : Fin 256) : outVb X g Y (ix2 p q) = col X g Y p ⟨4352 + q, by omega⟩ := by
  pointwise [outVb]
  exact prod_apply X g Y _ 0 _

/-- The index heads' weights. -/
def outW : FVec Ideal S32x16 .f32 := shapeCast _ (mulf (mulf (extractStridedSlice S32x1x16 ![0, 0, 6720] (prod X g Y) slices_S32x1x10832_S32x1x16_0_0_6720) (broadcastInDim S32x1x16 ![] bcast_S_S32x1x16 (constant S_ .f32 0x3E800000#32))) (broadcastInDim S32x1x16 ![] bcast_S_S32x1x16 (constant S_ .f32 0x3E000000#32))) shapeCasts_S32x1x16_S32x16
theorem outW_apply (p : Fin 32) (n : Fin 16) : outW X g Y (ix2 p n) = headw X g Y p n := by
  pointwise [outW]
  exact congrArg (fun u : EReal => u * Ideal.ofBits FTy.f32 0x3E800000#32 * Ideal.ofBits FTy.f32 0x3E000000#32) (prod_apply X g Y _ 0 _)

theorem outXn_eq : outXn X g = fun i => rXn X g (i 0) (i 1) := by
  funext j
  idx_vars j
  exact outXn_apply X g j0 j1
theorem outK_eq : outK X g Y = fun i => rK X g Y (i 0) (i 1) (i 2) := by
  funext j
  idx_vars j
  exact outK_apply X g Y j0 j1 j2
theorem outV_eq : outV X g Y = fun i => rV X g Y (i 0) (i 1) (i 2) := by
  funext j
  idx_vars j
  exact outV_apply X g Y j0 j1 j2
theorem outI_eq : outI X g Y = fun i => rI X g Y (i 0) (i 1) := by
  funext j
  idx_vars j
  exact outI_apply X g Y j0 j1
theorem outKb_eq : outKb X g Y = fun i => rKb X g Y (i 0) (i 1) := by
  funext j
  idx_vars j
  exact outKb_apply X g Y j0 j1
theorem outIe_eq : outIe X g Y = fun i => rIe X g Y (i 0) (i 1) := by
  funext j
  idx_vars j
  exact outIe_apply X g Y j0 j1
theorem outIo_eq : outIo X g Y = fun i => rIo X g Y (i 0) (i 1) := by
  funext j
  idx_vars j
  exact outIo_apply X g Y j0 j1
theorem outVb_eq : outVb X g Y = fun i => rVb X g Y (i 0) (i 1) := by
  funext j
  idx_vars j
  exact outVb_apply X g Y j0 j1
theorem outW_eq : outW X g Y = fun i => rWs X g Y (i 0) (i 1) := by
  funext j
  idx_vars j
  exact outW_apply X g Y j0 j1

end Cert.Proof.Sample

end
-- ==== Proof.SampleBlocks.lean ====
module

public import proofs.«01_k».proof.Proof.SampleRef
public import proofs.«01_k».proof.Proof.Gen.Kernel4Ideal.Value

@[expose] public section

set_option maxRecDepth 16384

noncomputable section

namespace Cert.Proof.Sample

open Cert.Kernel4Ideal Cert.Kernel4Ideal.Gen
open Idealize.ShloMosaic Idealize.ShloMosaic.TcCoe Idealize.ShloMosaic.Tactic
open Idealize.SL Idealize.SL.Sem

variable (m : (ℓ : Loc nD τ sig) → Buf (Elt Ideal) ℓ)

/-! The arguments, and what each window's block holds of them at a point. -/

abbrev argX (c : Dev nD) : FVec Ideal S32x1x2048 .f32 := m ((c : Thread nD τ).loc main_arg0)
abbrev argG (c : Dev nD) : FVec Ideal S1x2048 .f32 := m ((c : Thread nD τ).loc main_arg1)
abbrev argW (c : Dev nD) : FVec Ideal S1x2048x10832 .f32 := m ((c : Thread nD τ).loc main_arg2)

theorem lt_N (t : Fin cfg0.N) : t.val < 1 := t.isLt

/-- Where each input's block lies: the launch has one point. -/
theorem idx : ∀ t : Fin cfg0.N, win0_0.index t = ![0, 0] ∧ win0_1.index t = ![0, 1] ∧ win0_2.index t = ![0, 2] ∧ win0_3.index t = ![0, 3] ∧ win0_4.index t = ![0, 0] ∧ win0_5.index t = ![8, 0] ∧ win0_6.index t = ![52, 0] ∧ win0_7.index t = ![0, 0] ∧ win0_8.index t = ![0, 0] ∧ win0_9.index t = ![0, 0] ∧ win0_10.index t = ![0, 0] := (by decide +kernel : ∀ t : Fin grid0.N, _)
/-- Where each result's block lies. -/
theorem idxO : ∀ t : Fin cfg0.N, win0_11.index t = ![0, 0] ∧ win0_12.index t = ![0, 0, 0] ∧ win0_13.index t = ![0, 0, 0] ∧ win0_14.index t = ![0, 0] ∧ win0_15.index t = ![0, 0] ∧ win0_16.index t = ![0, 0] ∧ win0_17.index t = ![0, 0] ∧ win0_18.index t = ![0, 0] ∧ win0_19.index t = ![0, 0] := (by decide +kernel : ∀ t : Fin grid0.N, _)

/-! The positions' column: 16384 plus the row's number modulo 1, computed by a called function. -/

/-- A line of two parts is run part by part. -/
theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => simp only [List.nil_append, StableHlo.after_nil]
  | cons a l ih => simp only [List.cons_append, StableHlo.after_cons, ih]

/-- The host's line before the launch, in its three parts. -/
theorem V_stages (c : Dev nD) (b : Ref sig .tc) : V m c b = StableHlo.after hostOps0_2 (StableHlo.after hostOps0_1 (StableHlo.after hostOps0 (fun b => m (c, b)))) b := by
  unfold V
  rw [List.flatten_cons, List.flatten_cons, List.flatten_cons, List.flatten_nil, List.append_nil, after_two, after_two]

/-- The divisor the called function uses: 1 where the given one is 0. -/
def divisor (b : IVec S_ 32) : IVec S_ 32 := select (cmpi .eq (id b) (constantI S_ 32 0#32)) (constantI S_ 32 1#32) (id b)

/-- The remainder with the divisor's sign, as the called function computes it. -/
def floorMod (a : IVec S32 32) (b : IVec S_ 32) : IVec S32 32 :=
  select (andi
      (cmpi .ne (cmpi .slt (Host.remsi a (broadcastInDim S32 ![] bcast_S_S32 (divisor b))) (broadcastInDim S32 ![] bcast_S_S32 (constantI S_ 32 0#32)))
        (broadcastInDim S32 ![] bcast_S_S32 (cmpi .slt (divisor b) (constantI S_ 32 0#32))))
      (cmpi .ne (Host.remsi a (broadcastInDim S32 ![] bcast_S_S32 (divisor b))) (broadcastInDim S32 ![] bcast_S_S32 (constantI S_ 32 0#32))))
    (addi (Host.remsi a (broadcastInDim S32 ![] bcast_S_S32 (divisor b))) (broadcastInDim S32 ![] bcast_S_S32 (divisor b)))
    (Host.remsi a (broadcastInDim S32 ![] bcast_S_S32 (divisor b)))

/-- Every row's number is 0 modulo 1. -/
theorem floorMod_one (a : IVec S32 32) (h : ∀ s : Fin 32, a (ix1 s) = BitVec.ofNat 32 s) (s : Fin 32) :
    floorMod a (constantI S_ 32 1#32) (ix1 s) = 0#32 := by
  unfold floorMod divisor
  pointwise
  simp only [h]
  revert s
  decide

/-- What the called function leaves, off any buffers that hold the rows' numbers and 1. -/
theorem mod_eq (W : Valuation τ sig (Elt Ideal)) (h0 : ∀ s : Fin 32, (W (main_v0 : DevRef τ sig) : IVec S32 32) (ix1 s) = BitVec.ofNat 32 s)
    (h1 : (W (main_c : DevRef τ sig) : IVec S_ 32) = constantI S_ 32 1#32) (s : Fin 32) :
    (StableHlo.after hostOps0_1 W (main_v1 : DevRef τ sig) : IVec S32 32) (ix1 s) = 0#32 := by
  after_results
  simp only [StableHlo.TRef.ofBuf_toBuf]
  have e := floorMod_one _ h0 s
  rw [← h1] at e
  exact e

/-- The called function's result at the launch's buffers. -/
theorem mod_at (c : Dev nD) (s : Fin 32) :
    (StableHlo.after hostOps0_1 (StableHlo.after hostOps0 (fun b => m (c, b))) (main_v1 : DevRef τ sig) : IVec S32 32) (ix1 s) = 0#32 := by
  refine mod_eq _ (fun s => ?_) ?_ s
  · after_results; pointwise
  · after_results

/-- A row's position is 16384. -/
theorem pos_eq : IntOp.addi 16384#32 0#32 = 16384#32 := by decide

theorem host_x (c : Dev nD) (p : Fin 32) (d : Fin 2048) : V m c main_v50 (ix2 p d) = argX m c (ix3 p 0 d) := by
  unfold V; simp only [List.flatten_cons, List.flatten_nil, List.append_nil, List.cons_append, List.nil_append]; after_results; pointwise
theorem host_w (c : Dev nD) (n : Fin 10832) (d : Fin 2048) : V m c main_v52 (ix2 n d) = argW m c (ix3 0 d n) := by
  unfold V; simp only [List.flatten_cons, List.flatten_nil, List.append_nil, List.cons_append, List.nil_append]; after_results; pointwise
theorem host_g (c : Dev nD) (d : Fin 2048) : V m c main_v54 (ix2 0 d) = argG m c (ix2 0 d) := by
  unfold V; simp only [List.flatten_cons, List.flatten_nil, List.append_nil, List.cons_append, List.nil_append]; after_results; pointwise
/-- The table of cosines over 128 lanes, off any buffers in which the called function's result is 0. -/
theorem cos128_of (W : Valuation τ sig (Elt Ideal)) (h : ∀ s : Fin 32, (W (main_v1 : DevRef τ sig) : IVec S32 32) (ix1 s) = 0#32) (s : Fin 32) (l : Fin 128) :
    (StableHlo.after hostOps0_2 W (main_v21 : DevRef τ sig) : FVec Ideal S32x128 .f32) (ix2 s l) = Ideal.cos (ang128 ⟨l % 64, by omega⟩) := by
  after_results; pointwise
  simp only [h, pos_eq]
  split
  · have e : (l : ℕ) % 64 = l := by omega
    simp only [ang128, place, e]
  · have e : (l : ℕ) % 64 = l - 64 := by omega
    simp only [ang128, place, e]
/-- The table of cosines over 128 lanes. -/
theorem host_cos128 (c : Dev nD) (s : Fin 32) (l : Fin 128) : V m c main_v21 (ix2 s l) = Ideal.cos (ang128 ⟨l % 64, by omega⟩) := by
  rw [V_stages]
  exact cos128_of _ (mod_at m c) s l
/-- The table of signed sines over 128 lanes, off any buffers in which the called function's result is 0. -/
theorem sin128_of (W : Valuation τ sig (Elt Ideal)) (h : ∀ s : Fin 32, (W (main_v1 : DevRef τ sig) : IVec S32 32) (ix1 s) = 0#32) (s : Fin 32) (l : Fin 128) :
    (StableHlo.after hostOps0_2 W (main_v26 : DevRef τ sig) : FVec Ideal S32x128 .f32) (ix2 s l) = sgn128 l := by
  unfold sgn128
  after_results; pointwise
  simp only [h, pos_eq]
  split
  · have e : (l : ℕ) % 64 = l := by omega
    simp only [ang128, place, e]
  · have e : (l : ℕ) % 64 = l - 64 := by omega
    simp only [ang128, place, e]
/-- The table of signed sines over 128 lanes. -/
theorem host_sin128 (c : Dev nD) (s : Fin 32) (l : Fin 128) : V m c main_v26 (ix2 s l) = sgn128 l := by
  rw [V_stages]
  exact sin128_of _ (mod_at m c) s l
/-- The table of cosines over 64 lanes, twice side by side, off any buffers in which the called function's result is 0. -/
theorem cos64_of (W : Valuation τ sig (Elt Ideal)) (h : ∀ s : Fin 32, (W (main_v1 : DevRef τ sig) : IVec S32 32) (ix1 s) = 0#32) (s : Fin 32) (l : Fin 128) :
    (StableHlo.after hostOps0_2 W (main_v44 : DevRef τ sig) : FVec Ideal S32x128 .f32) (ix2 s l) = Ideal.cos (ang64 ⟨l % 32, by omega⟩) := by
  after_results; pointwise
  simp only [h, pos_eq]
  split
  · have e : (l : ℕ) % 32 = l % 64 := by omega
    simp only [ang64, place, e]
  · have e : (l : ℕ) % 32 = l % 64 - 32 := by omega
    simp only [ang64, place, e]
/-- The table of cosines over 64 lanes, twice side by side. -/
theorem host_cos64 (c : Dev nD) (s : Fin 32) (l : Fin 128) : V m c main_v44 (ix2 s l) = Ideal.cos (ang64 ⟨l % 32, by omega⟩) := by
  rw [V_stages]
  exact cos64_of _ (mod_at m c) s l
/-- The table of signed sines over 64 lanes, twice side by side, off any buffers in which the called function's result is 0. -/
theorem sin64_of (W : Valuation τ sig (Elt Ideal)) (h : ∀ s : Fin 32, (W (main_v1 : DevRef τ sig) : IVec S32 32) (ix1 s) = 0#32) (s : Fin 32) (l : Fin 128) :
    (StableHlo.after hostOps0_2 W (main_v49 : DevRef τ sig) : FVec Ideal S32x128 .f32) (ix2 s l) = sgn64 l := by
  unfold sgn64
  after_results; pointwise
  simp only [h, pos_eq]
  split
  · have e : (l : ℕ) % 32 = l % 64 := by omega
    simp only [ang64, place, e]
  · have e : (l : ℕ) % 32 = l % 64 - 32 := by omega
    simp only [ang64, place, e]
/-- The table of signed sines over 64 lanes, twice side by side. -/
theorem host_sin64 (c : Dev nD) (s : Fin 32) (l : Fin 128) : V m c main_v49 (ix2 s l) = sgn64 l := by
  rw [V_stages]
  exact sin64_of _ (mod_at m c) s l

theorem x0_read (c : Dev nD) (t : Fin cfg0.N) (p : Fin 32) (q : Fin 512) : iblk m c 0 t (ix2 p q) = argX m c (ix3 p 0 ⟨q, by omega⟩) := by
  have e : iblk m c 0 t (ix2 p q) = V m c main_v50 (ix2 p ⟨q, by omega⟩) := by blk_ext [iblk, idx t]
  exact e.trans (host_x m c _ _)
theorem x1_read (c : Dev nD) (t : Fin cfg0.N) (p : Fin 32) (q : Fin 512) : iblk m c 1 t (ix2 p q) = argX m c (ix3 p 0 ⟨512 + q, by omega⟩) := by
  have e : iblk m c 1 t (ix2 p q) = V m c main_v50 (ix2 p ⟨512 + q, by omega⟩) := by blk_ext [iblk, idx t]
  exact e.trans (host_x m c _ _)
theorem x2_read (c : Dev nD) (t : Fin cfg0.N) (p : Fin 32) (q : Fin 512) : iblk m c 2 t (ix2 p q) = argX m c (ix3 p 0 ⟨1024 + q, by omega⟩) := by
  have e : iblk m c 2 t (ix2 p q) = V m c main_v50 (ix2 p ⟨1024 + q, by omega⟩) := by blk_ext [iblk, idx t]
  exact e.trans (host_x m c _ _)
theorem x3_read (c : Dev nD) (t : Fin cfg0.N) (p : Fin 32) (q : Fin 512) : iblk m c 3 t (ix2 p q) = argX m c (ix3 p 0 ⟨1536 + q, by omega⟩) := by
  have e : iblk m c 3 t (ix2 p q) = V m c main_v50 (ix2 p ⟨1536 + q, by omega⟩) := by blk_ext [iblk, idx t]
  exact e.trans (host_x m c _ _)
theorem g_read (c : Dev nD) (t : Fin cfg0.N) (d : Fin 2048) : iblk m c 4 t (ix2 0 d) = argG m c (ix2 0 d) := by
  have e : iblk m c 4 t (ix2 0 d) = V m c main_v54 (ix2 0 d) := by blk_ext [iblk, idx t]
  exact e.trans (host_g m c d)
theorem w_read (c : Dev nD) (t : Fin cfg0.N) (n : Fin 512) (d : Fin 2048) : X0_5 m c t (ix2 n d) = argW m c (ix3 0 d ⟨4096 + n, by omega⟩) := by
  have e : X0_5 m c t (ix2 n d) = V m c main_v52 (ix2 ⟨4096 + n, by omega⟩ d) := by
    unfold X0_5 Pipeline.Window.fill
    rw [dif_pos (moved0_5 t _)]
    blk_ext [iblk, idx t]
  exact e.trans (host_w m c _ d)
theorem wi_read (c : Dev nD) (t : Fin cfg0.N) (n : Fin 128) (d : Fin 2048) : X0_6 m c t (ix2 n d) = argW m c (ix3 0 d ⟨6656 + n, by omega⟩) := by
  have e : X0_6 m c t (ix2 n d) = V m c main_v52 (ix2 ⟨6656 + n, by omega⟩ d) := by
    unfold X0_6 Pipeline.Window.fill
    rw [dif_pos (moved0_6 t _)]
    blk_ext [iblk, idx t]
  exact e.trans (host_w m c _ d)
theorem c128_read (c : Dev nD) (t : Fin cfg0.N) (p : Fin 32) (l : Fin 128) : iblk m c 7 t (ix2 p l) = Ideal.cos (ang128 ⟨l % 64, by omega⟩) := by
  have e : iblk m c 7 t (ix2 p l) = V m c main_v21 (ix2 p l) := by blk_ext [iblk, idx t]
  exact e.trans (host_cos128 m c _ l)
theorem s128_read (c : Dev nD) (t : Fin cfg0.N) (p : Fin 32) (l : Fin 128) : iblk m c 8 t (ix2 p l) = sgn128 l := by
  have e : iblk m c 8 t (ix2 p l) = V m c main_v26 (ix2 p l) := by blk_ext [iblk, idx t]
  exact e.trans (host_sin128 m c _ l)
theorem c64_read (c : Dev nD) (t : Fin cfg0.N) (p : Fin 32) (l : Fin 128) : iblk m c 9 t (ix2 p l) = Ideal.cos (ang64 ⟨l % 32, by omega⟩) := by
  have e : iblk m c 9 t (ix2 p l) = V m c main_v44 (ix2 p l) := by blk_ext [iblk, idx t]
  exact e.trans (host_cos64 m c _ l)
theorem s64_read (c : Dev nD) (t : Fin cfg0.N) (p : Fin 32) (l : Fin 128) : iblk m c 10 t (ix2 p l) = sgn64 l := by
  have e : iblk m c 10 t (ix2 p l) = V m c main_v49 (ix2 p l) := by blk_ext [iblk, idx t]
  exact e.trans (host_sin64 m c _ l)

end Cert.Proof.Sample

end
-- ==== Proof.SamplePay.lean ====
module

public import proofs.«01_k».proof.Proof.TailPay
public import proofs.«01_k».proof.Proof.SampleBlocks

@[expose] public section

set_option maxRecDepth 16384

noncomputable section

namespace Cert.Proof.Sample

open Cert.Kernel4Ideal Cert.Kernel4Ideal.Gen
open Idealize.ShloMosaic Idealize.ShloMosaic.TcCoe Idealize.ShloMosaic.Tactic
open Idealize.SL Idealize.SL.Sem

/-! The body's values, entry by entry. -/

/-- A row's scale, from the row `r` staged in four blocks. -/
theorem scale_apply (U0 U1 U2 U3 : FVec Ideal S32x512 .f32) (r : Fin 2048 → EReal) (p : Fin 32)
    (h0 : ∀ k : Fin 512, U0 (ix2 p k) = r ⟨k, by omega⟩) (h1 : ∀ k : Fin 512, U1 (ix2 p k) = r ⟨512 + k, by omega⟩)
    (h2 : ∀ k : Fin 512, U2 (ix2 p k) = r ⟨1024 + k, by omega⟩) (h3 : ∀ k : Fin 512, U3 (ix2 p k) = r ⟨1536 + k, by omega⟩) :
    k0_pay7 (F := Ideal) U0 U1 U2 U3 (ix2 p 0) = (Ideal.rsqrt (Ideal.div (∑ k : Fin 2048, r k * r k) (Ideal.ofBits FTy.f32 0x45000000#32) + Ideal.ofBits FTy.f32 0x358637BD#32) : EReal) := by
  pointwise [k0_pay3, k0_pay4, k0_pay5, k0_pay6, k0_pay7]
  simp only [h0, h1, h2, h3]
  refine congrArg (fun u : EReal => Ideal.rsqrt (u + Ideal.ofBits FTy.f32 0x358637BD#32)) ?_
  refine (Tail.mean_eq _).trans ?_
  exact congrArg (fun u : EReal => Ideal.div u (Ideal.ofBits FTy.f32 0x45000000#32)) (Tail.sum_quarters fun k => r k * r k)

theorem acc_apply (A : FVec Ideal S32x2048 .bf16) (B : FVec Ideal S512x2048 .f32) (p : Fin 32) (q : Fin 512) : k0_pay14 (F := Ideal) A B (ix2 p q) = (∑ d : Fin 2048, A (ix2 p d) * B (ix2 q d) : EReal) := by
  pointwise [k0_pay13, k0_pay14]
theorem acci_apply (A : FVec Ideal S32x2048 .bf16) (B : FVec Ideal S128x2048 .f32) (p : Fin 32) (q : Fin 128) : k0_pay27 (F := Ideal) (k0_pay13 (F := Ideal) A) B (ix2 p q) = (∑ d : Fin 2048, A (ix2 p d) * B (ix2 q d) : EReal) := by
  pointwise [k0_pay13, k0_pay27]

/-- The first head's rotation. -/
theorem rot0_apply (A : FVec Ideal S32x2048 .bf16) (B : FVec Ideal S512x2048 .f32) (co si : FVec Ideal S32x128 .f32) (p : Fin 32) (l : Fin 128) :
    k0_pay19 (F := Ideal) (k0_pay16 (F := Ideal) si) (k0_pay17 (F := Ideal) A B) (k0_pay18 (F := Ideal) A B co) 64#32 (ix2 p l)
      = (k0_pay14 (F := Ideal) A B (ix2 p ⟨l, by omega⟩) * co (ix2 p l) + k0_pay14 (F := Ideal) A B (ix2 p ⟨(l + 64) % 128, by omega⟩) * si (ix2 p l) : EReal) := by
  have e : ∀ h, (⟨((l : ℕ) + 128 - 64) % 128, h⟩ : Fin 512) = ⟨(l + 64) % 128, by omega⟩ := fun h => Fin.ext (by dsimp only; omega)
  pointwise [k0_pay15, k0_pay16, k0_pay17, k0_pay18, k0_pay19]
  rw [e]
/-- The second head's rotation. -/
theorem rot1_apply (a : FVec Ideal S32x512 .f32) (co si : FVec Ideal S32x128 .f32) (p : Fin 32) (l : Fin 128) :
    k0_pay23 (F := Ideal) a (k0_pay15 (F := Ideal) co) (k0_pay16 (F := Ideal) si) (ix2 p l) = (a (ix2 p ⟨128 + l, by omega⟩) * co (ix2 p l) + a (ix2 p ⟨128 + (l + 64) % 128, by omega⟩) * si (ix2 p l) : EReal) := by
  have e : ∀ h, (⟨128 + ((l : ℕ) + 128 - 64) % 128, h⟩ : Fin 512) = ⟨128 + (l + 64) % 128, by omega⟩ := fun h => Fin.ext (by dsimp only; omega)
  pointwise [k0_pay15, k0_pay16, k0_pay23]
  rw [e]
/-- The index keys' rotation, on the lanes that hold them. -/
theorem roti_apply (a co si : FVec Ideal S32x128 .f32) (p : Fin 32) (l : Fin 64) :
    k0_pay29 (F := Ideal) a (k0_pay28 (F := Ideal) co) si (ix2 p ⟨l, by omega⟩) = (a (ix2 p ⟨l, by omega⟩) * co (ix2 p ⟨l, by omega⟩) + a (ix2 p ⟨(l + 32) % 64, by omega⟩) * si (ix2 p ⟨l, by omega⟩) : EReal) := by
  pointwise [k0_pay28, k0_pay29]
  refine (congrArg₂ (fun u v : EReal => u + v * _) rfl (Main.select_lane ⟨l, by omega⟩ _ _)).trans ?_
  split
  · rename_i hl
    have hl : (l : ℕ) % 64 < 32 := hl
    exact congrArg (fun q => (a (ix2 p ⟨l, by omega⟩) * co (ix2 p ⟨l, by omega⟩) + a (ix2 p q) * si (ix2 p ⟨l, by omega⟩) : EReal)) (Fin.ext (by dsimp only; omega))
  · rename_i hl
    have hl : ¬ (l : ℕ) % 64 < 32 := hl
    exact congrArg (fun q => (a (ix2 p ⟨l, by omega⟩) * co (ix2 p ⟨l, by omega⟩) + a (ix2 p q) * si (ix2 p ⟨l, by omega⟩) : EReal)) (Fin.ext (by dsimp only; omega))

/-- The index keys in the first half of a row. -/
theorem first_apply (a co si : FVec Ideal S32x128 .f32) (p : Fin 32) (l : Fin 128) :
    k0_pay32 (F := Ideal) a co si (ix2 p l) = (if (l : ℕ) < 64 then k0_pay29 (F := Ideal) a co si (ix2 p l) else 0 : EReal) := by
  pointwise [k0_pay32, k0_pay31]
  exact Tail.select_low l _ _
/-- The index keys in the second half of a row. -/
theorem second_apply (a co si : FVec Ideal S32x128 .f32) (p : Fin 32) (l : Fin 128) :
    k0_pay33 (F := Ideal) a co si (ix2 p l) = (if (l : ℕ) < 64 then 0 else k0_pay29 (F := Ideal) a co si (ix2 p ⟨l - 64, by omega⟩) : EReal) := by
  pointwise [k0_pay33, k0_pay31]
  refine (Tail.select_low ⟨(l + 128 - 64) % 128, by omega⟩ _ _).trans ?_
  by_cases hl : (l : ℕ) < 64
  · rw [if_pos hl, if_neg (by dsimp only; omega)]
  · rw [if_neg hl, if_pos (by dsimp only; omega)]
    exact congrArg (fun q => (k0_pay29 (F := Ideal) a co si (ix2 p q) : EReal)) (Fin.ext (by dsimp only; omega))

end Cert.Proof.Sample

end
-- ==== Proof.Sample.lean ====
module

public import proofs.«01_k».proof.Defs
public import proofs.«01_k».proof.Proof.SamplePay
public import proofs.«01_k».proof.Proof.Gen.Kernel4.Frame

@[expose] public section

set_option maxRecDepth 16384

noncomputable section

namespace Cert.Proof.Sample

open Cert.Kernel4Ideal Cert.Kernel4Ideal.Gen
open Idealize.ShloMosaic Idealize.ShloMosaic.TcCoe Idealize.ShloMosaic.Tactic
open Idealize.SL Idealize.SL.Sem

variable (m : (ℓ : Loc nD τ sig) → Buf (Elt Ideal) ℓ)

/-! What a point's body makes of its blocks. -/

/-- The normalised input of sequence `p`. -/
abbrev unitAt (c : Dev nD) (t : Fin cfg0.N) (p : Fin 32) (d : Fin 2048) : EReal := unit (argX m c) (argG m c) p d
/-- Its projection. -/
abbrev colAt (c : Dev nD) (t : Fin cfg0.N) (p : Fin 32) (n : Fin 10832) : EReal := col (argX m c) (argG m c) (argW m c) p n

theorem scale_read (c : Dev nD) (t : Fin cfg0.N) (p : Fin 32) :
    k0_pay7 (F := Ideal) (iblk m c 0 t) (iblk m c 1 t) (iblk m c 2 t) (iblk m c 3 t) (ix2 p 0) = (Ideal.rsqrt (Ideal.div (∑ k : Fin 2048, argX m c (ix3 p 0 k) * argX m c (ix3 p 0 k)) (Ideal.ofBits FTy.f32 0x45000000#32) + Ideal.ofBits FTy.f32 0x358637BD#32) : EReal) :=
  scale_apply _ _ _ _ (fun k => argX m c (ix3 p 0 k)) p (x0_read m c t p) (x1_read m c t p) (x2_read m c t p) (x3_read m c t p)

section Product

variable (c : Dev nD) (t : Fin cfg0.N) (Y : FVec Ideal S32x2048 .bf16) (hy : ∀ p d, Y (ix2 p d) = unitAt m c t p d)
include hy

theorem acc_read (p : Fin 32) (q : Fin 512) (n : Fin 10832) (hn : n.val = 4096 + q.val) : k0_pay14 (F := Ideal) Y (X0_5 m c t) (ix2 p q) = colAt m c t p n := by
  have e : n = ⟨4096 + q, by omega⟩ := Fin.ext hn
  rw [e]
  exact (acc_apply Y _ p q).trans (Finset.sum_congr rfl fun d _ => congrArg₂ (fun u v : EReal => u * v) (hy p d) (w_read m c t q d))
theorem acci_read (p : Fin 32) (q : Fin 128) (n : Fin 10832) (hn : n.val = 6656 + q.val) : k0_pay27 (F := Ideal) (k0_pay13 (F := Ideal) Y) (X0_6 m c t) (ix2 p q) = colAt m c t p n := by
  have e : n = ⟨6656 + q, by omega⟩ := Fin.ext hn
  rw [e]
  exact (acci_apply Y _ p q).trans (Finset.sum_congr rfl fun d _ => congrArg₂ (fun u v : EReal => u * v) (hy p d) (wi_read m c t q d))

theorem key0_read (p : Fin 32) (l : Fin 128) :
    k0_pay19 (F := Ideal) (k0_pay16 (F := Ideal) (iblk m c 8 t)) (k0_pay17 (F := Ideal) Y (X0_5 m c t)) (k0_pay18 (F := Ideal) Y (X0_5 m c t) (iblk m c 7 t)) 64#32 (ix2 p l)
      = key (argX m c) (argG m c) (argW m c) p 0 l :=
  (rot0_apply Y _ _ _ p l).trans (congrArg₂ (fun u v : EReal => u + v)
    (congrArg₂ (fun u v : EReal => u * v) (acc_read m c t Y hy p _ _ (by dsimp only; omega)) (c128_read m c t p l))
    (congrArg₂ (fun u v : EReal => u * v) (acc_read m c t Y hy p _ _ (by dsimp only; omega)) (s128_read m c t p l)))
theorem key1_read (p : Fin 32) (l : Fin 128) :
    k0_pay23 (F := Ideal) (k0_pay14 (F := Ideal) Y (X0_5 m c t)) (k0_pay15 (F := Ideal) (iblk m c 7 t)) (k0_pay16 (F := Ideal) (iblk m c 8 t)) (ix2 p l)
      = key (argX m c) (argG m c) (argW m c) p 1 l :=
  (rot1_apply _ _ _ p l).trans (congrArg₂ (fun u v : EReal => u + v)
    (congrArg₂ (fun u v : EReal => u * v) (acc_read m c t Y hy p _ _ (by dsimp only; omega)) (c128_read m c t p l))
    (congrArg₂ (fun u v : EReal => u * v) (acc_read m c t Y hy p _ _ (by dsimp only; omega)) (s128_read m c t p l)))
theorem ikey_read (p : Fin 32) (l : Fin 64) :
    k0_pay29 (F := Ideal) (k0_pay27 (F := Ideal) (k0_pay13 (F := Ideal) Y) (X0_6 m c t)) (k0_pay28 (F := Ideal) (iblk m c 9 t)) (iblk m c 10 t) (ix2 p ⟨l, by omega⟩)
      = ikey (argX m c) (argG m c) (argW m c) p l :=
  (roti_apply _ _ _ p l).trans (congrArg₂ (fun u v : EReal => u + v)
    (congrArg₂ (fun u v : EReal => u * v) (acci_read m c t Y hy p _ _ rfl) (c64_read m c t p _))
    (congrArg₂ (fun u v : EReal => u * v) (acci_read m c t Y hy p _ _ rfl) (s64_read m c t p _)))

end Product

/-! What a point writes back, result by result. -/

set_option maxHeartbeats 2000000 in
theorem after_xn (c : Dev nD) (t : Fin cfg0.N) (p : Fin 32) (d : Fin 2048) : (dats m 0 c).after 11 t (ix2 p d) = unitAt m c t p d := by
  rw [after0_11]
  unfold outsAt0
  frame_out
  unfold unitAt unit
  canon_tiles x h
  case piece0 =>
    idx_vars x
    pointwise [k0_pay6, k0_pay12] at h0 h1 ⊢
    obtain rfl : p = x0 := Fin.ext h0
    rw [show d = ⟨1536 + x1.val, by omega⟩ from Fin.ext h1]
    exact congrArg₂ (fun u v : EReal => u * v) (congrArg₂ (fun u v : EReal => u * v) (x3_read m c t p x1) (scale_read m c t p)) (g_read m c t _)
  case piece1 =>
    idx_vars x
    pointwise [k0_pay5, k0_pay11] at h0 h1 ⊢
    obtain rfl : p = x0 := Fin.ext h0
    rw [show d = ⟨1024 + x1.val, by omega⟩ from Fin.ext h1]
    exact congrArg₂ (fun u v : EReal => u * v) (congrArg₂ (fun u v : EReal => u * v) (x2_read m c t p x1) (scale_read m c t p)) (g_read m c t _)
  case piece2 =>
    idx_vars x
    pointwise [k0_pay4, k0_pay9, k0_pay10] at h0 h1 ⊢
    obtain rfl : p = x0 := Fin.ext h0
    rw [show d = ⟨512 + x1.val, by omega⟩ from Fin.ext h1]
    exact congrArg₂ (fun u v : EReal => u * v) (congrArg₂ (fun u v : EReal => u * v) (x1_read m c t p x1) (scale_read m c t p)) (g_read m c t _)
  case piece3 =>
    idx_vars x
    pointwise [k0_pay3, k0_pay8] at h0 h1 ⊢
    obtain rfl : p = x0 := Fin.ext h0
    rw [show d = ⟨x1.val, by omega⟩ from Fin.ext h1]
    exact congrArg₂ (fun u v : EReal => u * v) (congrArg₂ (fun u v : EReal => u * v) (x0_read m c t p x1) (scale_read m c t p)) (g_read m c t _)
set_option maxHeartbeats 2000000 in
theorem after_k (c : Dev nD) (t : Fin cfg0.N) (p : Fin 32) (n : Fin 2) (l : Fin 128) : (dats m 0 c).after 12 t (ix3 p n l) = key (argX m c) (argG m c) (argW m c) p n l := by
  rw [after0_12]
  unfold outsAt0
  frame_out
  generalize hY : (ms0_11 t).view.readCov (Val := Elt Ideal) _ (Rect.unit (s := S32x2048) ![0, 0] ![32, 2048] inb_S32x2048_S32x2048_0_0).toLoadRect = Y
  have hy : ∀ p d, Y (ix2 p d) = unitAt m c t p d := by
    intro p d
    rw [← hY, View.readCov_eq_canon']
    refine Eq.trans ?_ (after_xn m c t p d)
    rw [after0_11]
    unfold outsAt0
    frame_out
    pointwise
  clear hY
  canon_tiles x h
  case piece0 =>
    idx_vars x
    pointwise [k0_pay24] at h0 h1 h2 ⊢
    obtain rfl : p = x0 := Fin.ext h0
    obtain rfl : n = 1 := Fin.ext (by omega)
    obtain rfl : l = x2 := Fin.ext h2
    exact key1_read m c t Y hy p l
  case piece1 =>
    idx_vars x
    pointwise [k0_pay20] at h0 h1 h2 ⊢
    obtain rfl : p = x0 := Fin.ext h0
    obtain rfl : n = 0 := Fin.ext (by omega)
    obtain rfl : l = x2 := Fin.ext h2
    exact key0_read m c t Y hy p l
set_option maxHeartbeats 2000000 in
theorem after_v (c : Dev nD) (t : Fin cfg0.N) (p : Fin 32) (n : Fin 2) (l : Fin 128) : (dats m 0 c).after 13 t (ix3 p n l) = colAt m c t p ⟨4352 + (n * 128 + l), by omega⟩ := by
  rw [after0_13]
  unfold outsAt0
  frame_out
  generalize hY : (ms0_11 t).view.readCov (Val := Elt Ideal) _ (Rect.unit (s := S32x2048) ![0, 0] ![32, 2048] inb_S32x2048_S32x2048_0_0).toLoadRect = Y
  have hy : ∀ p d, Y (ix2 p d) = unitAt m c t p d := by
    intro p d
    rw [← hY, View.readCov_eq_canon']
    refine Eq.trans ?_ (after_xn m c t p d)
    rw [after0_11]
    unfold outsAt0
    frame_out
    pointwise
  clear hY
  canon_tiles x h
  case piece0 =>
    idx_vars x
    pointwise [k0_pay26] at h0 h1 h2 ⊢
    obtain rfl : p = x0 := Fin.ext h0
    obtain rfl : n = 1 := Fin.ext (by omega)
    obtain rfl : l = x2 := Fin.ext h2
    exact acc_read m c t Y hy p _ _ (by dsimp <;> omega)
  case piece1 =>
    idx_vars x
    pointwise [k0_pay22] at h0 h1 h2 ⊢
    obtain rfl : p = x0 := Fin.ext h0
    obtain rfl : n = 0 := Fin.ext (by omega)
    obtain rfl : l = x2 := Fin.ext h2
    exact acc_read m c t Y hy p _ _ (by dsimp <;> omega)
set_option maxHeartbeats 2000000 in
theorem after_ki (c : Dev nD) (t : Fin cfg0.N) (p : Fin 32) (l : Fin 64) : (dats m 0 c).after 14 t (ix2 p l) = ikey (argX m c) (argG m c) (argW m c) p l := by
  rw [after0_14]
  unfold outsAt0
  frame_out
  generalize hY : (ms0_11 t).view.readCov (Val := Elt Ideal) _ (Rect.unit (s := S32x2048) ![0, 0] ![32, 2048] inb_S32x2048_S32x2048_0_0).toLoadRect = Y
  have hy : ∀ p d, Y (ix2 p d) = unitAt m c t p d := by
    intro p d
    rw [← hY, View.readCov_eq_canon']
    refine Eq.trans ?_ (after_xn m c t p d)
    rw [after0_11]
    unfold outsAt0
    frame_out
    pointwise
  clear hY
  pointwise [k0_pay30]
  exact ikey_read m c t Y hy p l
set_option maxHeartbeats 2000000 in
theorem after_kb (c : Dev nD) (t : Fin cfg0.N) (p : Fin 32) (q : Fin 256) : (dats m 0 c).after 15 t (ix2 p q) = key (argX m c) (argG m c) (argW m c) p ⟨q / 128, by omega⟩ ⟨q % 128, by omega⟩ := by
  rw [after0_15]
  unfold outsAt0
  frame_out
  generalize hY : (ms0_11 t).view.readCov (Val := Elt Ideal) _ (Rect.unit (s := S32x2048) ![0, 0] ![32, 2048] inb_S32x2048_S32x2048_0_0).toLoadRect = Y
  have hy : ∀ p d, Y (ix2 p d) = unitAt m c t p d := by
    intro p d
    rw [← hY, View.readCov_eq_canon']
    refine Eq.trans ?_ (after_xn m c t p d)
    rw [after0_11]
    unfold outsAt0
    frame_out
    pointwise
  clear hY
  canon_tiles x h
  case piece0 =>
    idx_vars x
    pointwise [k0_pay25] at h0 h1 ⊢
    obtain rfl : p = x0 := Fin.ext h0
    exact (key1_read m c t Y hy p x1).trans (congrArg₂ (key (argX m c) (argG m c) (argW m c) p) (Fin.ext (by dsimp <;> omega)) (Fin.ext (by dsimp <;> omega)))
  case piece1 =>
    idx_vars x
    pointwise [k0_pay21] at h0 h1 ⊢
    obtain rfl : p = x0 := Fin.ext h0
    exact (key0_read m c t Y hy p x1).trans (congrArg₂ (key (argX m c) (argG m c) (argW m c) p) (Fin.ext (by dsimp <;> omega)) (Fin.ext (by dsimp <;> omega)))
set_option maxHeartbeats 2000000 in
theorem after_ke (c : Dev nD) (t : Fin cfg0.N) (p : Fin 32) (q : Fin 128) : (dats m 0 c).after 16 t (ix2 p q) = (if h : (q : ℕ) < 64 then ikey (argX m c) (argG m c) (argW m c) p ⟨q, h⟩ else 0 : EReal) := by
  rw [after0_16]
  unfold outsAt0
  frame_out
  generalize hY : (ms0_11 t).view.readCov (Val := Elt Ideal) _ (Rect.unit (s := S32x2048) ![0, 0] ![32, 2048] inb_S32x2048_S32x2048_0_0).toLoadRect = Y
  have hy : ∀ p d, Y (ix2 p d) = unitAt m c t p d := by
    intro p d
    rw [← hY, View.readCov_eq_canon']
    refine Eq.trans ?_ (after_xn m c t p d)
    rw [after0_11]
    unfold outsAt0
    frame_out
    pointwise
  clear hY
  refine (first_apply _ _ _ p q).trans ?_
  split
  · rename_i hq
    exact ikey_read m c t Y hy p ⟨q, hq⟩
  · rfl
set_option maxHeartbeats 2000000 in
theorem after_ko (c : Dev nD) (t : Fin cfg0.N) (p : Fin 32) (q : Fin 128) : (dats m 0 c).after 17 t (ix2 p q) = (if h : (q : ℕ) < 64 then 0 else ikey (argX m c) (argG m c) (argW m c) p ⟨q - 64, by omega⟩ : EReal) := by
  rw [after0_17]
  unfold outsAt0
  frame_out
  generalize hY : (ms0_11 t).view.readCov (Val := Elt Ideal) _ (Rect.unit (s := S32x2048) ![0, 0] ![32, 2048] inb_S32x2048_S32x2048_0_0).toLoadRect = Y
  have hy : ∀ p d, Y (ix2 p d) = unitAt m c t p d := by
    intro p d
    rw [← hY, View.readCov_eq_canon']
    refine Eq.trans ?_ (after_xn m c t p d)
    rw [after0_11]
    unfold outsAt0
    frame_out
    pointwise
  clear hY
  refine (second_apply _ _ _ p q).trans ?_
  split
  · rfl
  · rename_i hq
    exact ikey_read m c t Y hy p ⟨q - 64, by omega⟩
set_option maxHeartbeats 2000000 in
theorem after_vb (c : Dev nD) (t : Fin cfg0.N) (p : Fin 32) (q : Fin 256) : (dats m 0 c).after 18 t (ix2 p q) = colAt m c t p ⟨4352 + q, by omega⟩ := by
  rw [after0_18]
  unfold outsAt0
  frame_out
  generalize hY : (ms0_11 t).view.readCov (Val := Elt Ideal) _ (Rect.unit (s := S32x2048) ![0, 0] ![32, 2048] inb_S32x2048_S32x2048_0_0).toLoadRect = Y
  have hy : ∀ p d, Y (ix2 p d) = unitAt m c t p d := by
    intro p d
    rw [← hY, View.readCov_eq_canon']
    refine Eq.trans ?_ (after_xn m c t p d)
    rw [after0_11]
    unfold outsAt0
    frame_out
    pointwise
  clear hY
  pointwise [k0_pay1]
  exact acc_read m c t Y hy p _ _ (by dsimp <;> omega)
set_option maxHeartbeats 2000000 in
theorem after_ws (c : Dev nD) (t : Fin cfg0.N) (p : Fin 32) (n : Fin 16) : (dats m 0 c).after 19 t (ix2 p n) = headw (argX m c) (argG m c) (argW m c) p n := by
  rw [after0_19]
  unfold outsAt0
  frame_out
  generalize hY : (ms0_11 t).view.readCov (Val := Elt Ideal) _ (Rect.unit (s := S32x2048) ![0, 0] ![32, 2048] inb_S32x2048_S32x2048_0_0).toLoadRect = Y
  have hy : ∀ p d, Y (ix2 p d) = unitAt m c t p d := by
    intro p d
    rw [← hY, View.readCov_eq_canon']
    refine Eq.trans ?_ (after_xn m c t p d)
    rw [after0_11]
    unfold outsAt0
    frame_out
    pointwise
  clear hY
  pointwise [k0_pay2]
  exact (congrArg (fun u : EReal => u * Ideal.ofBits FTy.f32 0x3D000000#32) (acci_read m c t Y hy p _ _ (by dsimp <;> omega))).trans (Tail.factors_eq _)

/-! The result arrays. -/

theorem array_xn (c : Dev nD) : (dats m 0 c).arrAt 11 cfg0.N = fun i => rXn (argX m c) (argG m c) (i 0) (i 1) := by
  refine (dats m 0 c).arrAt_eq_of_covers 11 _ (by decide +kernel) fun t hf y => ?_
  have hN := lt_N t
  have hi := (idxO t).1
  blk_simp
  idx_vars y
  have h0 : ((((win0_11.blk t).view.emb (ix2 y0 y1)) 0 : Fin _) : ℕ) = win0_11.index t 0 * 32 + 1 * y0 := rfl
  have h1 : ((((win0_11.blk t).view.emb (ix2 y0 y1)) 1 : Fin _) : ℕ) = win0_11.index t 1 * 2048 + 1 * y1 := rfl
  rw [hi] at h0 h1
  refine (after_xn m c t y0 y1).trans ?_
  refine Eq.trans (b := rXn (argX m c) (argG m c) y0 y1) rfl ?_
  exact congrArg₂ (rXn (argX m c) (argG m c)) (Fin.ext (by refine Eq.trans ?_ h0.symm; dsimp <;> omega)) (Fin.ext (by refine Eq.trans ?_ h1.symm; dsimp <;> omega))
theorem array_k (c : Dev nD) : (dats m 0 c).arrAt 12 cfg0.N = fun i => rK (argX m c) (argG m c) (argW m c) (i 0) (i 1) (i 2) := by
  refine (dats m 0 c).arrAt_eq_of_covers 12 _ (by decide +kernel) fun t hf y => ?_
  have hN := lt_N t
  have hi := (idxO t).2.1
  blk_simp
  idx_vars y
  have h0 : ((((win0_12.blk t).view.emb (ix3 y0 y1 y2)) 0 : Fin _) : ℕ) = win0_12.index t 0 * 32 + 1 * y0 := rfl
  have h1 : ((((win0_12.blk t).view.emb (ix3 y0 y1 y2)) 1 : Fin _) : ℕ) = win0_12.index t 1 * 2 + 1 * y1 := rfl
  have h2 : ((((win0_12.blk t).view.emb (ix3 y0 y1 y2)) 2 : Fin _) : ℕ) = win0_12.index t 2 * 128 + 1 * y2 := rfl
  rw [hi] at h0 h1 h2
  refine (after_k m c t y0 y1 y2).trans ?_
  refine Eq.trans (b := rK (argX m c) (argG m c) (argW m c) y0 y1 y2) rfl ?_
  exact (congrArg₂ (fun p n => rK (argX m c) (argG m c) (argW m c) p n y2) (Fin.ext (by refine Eq.trans ?_ h0.symm; dsimp <;> omega)) (Fin.ext (by refine Eq.trans ?_ h1.symm; dsimp <;> omega))).trans (congrArg (rK (argX m c) (argG m c) (argW m c) _ _) (Fin.ext (by refine Eq.trans ?_ h2.symm; dsimp <;> omega)))
theorem array_v (c : Dev nD) : (dats m 0 c).arrAt 13 cfg0.N = fun i => rV (argX m c) (argG m c) (argW m c) (i 0) (i 1) (i 2) := by
  refine (dats m 0 c).arrAt_eq_of_covers 13 _ (by decide +kernel) fun t hf y => ?_
  have hN := lt_N t
  have hi := (idxO t).2.2.1
  blk_simp
  idx_vars y
  have h0 : ((((win0_13.blk t).view.emb (ix3 y0 y1 y2)) 0 : Fin _) : ℕ) = win0_13.index t 0 * 32 + 1 * y0 := rfl
  have h1 : ((((win0_13.blk t).view.emb (ix3 y0 y1 y2)) 1 : Fin _) : ℕ) = win0_13.index t 1 * 2 + 1 * y1 := rfl
  have h2 : ((((win0_13.blk t).view.emb (ix3 y0 y1 y2)) 2 : Fin _) : ℕ) = win0_13.index t 2 * 128 + 1 * y2 := rfl
  rw [hi] at h0 h1 h2
  refine (after_v m c t y0 y1 y2).trans ?_
  refine Eq.trans (b := rV (argX m c) (argG m c) (argW m c) y0 y1 y2) rfl ?_
  exact (congrArg₂ (fun p n => rV (argX m c) (argG m c) (argW m c) p n y2) (Fin.ext (by refine Eq.trans ?_ h0.symm; dsimp <;> omega)) (Fin.ext (by refine Eq.trans ?_ h1.symm; dsimp <;> omega))).trans (congrArg (rV (argX m c) (argG m c) (argW m c) _ _) (Fin.ext (by refine Eq.trans ?_ h2.symm; dsimp <;> omega)))
theorem array_ki (c : Dev nD) : (dats m 0 c).arrAt 14 cfg0.N = fun i => rI (argX m c) (argG m c) (argW m c) (i 0) (i 1) := by
  refine (dats m 0 c).arrAt_eq_of_covers 14 _ (by decide +kernel) fun t hf y => ?_
  have hN := lt_N t
  have hi := (idxO t).2.2.2.1
  blk_simp
  idx_vars y
  have h0 : ((((win0_14.blk t).view.emb (ix2 y0 y1)) 0 : Fin _) : ℕ) = win0_14.index t 0 * 32 + 1 * y0 := rfl
  have h1 : ((((win0_14.blk t).view.emb (ix2 y0 y1)) 1 : Fin _) : ℕ) = win0_14.index t 1 * 64 + 1 * y1 := rfl
  rw [hi] at h0 h1
  refine (after_ki m c t y0 y1).trans ?_
  refine Eq.trans (b := rI (argX m c) (argG m c) (argW m c) y0 y1) rfl ?_
  exact congrArg₂ (rI (argX m c) (argG m c) (argW m c)) (Fin.ext (by refine Eq.trans ?_ h0.symm; dsimp <;> omega)) (Fin.ext (by refine Eq.trans ?_ h1.symm; dsimp <;> omega))
theorem array_kb (c : Dev nD) : (dats m 0 c).arrAt 15 cfg0.N = fun i => rKb (argX m c) (argG m c) (argW m c) (i 0) (i 1) := by
  refine (dats m 0 c).arrAt_eq_of_covers 15 _ (by decide +kernel) fun t hf y => ?_
  have hN := lt_N t
  have hi := (idxO t).2.2.2.2.1
  blk_simp
  idx_vars y
  have h0 : ((((win0_15.blk t).view.emb (ix2 y0 y1)) 0 : Fin _) : ℕ) = win0_15.index t 0 * 32 + 1 * y0 := rfl
  have h1 : ((((win0_15.blk t).view.emb (ix2 y0 y1)) 1 : Fin _) : ℕ) = win0_15.index t 1 * 256 + 1 * y1 := rfl
  rw [hi] at h0 h1
  refine (after_kb m c t y0 y1).trans ?_
  refine Eq.trans (b := rKb (argX m c) (argG m c) (argW m c) y0 y1) rfl ?_
  exact congrArg₂ (rKb (argX m c) (argG m c) (argW m c)) (Fin.ext (by refine Eq.trans ?_ h0.symm; dsimp <;> omega)) (Fin.ext (by refine Eq.trans ?_ h1.symm; dsimp <;> omega))
theorem array_ke (c : Dev nD) : (dats m 0 c).arrAt 16 cfg0.N = fun i => rIe (argX m c) (argG m c) (argW m c) (i 0) (i 1) := by
  refine (dats m 0 c).arrAt_eq_of_covers 16 _ (by decide +kernel) fun t hf y => ?_
  have hN := lt_N t
  have hi := (idxO t).2.2.2.2.2.1
  blk_simp
  idx_vars y
  have h0 : ((((win0_16.blk t).view.emb (ix2 y0 y1)) 0 : Fin _) : ℕ) = win0_16.index t 0 * 32 + 1 * y0 := rfl
  have h1 : ((((win0_16.blk t).view.emb (ix2 y0 y1)) 1 : Fin _) : ℕ) = win0_16.index t 1 * 128 + 1 * y1 := rfl
  rw [hi] at h0 h1
  refine (after_ke m c t y0 y1).trans ?_
  refine Eq.trans (b := rIe (argX m c) (argG m c) (argW m c) y0 y1) rfl ?_
  exact congrArg₂ (rIe (argX m c) (argG m c) (argW m c)) (Fin.ext (by refine Eq.trans ?_ h0.symm; dsimp <;> omega)) (Fin.ext (by refine Eq.trans ?_ h1.symm; dsimp <;> omega))
theorem array_ko (c : Dev nD) : (dats m 0 c).arrAt 17 cfg0.N = fun i => rIo (argX m c) (argG m c) (argW m c) (i 0) (i 1) := by
  refine (dats m 0 c).arrAt_eq_of_covers 17 _ (by decide +kernel) fun t hf y => ?_
  have hN := lt_N t
  have hi := (idxO t).2.2.2.2.2.2.1
  blk_simp
  idx_vars y
  have h0 : ((((win0_17.blk t).view.emb (ix2 y0 y1)) 0 : Fin _) : ℕ) = win0_17.index t 0 * 32 + 1 * y0 := rfl
  have h1 : ((((win0_17.blk t).view.emb (ix2 y0 y1)) 1 : Fin _) : ℕ) = win0_17.index t 1 * 128 + 1 * y1 := rfl
  rw [hi] at h0 h1
  refine (after_ko m c t y0 y1).trans ?_
  refine Eq.trans (b := rIo (argX m c) (argG m c) (argW m c) y0 y1) rfl ?_
  exact congrArg₂ (rIo (argX m c) (argG m c) (argW m c)) (Fin.ext (by refine Eq.trans ?_ h0.symm; dsimp <;> omega)) (Fin.ext (by refine Eq.trans ?_ h1.symm; dsimp <;> omega))
theorem array_vb (c : Dev nD) : (dats m 0 c).arrAt 18 cfg0.N = fun i => rVb (argX m c) (argG m c) (argW m c) (i 0) (i 1) := by
  refine (dats m 0 c).arrAt_eq_of_covers 18 _ (by decide +kernel) fun t hf y => ?_
  have hN := lt_N t
  have hi := (idxO t).2.2.2.2.2.2.2.1
  blk_simp
  idx_vars y
  have h0 : ((((win0_18.blk t).view.emb (ix2 y0 y1)) 0 : Fin _) : ℕ) = win0_18.index t 0 * 32 + 1 * y0 := rfl
  have h1 : ((((win0_18.blk t).view.emb (ix2 y0 y1)) 1 : Fin _) : ℕ) = win0_18.index t 1 * 256 + 1 * y1 := rfl
  rw [hi] at h0 h1
  refine (after_vb m c t y0 y1).trans ?_
  refine Eq.trans (b := rVb (argX m c) (argG m c) (argW m c) y0 y1) rfl ?_
  exact congrArg₂ (rVb (argX m c) (argG m c) (argW m c)) (Fin.ext (by refine Eq.trans ?_ h0.symm; dsimp <;> omega)) (Fin.ext (by refine Eq.trans ?_ h1.symm; dsimp <;> omega))
theorem array_ws (c : Dev nD) : (dats m 0 c).arrAt 19 cfg0.N = fun i => rWs (argX m c) (argG m c) (argW m c) (i 0) (i 1) := by
  refine (dats m 0 c).arrAt_eq_of_covers 19 _ (by decide +kernel) fun t hf y => ?_
  have hN := lt_N t
  have hi := (idxO t).2.2.2.2.2.2.2.2
  blk_simp
  idx_vars y
  have h0 : ((((win0_19.blk t).view.emb (ix2 y0 y1)) 0 : Fin _) : ℕ) = win0_19.index t 0 * 32 + 1 * y0 := rfl
  have h1 : ((((win0_19.blk t).view.emb (ix2 y0 y1)) 1 : Fin _) : ℕ) = win0_19.index t 1 * 16 + 1 * y1 := rfl
  rw [hi] at h0 h1
  refine (after_ws m c t y0 y1).trans ?_
  refine Eq.trans (b := rWs (argX m c) (argG m c) (argW m c) y0 y1) rfl ?_
  exact congrArg₂ (rWs (argX m c) (argG m c) (argW m c)) (Fin.ext (by refine Eq.trans ?_ h0.symm; dsimp <;> omega)) (Fin.ext (by refine Eq.trans ?_ h1.symm; dsimp <;> omega))

end Cert.Proof.Sample

namespace Cert.Proof

open Idealize.ShloMosaic Idealize.ShloMosaic.TcCoe Idealize.SL.Sem

instance sampleReferenceFacts : Cert.Reference4Ideal.Facts := Cert.Reference4Ideal.Gen.facts

namespace Sample

variable (m' : (ℓ : Loc Cert.Reference4Ideal.nD Cert.Reference4Ideal.τ Cert.Reference4Ideal.sig) → Buf (Elt Ideal) ℓ)

/-- The reference's arguments: the input, the gain and the weights. -/
abbrev refX (c : Dev Cert.Reference4Ideal.nD) : Cert.Reference4Ideal.S32x1x2048.Idx → EReal := m' ((c.tc : Thread Cert.Reference4Ideal.nD Cert.Reference4Ideal.τ).loc Cert.Reference4Ideal.main_arg0)
abbrev refG (c : Dev Cert.Reference4Ideal.nD) : Cert.Reference4Ideal.S1x2048.Idx → EReal := m' ((c.tc : Thread Cert.Reference4Ideal.nD Cert.Reference4Ideal.τ).loc Cert.Reference4Ideal.main_arg1)
abbrev refW (c : Dev Cert.Reference4Ideal.nD) : Cert.Reference4Ideal.S1x2048x10832.Idx → EReal := m' ((c.tc : Thread Cert.Reference4Ideal.nD Cert.Reference4Ideal.τ).loc Cert.Reference4Ideal.main_arg2)

/-! Each result of the reference as one formula of equal arguments. -/

section Equal

variable {X X' : Cert.Reference4Ideal.S32x1x2048.Idx → EReal} {g g' : Cert.Reference4Ideal.S1x2048.Idx → EReal} {Y Y' : Cert.Reference4Ideal.S1x2048x10832.Idx → EReal}

theorem outXn_of (e0 : X = X') (e1 : g = g') : outXn X g = fun i => rXn X' g' (i 0) (i 1) := by
  subst e0 e1
  exact outXn_eq X g
theorem outK_of (e0 : X = X') (e1 : g = g') (e2 : Y = Y') : outK X g Y = fun i => rK X' g' Y' (i 0) (i 1) (i 2) := by
  subst e0 e1 e2
  exact outK_eq X g Y
theorem outV_of (e0 : X = X') (e1 : g = g') (e2 : Y = Y') : outV X g Y = fun i => rV X' g' Y' (i 0) (i 1) (i 2) := by
  subst e0 e1 e2
  exact outV_eq X g Y
theorem outI_of (e0 : X = X') (e1 : g = g') (e2 : Y = Y') : outI X g Y = fun i => rI X' g' Y' (i 0) (i 1) := by
  subst e0 e1 e2
  exact outI_eq X g Y
theorem outKb_of (e0 : X = X') (e1 : g = g') (e2 : Y = Y') : outKb X g Y = fun i => rKb X' g' Y' (i 0) (i 1) := by
  subst e0 e1 e2
  exact outKb_eq X g Y
theorem outIe_of (e0 : X = X') (e1 : g = g') (e2 : Y = Y') : outIe X g Y = fun i => rIe X' g' Y' (i 0) (i 1) := by
  subst e0 e1 e2
  exact outIe_eq X g Y
theorem outIo_of (e0 : X = X') (e1 : g = g') (e2 : Y = Y') : outIo X g Y = fun i => rIo X' g' Y' (i 0) (i 1) := by
  subst e0 e1 e2
  exact outIo_eq X g Y
theorem outVb_of (e0 : X = X') (e1 : g = g') (e2 : Y = Y') : outVb X g Y = fun i => rVb X' g' Y' (i 0) (i 1) := by
  subst e0 e1 e2
  exact outVb_eq X g Y
theorem outW_of (e0 : X = X') (e1 : g = g') (e2 : Y = Y') : outW X g Y = fun i => rWs X' g' Y' (i 0) (i 1) := by
  subst e0 e1 e2
  exact outW_eq X g Y

end Equal

end Sample

set_option maxHeartbeats 2000000 in
/-- The rest of the projection for the sample: the idealised kernel and the reference end with equal results, all nine. -/
theorem equal_results4 : Cert.algebraic_Kernel4Ideal_Reference4Ideal := fun m g m' g' _ hag => by
  refine ⟨fun c => fun i => Sample.rXn (Sample.argX m c) (Sample.argG m c) (i 0) (i 1),
    fun c => fun i => Sample.rK (Sample.argX m c) (Sample.argG m c) (Sample.argW m c) (i 0) (i 1) (i 2),
    fun c => fun i => Sample.rV (Sample.argX m c) (Sample.argG m c) (Sample.argW m c) (i 0) (i 1) (i 2),
    fun c => fun i => Sample.rI (Sample.argX m c) (Sample.argG m c) (Sample.argW m c) (i 0) (i 1),
    fun c => fun i => Sample.rKb (Sample.argX m c) (Sample.argG m c) (Sample.argW m c) (i 0) (i 1),
    fun c => fun i => Sample.rIe (Sample.argX m c) (Sample.argG m c) (Sample.argW m c) (i 0) (i 1),
    fun c => fun i => Sample.rIo (Sample.argX m c) (Sample.argG m c) (Sample.argW m c) (i 0) (i 1),
    fun c => fun i => Sample.rVb (Sample.argX m c) (Sample.argG m c) (Sample.argW m c) (i 0) (i 1),
    fun c => fun i => Sample.rWs (Sample.argX m c) (Sample.argG m c) (Sample.argW m c) (i 0) (i 1), ?_, ?_⟩
  · exact (θ_run Cert.Kernel4Ideal.defs _ _).mono (fun r h c => ⟨(h c).1.trans (Sample.array_xn m c), (h c).2.1.trans (Sample.array_k m c), (h c).2.2.1.trans (Sample.array_v m c), (h c).2.2.2.1.trans (Sample.array_ki m c), (h c).2.2.2.2.1.trans (Sample.array_kb m c), (h c).2.2.2.2.2.1.trans (Sample.array_ke m c), (h c).2.2.2.2.2.2.1.trans (Sample.array_ko m c), (h c).2.2.2.2.2.2.2.1.trans (Sample.array_vb m c), (h c).2.2.2.2.2.2.2.2.1.trans (Sample.array_ws m c), (h c).2.2.2.2.2.2.2.2.2⟩) (Cert.Kernel4Ideal.Value.run_blocks m g)
  · refine (θ_run Cert.Reference4Ideal.defs _ _).mono (fun r h c => ?_) (Cert.Reference4Ideal.Value.run (F := Ideal) m' g')
    have e0 : Sample.refX m' c = Sample.argX m c := (hag c).1
    have e1 : Sample.refG m' c = Sample.argG m c := (hag c).2.1
    have e2 : Sample.refW m' c = Sample.argW m c := (hag c).2.2
    exact ⟨(h c).1.trans (Sample.outXn_of e0 e1),
      (h c).2.1.trans (Sample.outK_of e0 e1 e2),
      (h c).2.2.1.trans (Sample.outV_of e0 e1 e2),
      (h c).2.2.2.1.trans (Sample.outI_of e0 e1 e2),
      (h c).2.2.2.2.1.trans (Sample.outKb_of e0 e1 e2),
      (h c).2.2.2.2.2.1.trans (Sample.outIe_of e0 e1 e2),
      (h c).2.2.2.2.2.2.1.trans (Sample.outIo_of e0 e1 e2),
      (h c).2.2.2.2.2.2.2.1.trans (Sample.outVb_of e0 e1 e2),
      (h c).2.2.2.2.2.2.2.2.1.trans (Sample.outW_of e0 e1 e2),
      (h c).2.2.2.2.2.2.2.2.2⟩

/-- Its frames: the kernel's are the generated one at the two kinds of floats; the reference declares no semaphore. -/
theorem frame_kernel4 : Cert.quiescent_Kernel4 (hKernel4 := Cert.Kernel4.Gen.facts) := fun m ρ _ => Cert.Kernel4.Gen.frame m ρ
theorem frame_kernel4Ideal : Cert.quiescent_Kernel4Ideal := fun m ρ _ => Cert.Kernel4Ideal.Gen.frame m ρ
theorem frame_reference4 : Cert.quiescent_Reference4Ideal := fun m ρ _ =>
  (θ_run Cert.Reference4Ideal.defs _ _).mono (fun r h => ⟨fun c => (h c).2.2.2.2.2.2.2.2.2, sem_eq_zero_of_no_sems (by decide) r.2⟩)
    (Cert.Reference4Ideal.Value.run (F := Ideal) m ρ)

end Cert.Proof

end
-- ==== Proof.lean ====
/- The four calls and the references they are held to: every run of each program ends, keeps its arguments and leaves every
   counter at zero; the idealised calls are the calls' own text; and each ends with its reference's results. -/
module

public import proofs.«01_k».proof.Defs
public import proofs.«01_k».proof.Proof.Frames
public import proofs.«01_k».proof.Proof.Value
public import proofs.«01_k».proof.Proof.Merge
public import proofs.«01_k».proof.Proof.Tail
public import proofs.«01_k».proof.Proof.Sample

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  frame_kernel, frame_kernelIdeal, frame_reference, frame_kernel2, frame_kernel2Ideal, frame_reference2,
  frame_kernel3, frame_kernel3Ideal, frame_reference3, frame_kernel4, frame_kernel4Ideal, frame_reference4,
  trivial, equal_results, trivial, equal_results2, trivial, equal_results3, trivial, equal_results4⟩

end Cert.Proof

end
